-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "nlog2e" .f32 0xBFB8AA3B#32 ((-((Real.log 2)⁻¹) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  IdealRules.named_const.Statement Cert.Kernel3Ideal.κ "nlog2e" .f32 0xBFB8AA3B#32 ((-((Real.log 2)⁻¹) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "nlog2e" .f32 0xBFB8AA3B#32 ((-((Real.log 2)⁻¹) : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)) (v4 : (c : Dev Cert.Kernel4Ideal.nD) → Buf (Elt Ideal) ((c.tc : Thread Cert.Kernel4Ideal.nD Cert.Kernel4Ideal.τ).loc Cert.Kernel4Ideal.main_v4_4)) (v5 : (c : Dev Cert.Kernel4Ideal.nD) → Buf (Elt Ideal) ((c.tc : Thread Cert.Kernel4Ideal.nD Cert.Kernel4Ideal.τ).loc Cert.Kernel4Ideal.main_v4_5)) (v6 : (c : Dev Cert.Kernel4Ideal.nD) → Buf (Elt Ideal) ((c.tc : Thread Cert.Kernel4Ideal.nD Cert.Kernel4Ideal.τ).loc Cert.Kernel4Ideal.main_v4_6)) (v7 : (c : Dev Cert.Kernel4Ideal.nD) → Buf (Elt Ideal) ((c.tc : Thread Cert.Kernel4Ideal.nD Cert.Kernel4Ideal.τ).loc Cert.Kernel4Ideal.main_v4_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_v4_4) = v4 c
          ∧ r.2.mem ((c.tc : Thread Cert.Kernel4Ideal.nD Cert.Kernel4Ideal.τ).loc Cert.Kernel4Ideal.main_v4_5) = v5 c
          ∧ r.2.mem ((c.tc : Thread Cert.Kernel4Ideal.nD Cert.Kernel4Ideal.τ).loc Cert.Kernel4Ideal.main_v4_6) = v6 c
          ∧ r.2.mem ((c.tc : Thread Cert.Kernel4Ideal.nD Cert.Kernel4Ideal.τ).loc Cert.Kernel4Ideal.main_v4_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v141) = v0 c
          ∧ r.2.mem ((c.tc : Thread Cert.Reference4Ideal.nD Cert.Reference4Ideal.τ).loc Cert.Reference4Ideal.main_v143) = v1 c
          ∧ r.2.mem ((c.tc : Thread Cert.Reference4Ideal.nD Cert.Reference4Ideal.τ).loc Cert.Reference4Ideal.main_v144) = v2 c
          ∧ r.2.mem ((c.tc : Thread Cert.Reference4Ideal.nD Cert.Reference4Ideal.τ).loc Cert.Reference4Ideal.main_v146) = v3 c
          ∧ r.2.mem ((c.tc : Thread Cert.Reference4Ideal.nD Cert.Reference4Ideal.τ).loc Cert.Reference4Ideal.main_v167) = v4 c
          ∧ r.2.mem ((c.tc : Thread Cert.Reference4Ideal.nD Cert.Reference4Ideal.τ).loc Cert.Reference4Ideal.main_v188) = v5 c
          ∧ r.2.mem ((c.tc : Thread Cert.Reference4Ideal.nD Cert.Reference4Ideal.τ).loc Cert.Reference4Ideal.main_v190) = v6 c
          ∧ r.2.mem ((c.tc : Thread Cert.Reference4Ideal.nD Cert.Reference4Ideal.τ).loc Cert.Reference4Ideal.main_v22) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2x8192x512 : Shape := ⟨3, ![2, 8192, 512]⟩
abbrev S2x8192x256 : Shape := ⟨3, ![2, 8192, 256]⟩
abbrev S4x2x8192x128 : Shape := ⟨4, ![4, 2, 8192, 128]⟩
abbrev S_ : Shape := ⟨0, ![]⟩

class Facts : Prop where
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  bcast_S_S2x8192x256 : S_.BroadcastsInDim S2x8192x256 (![] : Fin 0 → Fin S2x8192x256.rank)
  reducesTo_S2x8192x256_S_d0_1_2 : S2x8192x256.ReducesTo [0, 1, 2] S_

variable [Facts]

def fn {F : FTy → Type} [FloatOps F] (main_arg0 : FVec F S2x8192x512 .f32) (main_arg1 : FVec F S2x8192x256 .f32) (main_arg2 : FVec F S2x8192x256 .f32) (main_arg3 : FVec F S4x2x8192x128 .f32) (main_arg4 : FVec F S4x2x8192x128 .f32) (main_arg5 : FVec F S4x2x8192x128 .f32) (main_arg6 : FVec F S4x2x8192x128 .f32) : IVec S_ 1 :=
  let main_v0 : FVec F S2x8192x512 .f32 := Host.absf main_arg0
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_c : IVec S_ 1 := constantI S_ 1 1#1
  let main_v3 : IVec S_ 1 := (fun x v => Host.reduce IntOp.andi x v reducesTo_S2x8192x512_S_d0_1_2 h_S_) main_v2 main_c
  let main_v4 : FVec F S2x8192x256 .f32 := Host.absf main_arg1
  let main_cst_0 : FVec F S_ .f32 := constant S_ .f32 0x7F800000#32
  let main_v5 : FVec F S2x8192x256 .f32 := broadcastInDim S2x8192x256 ![] bcast_S_S2x8192x256 main_cst_0
  let main_v6 : IVec S2x8192x256 1 := cmpf .olt main_v4 main_v5
  let main_c_1 : IVec S_ 1 := constantI S_ 1 1#1
  let main_v7 : IVec S_ 1 := (fun x v => Host.reduce IntOp.andi x v reducesTo_S2x8192x256_S_d0_1_2 h_S_) main_v6 main_c_1
  let main_v8 : IVec S_ 1 := andi main_v3 main_v7
  main_v8
-- ==== Kernel.lean ====
abbrev S2x8192x512 : Shape := ⟨3, ![2, 8192, 512]⟩
abbrev S2x8192x256 : Shape := ⟨3, ![2, 8192, 256]⟩
abbrev S4x2x8192x128 : Shape := ⟨4, ![4, 2, 8192, 128]⟩
abbrev S_ : Shape := ⟨0, ![]⟩
abbrev S2x8192x128 : Shape := ⟨3, ![2, 8192, 128]⟩
abbrev S1x512x256 : Shape := ⟨3, ![1, 512, 256]⟩
abbrev S1x8192x128 : Shape := ⟨3, ![1, 8192, 128]⟩
abbrev S1x8192x256 : Shape := ⟨3, ![1, 8192, 256]⟩
abbrev S4x1x256x128 : Shape := ⟨4, ![4, 1, 256, 128]⟩
abbrev S16x1024x512 : Shape := ⟨3, ![16, 1024, 512]⟩
abbrev S1024x128 : Shape := ⟨2, ![1024, 128]⟩
abbrev S8x128x128 : Shape := ⟨3, ![8, 128, 128]⟩
abbrev S1x512x128 : Shape := ⟨3, ![1, 512, 128]⟩
abbrev S512x128 : Shape := ⟨2, ![512, 128]⟩
abbrev S128x128 : Shape := ⟨2, ![128, 128]⟩
abbrev S1x1x16x128 : Shape := ⟨4, ![1, 1, 16, 128]⟩
abbrev S16x128 : Shape := ⟨2, ![16, 128]⟩
abbrev S1x16x128 : Shape := ⟨3, ![1, 16, 128]⟩
abbrev S16 : Shape := ⟨1, ![16]⟩
abbrev S16x1 : Shape := ⟨2, ![16, 1]⟩
abbrev S1024x512 : Shape := ⟨2, ![1024, 512]⟩
abbrev S1x1024x512 : Shape := ⟨3, ![1, 1024, 512]⟩
abbrev S1x1x128x128 : Shape := ⟨4, ![1, 1, 128, 128]⟩
abbrev S8x128 : Shape := ⟨2, ![8, 128]⟩
abbrev S1x128x128 : Shape := ⟨3, ![1, 128, 128]⟩
abbrev S1x128 : Shape := ⟨2, ![1, 128]⟩
abbrev S256x128 : Shape := ⟨2, ![256, 128]⟩
abbrev S256x256 : Shape := ⟨2, ![256, 256]⟩
abbrev S128x256 : Shape := ⟨2, ![128, 256]⟩
abbrev S1024 : Shape := ⟨1, ![1024]⟩
abbrev S1024x1 : Shape := ⟨2, ![1024, 1]⟩
abbrev S1024x256 : Shape := ⟨2, ![1024, 256]⟩
abbrev S512x256 : Shape := ⟨2, ![512, 256]⟩

abbrev nBuf : Space → Nat
  | .hbm => 17
  | .vmem => 27
  | .smem => 0
  | _ => 0

abbrev bufTy : (tb : Table) → Fin (tcTables nBuf tb) → BufTy
  | .hbm, ⟨0, _⟩ => ⟨S2x8192x512, .f32⟩
  | .hbm, ⟨1, _⟩ => ⟨S2x8192x256, .f32⟩
  | .hbm, ⟨2, _⟩ => ⟨S2x8192x256, .f32⟩
  | .hbm, ⟨3, _⟩ => ⟨S4x2x8192x128, .f32⟩
  | .hbm, ⟨4, _⟩ => ⟨S4x2x8192x128, .f32⟩
  | .hbm, ⟨5, _⟩ => ⟨S4x2x8192x128, .f32⟩
  | .hbm, ⟨6, _⟩ => ⟨S4x2x8192x128, .f32⟩
  | .hbm, ⟨7, _⟩ => ⟨S2x8192x256, .bf16⟩
  | .hbm, ⟨8, _⟩ => ⟨S2x8192x256, .bf16⟩
  | .hbm, ⟨9, _⟩ => ⟨S_, .bf16⟩
  | .hbm, ⟨10, _⟩ => ⟨S2x8192x128, .bf16⟩
  | .hbm, ⟨11, _⟩ => ⟨S2x8192x128, .bf16⟩
  | .hbm, ⟨12, _⟩ => ⟨S2x8192x128, .bf16⟩
  | .hbm, ⟨13, _⟩ => ⟨S2x8192x512, .bf16⟩
  | .hbm, ⟨14, _⟩ => ⟨S2x8192x512, .f32⟩
  | .hbm, ⟨15, _⟩ => ⟨S4x2x8192x128, .f32⟩
  | .hbm, ⟨16, _⟩ => ⟨S4x2x8192x128, .f32⟩
  | .local _ .vmem, ⟨0, _⟩ => ⟨S1x512x256, .f32⟩
  | .local _ .vmem, ⟨1, _⟩ => ⟨S1x512x256, .f32⟩
  | .local _ .vmem, ⟨2, _⟩ => ⟨S1x8192x128, .bf16⟩
  | .local _ .vmem, ⟨3, _⟩ => ⟨S1x8192x256, .bf16⟩
  | .local _ .vmem, ⟨4, _⟩ => ⟨S4x1x256x128, .f32⟩
  | .local _ .vmem, ⟨5, _⟩ => ⟨S4x1x256x128, .f32⟩
  | .local _ .vmem, ⟨6, _⟩ => ⟨S4x1x256x128, .f32⟩
  | .local _ .vmem, ⟨7, _⟩ => ⟨S4x1x256x128, .f32⟩
  | .local _ .vmem, ⟨8, _⟩ => ⟨S4x1x256x128, .f32⟩
  | .local _ .vmem, ⟨9, _⟩ => ⟨S4x1x256x128, .f32⟩
  | .local _ .vmem, ⟨10, _⟩ => ⟨S4x1x256x128, .f32⟩
  | .local _ .vmem, ⟨11, _⟩ => ⟨S4x1x256x128, .f32⟩
  | .local _ .vmem, ⟨12, _⟩ => ⟨S4x1x256x128, .f32⟩
  | .local _ .vmem, ⟨13, _⟩ => ⟨S4x1x256x128, .f32⟩
  | .local _ .vmem, ⟨14, _⟩ => ⟨S4x1x256x128, .f32⟩
  | .local _ .vmem, ⟨15, _⟩ => ⟨S4x1x256x128, .f32⟩
  | .local _ .vmem, ⟨16, _⟩ => ⟨S1x512x256, .f32⟩
  | .local _ .vmem, ⟨17, _⟩ => ⟨S1x512x256, .f32⟩
  | .local _ .vmem, ⟨18, _⟩ => ⟨S4x1x256x128, .f32⟩
  | .local _ .vmem, ⟨19, _⟩ => ⟨S4x1x256x128, .f32⟩
  | .local _ .vmem, ⟨20, _⟩ => ⟨S4x1x256x128, .f32⟩
  | .local _ .vmem, ⟨21, _⟩ => ⟨S4x1x256x128, .f32⟩
  | .local _ .vmem, ⟨22, _⟩ => ⟨S16x1024x512, .f32⟩
  | .local _ .vmem, ⟨23, _⟩ => ⟨S1024x128, .f32⟩
  | .local _ .vmem, ⟨24, _⟩ => ⟨S8x128x128, .f32⟩
  | .local _ .vmem, ⟨25, _⟩ => ⟨S8x128x128, .f32⟩
  | .local _ .vmem, ⟨26, _⟩ => ⟨S8x128x128, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_8 : BitVec 32 := 0#32
  let c2_i32 : BitVec 32 := 2#32
  let v15 : BitVec 32 := Scalar.addi c0_i32_8 c2_i32
  let c1_i32 : BitVec 32 := 1#32
  ⟨c0_i32_8, v15, c1_i32⟩
def k0_off1 (k0_t1 : Fin k0_t1_loop.trips) (c0_i32_136 : BitVec 32) (c0_i32_206 : BitVec 32) : Fin 4 → Nat :=
  let c0_i32_8 : BitVec 32 := 0#32
  let c1_i32 : BitVec 32 := 1#32
  let arg19 : BitVec 32 := Scf.iv c0_i32_8 c1_i32 k0_t1
  let c4_i32_135 : BitVec 32 := 4#32
  let v500 : BitVec 32 := Scalar.muli arg19 c4_i32_135
  let v501 : BitVec 32 := Scalar.addi v500 c0_i32_136
  let c4_i32_144 : BitVec 32 := 4#32
  let c0_i32_145 : BitVec 32 := 0#32
  let v519 : BitVec 1 := Scalar.cmpi .eq c4_i32_144 c0_i32_145
  let c1_i32_146 : BitVec 32 := 1#32
  let v520 : BitVec 32 := Scalar.select v519 c1_i32_146 c4_i32_144
  let v521 : BitVec 32 := Scalar.remsi v501 v520
  let c0_i32_148 : BitVec 32 := 0#32
  let v523 : BitVec 1 := Scalar.cmpi .slt v521 c0_i32_148
  let c0_i32_149 : BitVec 32 := 0#32
  let v524 : BitVec 1 := Scalar.cmpi .slt v520 c0_i32_149
  let v525 : BitVec 1 := Scalar.xori v523 v524
  let c0_i32_147 : BitVec 32 := 0#32
  let v522 : BitVec 1 := Scalar.cmpi .ne v521 c0_i32_147
  let v526 : BitVec 1 := Scalar.andi v525 v522
  let v527 : BitVec 32 := Scalar.addi v521 v520
  let v528 : BitVec 32 := Scalar.select v526 v527 v521
  let v629 : Index := Scalar.indexCast v528
  let c0_207 : Index := 0#32
  let c0_i32_138 : BitVec 32 := 0#32
  let v503 : BitVec 1 := Scalar.cmpi .sgt v501 c0_i32_138
  let v504 : BitVec 32 := Scalar.extui v503
  let c0_i32_139 : BitVec 32 := 0#32
  let v505 : BitVec 1 := Scalar.cmpi .slt v501 c0_i32_139
  let v506 : BitVec 32 := Scalar.extui v505
  let v507 : BitVec 32 := Scalar.subi v504 v506
  let c4_i32_137 : BitVec 32 := 4#32
  let c0_i32_140 : BitVec 32 := 0#32
  let v508 : BitVec 1 := Scalar.cmpi .sgt c4_i32_137 c0_i32_140
  let v509 : BitVec 32 := Scalar.extui v508
  let c0_i32_141 : BitVec 32 := 0#32
  let v510 : BitVec 1 := Scalar.cmpi .slt c4_i32_137 c0_i32_141
  let v511 : BitVec 32 := Scalar.extui v510
  let v512 : BitVec 32 := Scalar.subi v509 v511
  let v513 : BitVec 1 := Scalar.cmpi .ne v507 v512
  let v514 : BitVec 32 := Scalar.remsi v501 c4_i32_137
  let c0_i32_142 : BitVec 32 := 0#32
  let v515 : BitVec 1 := Scalar.cmpi .ne v514 c0_i32_142
  let v516 : BitVec 1 := Scalar.andi v513 v515
  let v502 : BitVec 32 := Scalar.divsi v501 c4_i32_137
  let c1_i32_143 : BitVec 32 := 1#32
  let v517 : BitVec 32 := Scalar.subi v502 c1_i32_143
  let v518 : BitVec 32 := Scalar.select v516 v517 v502
  let c128_i32 : BitVec 32 := 128#32
  let v529 : BitVec 32 := Scalar.muli v518 c128_i32
  let v628 : BitVec 32 := Scalar.addi v529 c0_i32_206
  let v630 : Index := Scalar.indexCast v628
  let c0_208 : Index := 0#32
  ![v629.toNat, 0, v630.toNat, 0]
def k0_off2 (k0_t1 : Fin k0_t1_loop.trips) (c0_i32_136 : BitVec 32) (c7_i32_363 : BitVec 32) : Fin 4 → Nat :=
  let c0_i32_8 : BitVec 32 := 0#32
  let c1_i32 : BitVec 32 := 1#32
  let arg19 : BitVec 32 := Scf.iv c0_i32_8 c1_i32 k0_t1
  let c4_i32_135 : BitVec 32 := 4#32
  let v500 : BitVec 32 := Scalar.muli arg19 c4_i32_135
  let v501 : BitVec 32 := Scalar.addi v500 c0_i32_136
  let c4_i32_144 : BitVec 32 := 4#32
  let c0_i32_145 : BitVec 32 := 0#32
  let v519 : BitVec 1 := Scalar.cmpi .eq c4_i32_144 c0_i32_145
  let c1_i32_146 : BitVec 32 := 1#32
  let v520 : BitVec 32 := Scalar.select v519 c1_i32_146 c4_i32_144
  let v521 : BitVec 32 := Scalar.remsi v501 v520
  let c0_i32_148 : BitVec 32 := 0#32
  let v523 : BitVec 1 := Scalar.cmpi .slt v521 c0_i32_148
  let c0_i32_149 : BitVec 32 := 0#32
  let v524 : BitVec 1 := Scalar.cmpi .slt v520 c0_i32_149
  let v525 : BitVec 1 := Scalar.xori v523 v524
  let c0_i32_147 : BitVec 32 := 0#32
  let v522 : BitVec 1 := Scalar.cmpi .ne v521 c0_i32_147
  let v526 : BitVec 1 := Scalar.andi v525 v522
  let v527 : BitVec 32 := Scalar.addi v521 v520
  let v528 : BitVec 32 := Scalar.select v526 v527 v521
  let v1120 : Index := Scalar.indexCast v528
  let c0_364 : Index := 0#32
  let c1_i32_150 : BitVec 32 := 1#32
  let c0_i32_138 : BitVec 32 := 0#32
  let v503 : BitVec 1 := Scalar.cmpi .sgt v501 c0_i32_138
  let v504 : BitVec 32 := Scalar.extui v503
  let c0_i32_139 : BitVec 32 := 0#32
  let v505 : BitVec 1 := Scalar.cmpi .slt v501 c0_i32_139
  let v506 : BitVec 32 := Scalar.extui v505
  let v507 : BitVec 32 := Scalar.subi v504 v506
  let c4_i32_137 : BitVec 32 := 4#32
  let c0_i32_140 : BitVec 32 := 0#32
  let v508 : BitVec 1 := Scalar.cmpi .sgt c4_i32_137 c0_i32_140
  let v509 : BitVec 32 := Scalar.extui v508
  let c0_i32_141 : BitVec 32 := 0#32
  let v510 : BitVec 1 := Scalar.cmpi .slt c4_i32_137 c0_i32_141
  let v511 : BitVec 32 := Scalar.extui v510
  let v512 : BitVec 32 := Scalar.subi v509 v511
  let v513 : BitVec 1 := Scalar.cmpi .ne v507 v512
  let v514 : BitVec 32 := Scalar.remsi v501 c4_i32_137
  let c0_i32_142 : BitVec 32 := 0#32
  let v515 : BitVec 1 := Scalar.cmpi .ne v514 c0_i32_142
  let v516 : BitVec 1 := Scalar.andi v513 v515
  let v502 : BitVec 32 := Scalar.divsi v501 c4_i32_137
  let c1_i32_143 : BitVec 32 := 1#32
  let v517 : BitVec 32 := Scalar.subi v502 c1_i32_143
  let v518 : BitVec 32 := Scalar.select v516 v517 v502
  let v530 : BitVec 32 := Scalar.subi c1_i32_150 v518
  let c128_i32_151 : BitVec 32 := 128#32
  let v531 : BitVec 32 := Scalar.muli v530 c128_i32_151
  let v1119 : BitVec 32 := Scalar.addi v531 c7_i32_363
  let v1121 : Index := Scalar.indexCast v1119
  let c0_365 : Index := 0#32
  ![v1120.toNat, 0, v1121.toNat, 0]
def k0_mult1 (k0_t1 : Fin k0_t1_loop.trips) : BitVec 32 :=
  let c0_i32_8 : BitVec 32 := 0#32
  let c1_i32 : BitVec 32 := 1#32
  let arg19 : BitVec 32 := Scf.iv c0_i32_8 c1_i32 k0_t1
  let c8_i32_1511 : BitVec 32 := 8#32
  let v4556 : BitVec 32 := Scalar.muli arg19 c8_i32_1511
  let c0_i32_1512 : BitVec 32 := 0#32
  let v4557 : BitVec 32 := Scalar.addi v4556 c0_i32_1512
  let c512_i32_1513 : BitVec 32 := 512#32
  let v4558 : BitVec 32 := Scalar.muli v4557 c512_i32_1513
  v4558
def k0_off3 (k0_t1 : Fin k0_t1_loop.trips) (c0_i32_1512 : BitVec 32) : Fin 3 → Nat :=
  let c0_1514 : Index := 0#32
  let c0_i32_8 : BitVec 32 := 0#32
  let c1_i32 : BitVec 32 := 1#32
  let arg19 : BitVec 32 := Scf.iv c0_i32_8 c1_i32 k0_t1
  let c8_i32_1511 : BitVec 32 := 8#32
  let v4556 : BitVec 32 := Scalar.muli arg19 c8_i32_1511
  let v4557 : BitVec 32 := Scalar.addi v4556 c0_i32_1512
  let c512_i32_1513 : BitVec 32 := 512#32
  let v4558 : BitVec 32 := Scalar.muli v4557 c512_i32_1513
  let v4559 : BitVec 32 := v4558
  let v4560 : Index := Scalar.indexCast v4559
  let c0_1515 : Index := 0#32
  ![0, v4560.toNat, 0]
def k0_off4 (k0_t1 : Fin k0_t1_loop.trips) (c0_i32_1512 : BitVec 32) : Fin 3 → Nat :=
  let c0_i32_8 : BitVec 32 := 0#32
  let c1_i32 : BitVec 32 := 1#32
  let arg19 : BitVec 32 := Scf.iv c0_i32_8 c1_i32 k0_t1
  let c8_i32_1511 : BitVec 32 := 8#32
  let v4556 : BitVec 32 := Scalar.muli arg19 c8_i32_1511
  let v4557 : BitVec 32 := Scalar.addi v4556 c0_i32_1512
  let v4564 : Index := Scalar.indexCast v4557
  let c0_1517 : Index := 0#32
  let c0_1518 : Index := 0#32
  ![v4564.toNat, 0, 0]
def k0_mult2 (k0_t1 : Fin k0_t1_loop.trips) : BitVec 32 :=
  let c0_i32_8 : BitVec 32 := 0#32
  let c1_i32 : BitVec 32 := 1#32
  let arg19 : BitVec 32 := Scf.iv c0_i32_8 c1_i32 k0_t1
  let c4_i32_135 : BitVec 32 := 4#32
  let v500 : BitVec 32 := Scalar.muli arg19 c4_i32_135
  let c0_i32_136 : BitVec 32 := 0#32
  let v501 : BitVec 32 := Scalar.addi v500 c0_i32_136
  let c0_i32_138 : BitVec 32 := 0#32
  let v503 : BitVec 1 := Scalar.cmpi .sgt v501 c0_i32_138
  let v504 : BitVec 32 := Scalar.extui v503
  let c0_i32_139 : BitVec 32 := 0#32
  let v505 : BitVec 1 := Scalar.cmpi .slt v501 c0_i32_139
  let v506 : BitVec 32 := Scalar.extui v505
  let v507 : BitVec 32 := Scalar.subi v504 v506
  let c4_i32_137 : BitVec 32 := 4#32
  let c0_i32_140 : BitVec 32 := 0#32
  let v508 : BitVec 1 := Scalar.cmpi .sgt c4_i32_137 c0_i32_140
  let v509 : BitVec 32 := Scalar.extui v508
  let c0_i32_141 : BitVec 32 := 0#32
  let v510 : BitVec 1 := Scalar.cmpi .slt c4_i32_137 c0_i32_141
  let v511 : BitVec 32 := Scalar.extui v510
  let v512 : BitVec 32 := Scalar.subi v509 v511
  let v513 : BitVec 1 := Scalar.cmpi .ne v507 v512
  let v514 : BitVec 32 := Scalar.remsi v501 c4_i32_137
  let c0_i32_142 : BitVec 32 := 0#32
  let v515 : BitVec 1 := Scalar.cmpi .ne v514 c0_i32_142
  let v516 : BitVec 1 := Scalar.andi v513 v515
  let v502 : BitVec 32 := Scalar.divsi v501 c4_i32_137
  let c1_i32_143 : BitVec 32 := 1#32
  let v517 : BitVec 32 := Scalar.subi v502 c1_i32_143
  let v518 : BitVec 32 := Scalar.select v516 v517 v502
  let c128_i32 : BitVec 32 := 128#32
  let v529 : BitVec 32 := Scalar.muli v518 c128_i32
  v529
def k0_off5 (k0_t1 : Fin k0_t1_loop.trips) (c0_i32_136 : BitVec 32) : Fin 4 → Nat :=
  let c0_i32_8 : BitVec 32 := 0#32
  let c1_i32 : BitVec 32 := 1#32
  let arg19 : BitVec 32 := Scf.iv c0_i32_8 c1_i32 k0_t1
  let c4_i32_135 : BitVec 32 := 4#32
  let v500 : BitVec 32 := Scalar.muli arg19 c4_i32_135
  let v501 : BitVec 32 := Scalar.addi v500 c0_i32_136
  let c4_i32_144 : BitVec 32 := 4#32
  let c0_i32_145 : BitVec 32 := 0#32
  let v519 : BitVec 1 := Scalar.cmpi .eq c4_i32_144 c0_i32_145
  let c1_i32_146 : BitVec 32 := 1#32
  let v520 : BitVec 32 := Scalar.select v519 c1_i32_146 c4_i32_144
  let v521 : BitVec 32 := Scalar.remsi v501 v520
  let c0_i32_148 : BitVec 32 := 0#32
  let v523 : BitVec 1 := Scalar.cmpi .slt v521 c0_i32_148
  let c0_i32_149 : BitVec 32 := 0#32
  let v524 : BitVec 1 := Scalar.cmpi .slt v520 c0_i32_149
  let v525 : BitVec 1 := Scalar.xori v523 v524
  let c0_i32_147 : BitVec 32 := 0#32
  let v522 : BitVec 1 := Scalar.cmpi .ne v521 c0_i32_147
  let v526 : BitVec 1 := Scalar.andi v525 v522
  let v527 : BitVec 32 := Scalar.addi v521 v520
  let v528 : BitVec 32 := Scalar.select v526 v527 v521
  let v4581 : Index := Scalar.indexCast v528
  let c0_1523 : Index := 0#32
  let c0_i32_138 : BitVec 32 := 0#32
  let v503 : BitVec 1 := Scalar.cmpi .sgt v501 c0_i32_138
  let v504 : BitVec 32 := Scalar.extui v503
  let c0_i32_139 : BitVec 32 := 0#32
  let v505 : BitVec 1 := Scalar.cmpi .slt v501 c0_i32_139
  let v506 : BitVec 32 := Scalar.extui v505
  let v507 : BitVec 32 := Scalar.subi v504 v506
  let c4_i32_137 : BitVec 32 := 4#32
  let c0_i32_140 : BitVec 32 := 0#32
  let v508 : BitVec 1 := Scalar.cmpi .sgt c4_i32_137 c0_i32_140
  let v509 : BitVec 32 := Scalar.extui v508
  let c0_i32_141 : BitVec 32 := 0#32
  let v510 : BitVec 1 := Scalar.cmpi .slt c4_i32_137 c0_i32_141
  let v511 : BitVec 32 := Scalar.extui v510
  let v512 : BitVec 32 := Scalar.subi v509 v511
  let v513 : BitVec 1 := Scalar.cmpi .ne v507 v512
  let v514 : BitVec 32 := Scalar.remsi v501 c4_i32_137
  let c0_i32_142 : BitVec 32 := 0#32
  let v515 : BitVec 1 := Scalar.cmpi .ne v514 c0_i32_142
  let v516 : BitVec 1 := Scalar.andi v513 v515
  let v502 : BitVec 32 := Scalar.divsi v501 c4_i32_137
  let c1_i32_143 : BitVec 32 := 1#32
  let v517 : BitVec 32 := Scalar.subi v502 c1_i32_143
  let v518 : BitVec 32 := Scalar.select v516 v517 v502
  let c128_i32 : BitVec 32 := 128#32
  let v529 : BitVec 32 := Scalar.muli v518 c128_i32
  let v4580 : BitVec 32 := v529
  let v4582 : Index := Scalar.indexCast v4580
  let c0_1524 : Index := 0#32
  ![v4581.toNat, 0, v4582.toNat, 0]
def k0_mult3 (k0_t1 : Fin k0_t1_loop.trips) : BitVec 32 :=
  let c1_i32_150 : BitVec 32 := 1#32
  let c0_i32_8 : BitVec 32 := 0#32
  let c1_i32 : BitVec 32 := 1#32
  let arg19 : BitVec 32 := Scf.iv c0_i32_8 c1_i32 k0_t1
  let c4_i32_135 : BitVec 32 := 4#32
  let v500 : BitVec 32 := Scalar.muli arg19 c4_i32_135
  let c0_i32_136 : BitVec 32 := 0#32
  let v501 : BitVec 32 := Scalar.addi v500 c0_i32_136
  let c0_i32_138 : BitVec 32 := 0#32
  let v503 : BitVec 1 := Scalar.cmpi .sgt v501 c0_i32_138
  let v504 : BitVec 32 := Scalar.extui v503
  let c0_i32_139 : BitVec 32 := 0#32
  let v505 : BitVec 1 := Scalar.cmpi .slt v501 c0_i32_139
  let v506 : BitVec 32 := Scalar.extui v505
  let v507 : BitVec 32 := Scalar.subi v504 v506
  let c4_i32_137 : BitVec 32 := 4#32
  let c0_i32_140 : BitVec 32 := 0#32
  let v508 : BitVec 1 := Scalar.cmpi .sgt c4_i32_137 c0_i32_140
  let v509 : BitVec 32 := Scalar.extui v508
  let c0_i32_141 : BitVec 32 := 0#32
  let v510 : BitVec 1 := Scalar.cmpi .slt c4_i32_137 c0_i32_141
  let v511 : BitVec 32 := Scalar.extui v510
  let v512 : BitVec 32 := Scalar.subi v509 v511
  let v513 : BitVec 1 := Scalar.cmpi .ne v507 v512
  let v514 : BitVec 32 := Scalar.remsi v501 c4_i32_137
  let c0_i32_142 : BitVec 32 := 0#32
  let v515 : BitVec 1 := Scalar.cmpi .ne v514 c0_i32_142
  let v516 : BitVec 1 := Scalar.andi v513 v515
  let v502 : BitVec 32 := Scalar.divsi v501 c4_i32_137
  let c1_i32_143 : BitVec 32 := 1#32
  let v517 : BitVec 32 := Scalar.subi v502 c1_i32_143
  let v518 : BitVec 32 := Scalar.select v516 v517 v502
  let v530 : BitVec 32 := Scalar.subi c1_i32_150 v518
  let c128_i32_151 : BitVec 32 := 128#32
  let v531 : BitVec 32 := Scalar.muli v530 c128_i32_151
  v531
def k0_off6 (k0_t1 : Fin k0_t1_loop.trips) (c0_i32_136 : BitVec 32) : Fin 4 → Nat :=
  let c0_i32_8 : BitVec 32 := 0#32
  let c1_i32 : BitVec 32 := 1#32
  let arg19 : BitVec 32 := Scf.iv c0_i32_8 c1_i32 k0_t1
  let c4_i32_135 : BitVec 32 := 4#32
  let v500 : BitVec 32 := Scalar.muli arg19 c4_i32_135
  let v501 : BitVec 32 := Scalar.addi v500 c0_i32_136
  let c4_i32_144 : BitVec 32 := 4#32
  let c0_i32_145 : BitVec 32 := 0#32
  let v519 : BitVec 1 := Scalar.cmpi .eq c4_i32_144 c0_i32_145
  let c1_i32_146 : BitVec 32 := 1#32
  let v520 : BitVec 32 := Scalar.select v519 c1_i32_146 c4_i32_144
  let v521 : BitVec 32 := Scalar.remsi v501 v520
  let c0_i32_148 : BitVec 32 := 0#32
  let v523 : BitVec 1 := Scalar.cmpi .slt v521 c0_i32_148
  let c0_i32_149 : BitVec 32 := 0#32
  let v524 : BitVec 1 := Scalar.cmpi .slt v520 c0_i32_149
  let v525 : BitVec 1 := Scalar.xori v523 v524
  let c0_i32_147 : BitVec 32 := 0#32
  let v522 : BitVec 1 := Scalar.cmpi .ne v521 c0_i32_147
  let v526 : BitVec 1 := Scalar.andi v525 v522
  let v527 : BitVec 32 := Scalar.addi v521 v520
  let v528 : BitVec 32 := Scalar.select v526 v527 v521
  let v4641 : Index := Scalar.indexCast v528
  let c0_1531 : Index := 0#32
  let c1_i32_150 : BitVec 32 := 1#32
  let c0_i32_138 : BitVec 32 := 0#32
  let v503 : BitVec 1 := Scalar.cmpi .sgt v501 c0_i32_138
  let v504 : BitVec 32 := Scalar.extui v503
  let c0_i32_139 : BitVec 32 := 0#32
  let v505 : BitVec 1 := Scalar.cmpi .slt v501 c0_i32_139
  let v506 : BitVec 32 := Scalar.extui v505
  let v507 : BitVec 32 := Scalar.subi v504 v506
  let c4_i32_137 : BitVec 32 := 4#32
  let c0_i32_140 : BitVec 32 := 0#32
  let v508 : BitVec 1 := Scalar.cmpi .sgt c4_i32_137 c0_i32_140
  let v509 : BitVec 32 := Scalar.extui v508
  let c0_i32_141 : BitVec 32 := 0#32
  let v510 : BitVec 1 := Scalar.cmpi .slt c4_i32_137 c0_i32_141
  let v511 : BitVec 32 := Scalar.extui v510
  let v512 : BitVec 32 := Scalar.subi v509 v511
  let v513 : BitVec 1 := Scalar.cmpi .ne v507 v512
  let v514 : BitVec 32 := Scalar.remsi v501 c4_i32_137
  let c0_i32_142 : BitVec 32 := 0#32
  let v515 : BitVec 1 := Scalar.cmpi .ne v514 c0_i32_142
  let v516 : BitVec 1 := Scalar.andi v513 v515
  let v502 : BitVec 32 := Scalar.divsi v501 c4_i32_137
  let c1_i32_143 : BitVec 32 := 1#32
  let v517 : BitVec 32 := Scalar.subi v502 c1_i32_143
  let v518 : BitVec 32 := Scalar.select v516 v517 v502
  let v530 : BitVec 32 := Scalar.subi c1_i32_150 v518
  let c128_i32_151 : BitVec 32 := 128#32
  let v531 : BitVec 32 := Scalar.muli v530 c128_i32_151
  let v4640 : BitVec 32 := v531
  let v4642 : Index := Scalar.indexCast v4640
  let c0_1532 : Index := 0#32
  ![v4641.toNat, 0, v4642.toNat, 0]
def k0_mult4 (k0_t1 : Fin k0_t1_loop.trips) : BitVec 32 :=
  let c0_i32_8 : BitVec 32 := 0#32
  let c1_i32 : BitVec 32 := 1#32
  let arg19 : BitVec 32 := Scf.iv c0_i32_8 c1_i32 k0_t1
  let c8_i32_1548 : BitVec 32 := 8#32
  let v5221 : BitVec 32 := Scalar.muli arg19 c8_i32_1548
  let c1_i32_1549 : BitVec 32 := 1#32
  let v5222 : BitVec 32 := Scalar.addi v5221 c1_i32_1549
  let c512_i32_1550 : BitVec 32 := 512#32
  let v5223 : BitVec 32 := Scalar.muli v5222 c512_i32_1550
  v5223
def k0_mult5 (k0_t1 : Fin k0_t1_loop.trips) : BitVec 32 :=
  let c0_i32_8 : BitVec 32 := 0#32
  let c1_i32 : BitVec 32 := 1#32
  let arg19 : BitVec 32 := Scf.iv c0_i32_8 c1_i32 k0_t1
  let c4_i32_135 : BitVec 32 := 4#32
  let v500 : BitVec 32 := Scalar.muli arg19 c4_i32_135
  let c0_i32_136 : BitVec 32 := 0#32
  let v501 : BitVec 32 := Scalar.addi v500 c0_i32_136
  let c0_i32_138 : BitVec 32 := 0#32
  let v503 : BitVec 1 := Scalar.cmpi .sgt v501 c0_i32_138
  let v504 : BitVec 32 := Scalar.extui v503
  let c0_i32_139 : BitVec 32 := 0#32
  let v505 : BitVec 1 := Scalar.cmpi .slt v501 c0_i32_139
  let v506 : BitVec 32 := Scalar.extui v505
  let v507 : BitVec 32 := Scalar.subi v504 v506
  let c4_i32_137 : BitVec 32 := 4#32
  let c0_i32_140 : BitVec 32 := 0#32
  let v508 : BitVec 1 := Scalar.cmpi .sgt c4_i32_137 c0_i32_140
  let v509 : BitVec 32 := Scalar.extui v508
  let c0_i32_141 : BitVec 32 := 0#32
  let v510 : BitVec 1 := Scalar.cmpi .slt c4_i32_137 c0_i32_141
  let v511 : BitVec 32 := Scalar.extui v510
  let v512 : BitVec 32 := Scalar.subi v509 v511
  let v513 : BitVec 1 := Scalar.cmpi .ne v507 v512
  let v514 : BitVec 32 := Scalar.remsi v501 c4_i32_137
  let c0_i32_142 : BitVec 32 := 0#32
  let v515 : BitVec 1 := Scalar.cmpi .ne v514 c0_i32_142
  let v516 : BitVec 1 := Scalar.andi v513 v515
  let v502 : BitVec 32 := Scalar.divsi v501 c4_i32_137
  let c1_i32_143 : BitVec 32 := 1#32
  let v517 : BitVec 32 := Scalar.subi v502 c1_i32_143
  let v518 : BitVec 32 := Scalar.select v516 v517 v502
  let c128_i32 : BitVec 32 := 128#32
  let v529 : BitVec 32 := Scalar.muli v518 c128_i32
  v529
def k0_off7 (k0_t1 : Fin k0_t1_loop.trips) (c0_i32_1562 : BitVec 32) (c0_i32_136 : BitVec 32) : Fin 3 → Nat :=
  let c0_i32_8 : BitVec 32 := 0#32
  let c1_i32 : BitVec 32 := 1#32
  let arg19 : BitVec 32 := Scf.iv c0_i32_8 c1_i32 k0_t1
  let c4_i32_135 : BitVec 32 := 4#32
  let v500 : BitVec 32 := Scalar.muli arg19 c4_i32_135
  let v501 : BitVec 32 := Scalar.addi v500 c0_i32_136
  let c4_i32_144 : BitVec 32 := 4#32
  let c0_i32_145 : BitVec 32 := 0#32
  let v519 : BitVec 1 := Scalar.cmpi .eq c4_i32_144 c0_i32_145
  let c1_i32_146 : BitVec 32 := 1#32
  let v520 : BitVec 32 := Scalar.select v519 c1_i32_146 c4_i32_144
  let v521 : BitVec 32 := Scalar.remsi v501 v520
  let c0_i32_148 : BitVec 32 := 0#32
  let v523 : BitVec 1 := Scalar.cmpi .slt v521 c0_i32_148
  let c0_i32_149 : BitVec 32 := 0#32
  let v524 : BitVec 1 := Scalar.cmpi .slt v520 c0_i32_149
  let v525 : BitVec 1 := Scalar.xori v523 v524
  let c0_i32_147 : BitVec 32 := 0#32
  let v522 : BitVec 1 := Scalar.cmpi .ne v521 c0_i32_147
  let v526 : BitVec 1 := Scalar.andi v525 v522
  let v527 : BitVec 32 := Scalar.addi v521 v520
  let v528 : BitVec 32 := Scalar.select v526 v527 v521
  let v5253 : BitVec 32 := Scalar.addi c0_i32_1562 v528
  let v5254 : Index := Scalar.indexCast v5253
  let c0_1563 : Index := 0#32
  let c0_1564 : Index := 0#32
  ![v5254.toNat, 0, 0]
def k0_mult6 (k0_t1 : Fin k0_t1_loop.trips) : BitVec 32 :=
  let c1_i32_150 : BitVec 32 := 1#32
  let c0_i32_8 : BitVec 32 := 0#32
  let c1_i32 : BitVec 32 := 1#32
  let arg19 : BitVec 32 := Scf.iv c0_i32_8 c1_i32 k0_t1
  let c4_i32_135 : BitVec 32 := 4#32
  let v500 : BitVec 32 := Scalar.muli arg19 c4_i32_135
  let c0_i32_136 : BitVec 32 := 0#32
  let v501 : BitVec 32 := Scalar.addi v500 c0_i32_136
  let c0_i32_138 : BitVec 32 := 0#32
  let v503 : BitVec 1 := Scalar.cmpi .sgt v501 c0_i32_138
  let v504 : BitVec 32 := Scalar.extui v503
  let c0_i32_139 : BitVec 32 := 0#32
  let v505 : BitVec 1 := Scalar.cmpi .slt v501 c0_i32_139
  let v506 : BitVec 32 := Scalar.extui v505
  let v507 : BitVec 32 := Scalar.subi v504 v506
  let c4_i32_137 : BitVec 32 := 4#32
  let c0_i32_140 : BitVec 32 := 0#32
  let v508 : BitVec 1 := Scalar.cmpi .sgt c4_i32_137 c0_i32_140
  let v509 : BitVec 32 := Scalar.extui v508
  let c0_i32_141 : BitVec 32 := 0#32
  let v510 : BitVec 1 := Scalar.cmpi .slt c4_i32_137 c0_i32_141
  let v511 : BitVec 32 := Scalar.extui v510
  let v512 : BitVec 32 := Scalar.subi v509 v511
  let v513 : BitVec 1 := Scalar.cmpi .ne v507 v512
  let v514 : BitVec 32 := Scalar.remsi v501 c4_i32_137
  let c0_i32_142 : BitVec 32 := 0#32
  let v515 : BitVec 1 := Scalar.cmpi .ne v514 c0_i32_142
  let v516 : BitVec 1 := Scalar.andi v513 v515
  let v502 : BitVec 32 := Scalar.divsi v501 c4_i32_137
  let c1_i32_143 : BitVec 32 := 1#32
  let v517 : BitVec 32 := Scalar.subi v502 c1_i32_143
  let v518 : BitVec 32 := Scalar.select v516 v517 v502
  let v530 : BitVec 32 := Scalar.subi c1_i32_150 v518
  let c128_i32_151 : BitVec 32 := 128#32
  let v531 : BitVec 32 := Scalar.muli v530 c128_i32_151
  v531
def k0_mult7 (k0_t1 : Fin k0_t1_loop.trips) : BitVec 32 :=
  let c0_i32_8 : BitVec 32 := 0#32
  let c1_i32 : BitVec 32 := 1#32
  let arg19 : BitVec 32 := Scf.iv c0_i32_8 c1_i32 k0_t1
  let c4_i32_135 : BitVec 32 := 4#32
  let v500 : BitVec 32 := Scalar.muli arg19 c4_i32_135
  let c0_i32_136 : BitVec 32 := 0#32
  let v501 : BitVec 32 := Scalar.addi v500 c0_i32_136
  let c0_i32_138 : BitVec 32 := 0#32
  let v503 : BitVec 1 := Scalar.cmpi .sgt v501 c0_i32_138
  let v504 : BitVec 32 := Scalar.extui v503
  let c0_i32_139 : BitVec 32 := 0#32
  let v505 : BitVec 1 := Scalar.cmpi .slt v501 c0_i32_139
  let v506 : BitVec 32 := Scalar.extui v505
  let v507 : BitVec 32 := Scalar.subi v504 v506
  let c4_i32_137 : BitVec 32 := 4#32
  let c0_i32_140 : BitVec 32 := 0#32
  let v508 : BitVec 1 := Scalar.cmpi .sgt c4_i32_137 c0_i32_140
  let v509 : BitVec 32 := Scalar.extui v508
  let c0_i32_141 : BitVec 32 := 0#32
  let v510 : BitVec 1 := Scalar.cmpi .slt c4_i32_137 c0_i32_141
  let v511 : BitVec 32 := Scalar.extui v510
  let v512 : BitVec 32 := Scalar.subi v509 v511
  let v513 : BitVec 1 := Scalar.cmpi .ne v507 v512
  let v514 : BitVec 32 := Scalar.remsi v501 c4_i32_137
  let c0_i32_142 : BitVec 32 := 0#32
  let v515 : BitVec 1 := Scalar.cmpi .ne v514 c0_i32_142
  let v516 : BitVec 1 := Scalar.andi v513 v515
  let v502 : BitVec 32 := Scalar.divsi v501 c4_i32_137
  let c1_i32_143 : BitVec 32 := 1#32
  let v517 : BitVec 32 := Scalar.subi v502 c1_i32_143
  let v518 : BitVec 32 := Scalar.select v516 v517 v502
  let c128_i32 : BitVec 32 := 128#32
  let v529 : BitVec 32 := Scalar.muli v518 c128_i32
  v529
def k0_mult8 (k0_t1 : Fin k0_t1_loop.trips) : BitVec 32 :=
  let c1_i32_150 : BitVec 32 := 1#32
  let c0_i32_8 : BitVec 32 := 0#32
  let c1_i32 : BitVec 32 := 1#32
  let arg19 : BitVec 32 := Scf.iv c0_i32_8 c1_i32 k0_t1
  let c4_i32_135 : BitVec 32 := 4#32
  let v500 : BitVec 32 := Scalar.muli arg19 c4_i32_135
  let c0_i32_136 : BitVec 32 := 0#32
  let v501 : BitVec 32 := Scalar.addi v500 c0_i32_136
  let c0_i32_138 : BitVec 32 := 0#32
  let v503 : BitVec 1 := Scalar.cmpi .sgt v501 c0_i32_138
  let v504 : BitVec 32 := Scalar.extui v503
  let c0_i32_139 : BitVec 32 := 0#32
  let v505 : BitVec 1 := Scalar.cmpi .slt v501 c0_i32_139
  let v506 : BitVec 32 := Scalar.extui v505
  let v507 : BitVec 32 := Scalar.subi v504 v506
  let c4_i32_137 : BitVec 32 := 4#32
  let c0_i32_140 : BitVec 32 := 0#32
  let v508 : BitVec 1 := Scalar.cmpi .sgt c4_i32_137 c0_i32_140
  let v509 : BitVec 32 := Scalar.extui v508
  let c0_i32_141 : BitVec 32 := 0#32
  let v510 : BitVec 1 := Scalar.cmpi .slt c4_i32_137 c0_i32_141
  let v511 : BitVec 32 := Scalar.extui v510
  let v512 : BitVec 32 := Scalar.subi v509 v511
  let v513 : BitVec 1 := Scalar.cmpi .ne v507 v512
  let v514 : BitVec 32 := Scalar.remsi v501 c4_i32_137
  let c0_i32_142 : BitVec 32 := 0#32
  let v515 : BitVec 1 := Scalar.cmpi .ne v514 c0_i32_142
  let v516 : BitVec 1 := Scalar.andi v513 v515
  let v502 : BitVec 32 := Scalar.divsi v501 c4_i32_137
  let c1_i32_143 : BitVec 32 := 1#32
  let v517 : BitVec 32 := Scalar.subi v502 c1_i32_143
  let v518 : BitVec 32 := Scalar.select v516 v517 v502
  let v530 : BitVec 32 := Scalar.subi c1_i32_150 v518
  let c128_i32_151 : BitVec 32 := 128#32
  let v531 : BitVec 32 := Scalar.muli v530 c128_i32_151
  v531
def k0_mult9 (k0_t1 : Fin k0_t1_loop.trips) : BitVec 32 :=
  let c0_i32_8 : BitVec 32 := 0#32
  let c1_i32 : BitVec 32 := 1#32
  let arg19 : BitVec 32 := Scf.iv c0_i32_8 c1_i32 k0_t1
  let c8_i32_1588 : BitVec 32 := 8#32
  let v5341 : BitVec 32 := Scalar.muli arg19 c8_i32_1588
  let c2_i32_1589 : BitVec 32 := 2#32
  let v5342 : BitVec 32 := Scalar.addi v5341 c2_i32_1589
  let c512_i32_1590 : BitVec 32 := 512#32
  let v5343 : BitVec 32 := Scalar.muli v5342 c512_i32_1590
  v5343
def k0_mult10 (k0_t1 : Fin k0_t1_loop.trips) : BitVec 32 :=
  let c0_i32_8 : BitVec 32 := 0#32
  let c1_i32 : BitVec 32 := 1#32
  let arg19 : BitVec 32 := Scf.iv c0_i32_8 c1_i32 k0_t1
  let c4_i32_152 : BitVec 32 := 4#32
  let v532 : BitVec 32 := Scalar.muli arg19 c4_i32_152
  let c1_i32_153 : BitVec 32 := 1#32
  let v533 : BitVec 32 := Scalar.addi v532 c1_i32_153
  let c0_i32_155 : BitVec 32 := 0#32
  let v535 : BitVec 1 := Scalar.cmpi .sgt v533 c0_i32_155
  let v536 : BitVec 32 := Scalar.extui v535
  let c0_i32_156 : BitVec 32 := 0#32
  let v537 : BitVec 1 := Scalar.cmpi .slt v533 c0_i32_156
  let v538 : BitVec 32 := Scalar.extui v537
  let v539 : BitVec 32 := Scalar.subi v536 v538
  let c4_i32_154 : BitVec 32 := 4#32
  let c0_i32_157 : BitVec 32 := 0#32
  let v540 : BitVec 1 := Scalar.cmpi .sgt c4_i32_154 c0_i32_157
  let v541 : BitVec 32 := Scalar.extui v540
  let c0_i32_158 : BitVec 32 := 0#32
  let v542 : BitVec 1 := Scalar.cmpi .slt c4_i32_154 c0_i32_158
  let v543 : BitVec 32 := Scalar.extui v542
  let v544 : BitVec 32 := Scalar.subi v541 v543
  let v545 : BitVec 1 := Scalar.cmpi .ne v539 v544
  let v546 : BitVec 32 := Scalar.remsi v533 c4_i32_154
  let c0_i32_159 : BitVec 32 := 0#32
  let v547 : BitVec 1 := Scalar.cmpi .ne v546 c0_i32_159
  let v548 : BitVec 1 := Scalar.andi v545 v547
  let v534 : BitVec 32 := Scalar.divsi v533 c4_i32_154
  let c1_i32_160 : BitVec 32 := 1#32
  let v549 : BitVec 32 := Scalar.subi v534 c1_i32_160
  let v550 : BitVec 32 := Scalar.select v548 v549 v534
  let c128_i32_167 : BitVec 32 := 128#32
  let v561 : BitVec 32 := Scalar.muli v550 c128_i32_167
  v561
def k0_mult11 (k0_t1 : Fin k0_t1_loop.trips) : BitVec 32 :=
  let c1_i32_168 : BitVec 32 := 1#32
  let c0_i32_8 : BitVec 32 := 0#32
  let c1_i32 : BitVec 32 := 1#32
  let arg19 : BitVec 32 := Scf.iv c0_i32_8 c1_i32 k0_t1
  let c4_i32_152 : BitVec 32 := 4#32
  let v532 : BitVec 32 := Scalar.muli arg19 c4_i32_152
  let c1_i32_153 : BitVec 32 := 1#32
  let v533 : BitVec 32 := Scalar.addi v532 c1_i32_153
  let c0_i32_155 : BitVec 32 := 0#32
  let v535 : BitVec 1 := Scalar.cmpi .sgt v533 c0_i32_155
  let v536 : BitVec 32 := Scalar.extui v535
  let c0_i32_156 : BitVec 32 := 0#32
  let v537 : BitVec 1 := Scalar.cmpi .slt v533 c0_i32_156
  let v538 : BitVec 32 := Scalar.extui v537
  let v539 : BitVec 32 := Scalar.subi v536 v538
  let c4_i32_154 : BitVec 32 := 4#32
  let c0_i32_157 : BitVec 32 := 0#32
  let v540 : BitVec 1 := Scalar.cmpi .sgt c4_i32_154 c0_i32_157
  let v541 : BitVec 32 := Scalar.extui v540
  let c0_i32_158 : BitVec 32 := 0#32
  let v542 : BitVec 1 := Scalar.cmpi .slt c4_i32_154 c0_i32_158
  let v543 : BitVec 32 := Scalar.extui v542
  let v544 : BitVec 32 := Scalar.subi v541 v543
  let v545 : BitVec 1 := Scalar.cmpi .ne v539 v544
  let v546 : BitVec 32 := Scalar.remsi v533 c4_i32_154
  let c0_i32_159 : BitVec 32 := 0#32
  let v547 : BitVec 1 := Scalar.cmpi .ne v546 c0_i32_159
  let v548 : BitVec 1 := Scalar.andi v545 v547
  let v534 : BitVec 32 := Scalar.divsi v533 c4_i32_154
  let c1_i32_160 : BitVec 32 := 1#32
  let v549 : BitVec 32 := Scalar.subi v534 c1_i32_160
  let v550 : BitVec 32 := Scalar.select v548 v549 v534
  let v562 : BitVec 32 := Scalar.subi c1_i32_168 v550
  let c128_i32_169 : BitVec 32 := 128#32
  let v563 : BitVec 32 := Scalar.muli v562 c128_i32_169
  v563
def k0_mult12 (k0_t1 : Fin k0_t1_loop.trips) : BitVec 32 :=
  let c0_i32_8 : BitVec 32 := 0#32
  let c1_i32 : BitVec 32 := 1#32
  let arg19 : BitVec 32 := Scf.iv c0_i32_8 c1_i32 k0_t1
  let c8_i32_1627 : BitVec 32 := 8#32
  let v6006 : BitVec 32 := Scalar.muli arg19 c8_i32_1627
  let c3_i32_1628 : BitVec 32 := 3#32
  let v6007 : BitVec 32 := Scalar.addi v6006 c3_i32_1628
  let c512_i32_1629 : BitVec 32 := 512#32
  let v6008 : BitVec 32 := Scalar.muli v6007 c512_i32_1629
  v6008
def k0_mult13 (k0_t1 : Fin k0_t1_loop.trips) : BitVec 32 :=
  let c0_i32_8 : BitVec 32 := 0#32
  let c1_i32 : BitVec 32 := 1#32
  let arg19 : BitVec 32 := Scf.iv c0_i32_8 c1_i32 k0_t1
  let c4_i32_152 : BitVec 32 := 4#32
  let v532 : BitVec 32 := Scalar.muli arg19 c4_i32_152
  let c1_i32_153 : BitVec 32 := 1#32
  let v533 : BitVec 32 := Scalar.addi v532 c1_i32_153
  let c0_i32_155 : BitVec 32 := 0#32
  let v535 : BitVec 1 := Scalar.cmpi .sgt v533 c0_i32_155
  let v536 : BitVec 32 := Scalar.extui v535
  let c0_i32_156 : BitVec 32 := 0#32
  let v537 : BitVec 1 := Scalar.cmpi .slt v533 c0_i32_156
  let v538 : BitVec 32 := Scalar.extui v537
  let v539 : BitVec 32 := Scalar.subi v536 v538
  let c4_i32_154 : BitVec 32 := 4#32
  let c0_i32_157 : BitVec 32 := 0#32
  let v540 : BitVec 1 := Scalar.cmpi .sgt c4_i32_154 c0_i32_157
  let v541 : BitVec 32 := Scalar.extui v540
  let c0_i32_158 : BitVec 32 := 0#32
  let v542 : BitVec 1 := Scalar.cmpi .slt c4_i32_154 c0_i32_158
  let v543 : BitVec 32 := Scalar.extui v542
  let v544 : BitVec 32 := Scalar.subi v541 v543
  let v545 : BitVec 1 := Scalar.cmpi .ne v539 v544
  let v546 : BitVec 32 := Scalar.remsi v533 c4_i32_154
  let c0_i32_159 : BitVec 32 := 0#32
  let v547 : BitVec 1 := Scalar.cmpi .ne v546 c0_i32_159
  let v548 : BitVec 1 := Scalar.andi v545 v547
  let v534 : BitVec 32 := Scalar.divsi v533 c4_i32_154
  let c1_i32_160 : BitVec 32 := 1#32
  let v549 : BitVec 32 := Scalar.subi v534 c1_i32_160
  let v550 : BitVec 32 := Scalar.select v548 v549 v534
  let c128_i32_167 : BitVec 32 := 128#32
  let v561 : BitVec 32 := Scalar.muli v550 c128_i32_167
  v561
def k0_mult14 (k0_t1 : Fin k0_t1_loop.trips) : BitVec 32 :=
  let c1_i32_168 : BitVec 32 := 1#32
  let c0_i32_8 : BitVec 32 := 0#32
  let c1_i32 : BitVec 32 := 1#32
  let arg19 : BitVec 32 := Scf.iv c0_i32_8 c1_i32 k0_t1
  let c4_i32_152 : BitVec 32 := 4#32
  let v532 : BitVec 32 := Scalar.muli arg19 c4_i32_152
  let c1_i32_153 : BitVec 32 := 1#32
  let v533 : BitVec 32 := Scalar.addi v532 c1_i32_153
  let c0_i32_155 : BitVec 32 := 0#32
  let v535 : BitVec 1 := Scalar.cmpi .sgt v533 c0_i32_155
  let v536 : BitVec 32 := Scalar.extui v535
  let c0_i32_156 : BitVec 32 := 0#32
  let v537 : BitVec 1 := Scalar.cmpi .slt v533 c0_i32_156
  let v538 : BitVec 32 := Scalar.extui v537
  let v539 : BitVec 32 := Scalar.subi v536 v538
  let c4_i32_154 : BitVec 32 := 4#32
  let c0_i32_157 : BitVec 32 := 0#32
  let v540 : BitVec 1 := Scalar.cmpi .sgt c4_i32_154 c0_i32_157
  let v541 : BitVec 32 := Scalar.extui v540
  let c0_i32_158 : BitVec 32 := 0#32
  let v542 : BitVec 1 := Scalar.cmpi .slt c4_i32_154 c0_i32_158
  let v543 : BitVec 32 := Scalar.extui v542
  let v544 : BitVec 32 := Scalar.subi v541 v543
  let v545 : BitVec 1 := Scalar.cmpi .ne v539 v544
  let v546 : BitVec 32 := Scalar.remsi v533 c4_i32_154
  let c0_i32_159 : BitVec 32 := 0#32
  let v547 : BitVec 1 := Scalar.cmpi .ne v546 c0_i32_159
  let v548 : BitVec 1 := Scalar.andi v545 v547
  let v534 : BitVec 32 := Scalar.divsi v533 c4_i32_154
  let c1_i32_160 : BitVec 32 := 1#32
  let v549 : BitVec 32 := Scalar.subi v534 c1_i32_160
  let v550 : BitVec 32 := Scalar.select v548 v549 v534
  let v562 : BitVec 32 := Scalar.subi c1_i32_168 v550
  let c128_i32_169 : BitVec 32 := 128#32
  let v563 : BitVec 32 := Scalar.muli v562 c128_i32_169
  v563
def k0_mult15 (k0_t1 : Fin k0_t1_loop.trips) : BitVec 32 :=
  let c0_i32_8 : BitVec 32 := 0#32
  let c1_i32 : BitVec 32 := 1#32
  let arg19 : BitVec 32 := Scf.iv c0_i32_8 c1_i32 k0_t1
  let c4_i32_152 : BitVec 32 := 4#32
  let v532 : BitVec 32 := Scalar.muli arg19 c4_i32_152
  let c1_i32_153 : BitVec 32 := 1#32
  let v533 : BitVec 32 := Scalar.addi v532 c1_i32_153
  let c0_i32_155 : BitVec 32 := 0#32
  let v535 : BitVec 1 := Scalar.cmpi .sgt v533 c0_i32_155
  let v536 : BitVec 32 := Scalar.extui v535
  let c0_i32_156 : BitVec 32 := 0#32
  let v537 : BitVec 1 := Scalar.cmpi .slt v533 c0_i32_156
  let v538 : BitVec 32 := Scalar.extui v537
  let v539 : BitVec 32 := Scalar.subi v536 v538
  let c4_i32_154 : BitVec 32 := 4#32
  let c0_i32_157 : BitVec 32 := 0#32
  let v540 : BitVec 1 := Scalar.cmpi .sgt c4_i32_154 c0_i32_157
  let v541 : BitVec 32 := Scalar.extui v540
  let c0_i32_158 : BitVec 32 := 0#32
  let v542 : BitVec 1 := Scalar.cmpi .slt c4_i32_154 c0_i32_158
  let v543 : BitVec 32 := Scalar.extui v542
  let v544 : BitVec 32 := Scalar.subi v541 v543
  let v545 : BitVec 1 := Scalar.cmpi .ne v539 v544
  let v546 : BitVec 32 := Scalar.remsi v533 c4_i32_154
  let c0_i32_159 : BitVec 32 := 0#32
  let v547 : BitVec 1 := Scalar.cmpi .ne v546 c0_i32_159
  let v548 : BitVec 1 := Scalar.andi v545 v547
  let v534 : BitVec 32 := Scalar.divsi v533 c4_i32_154
  let c1_i32_160 : BitVec 32 := 1#32
  let v549 : BitVec 32 := Scalar.subi v534 c1_i32_160
  let v550 : BitVec 32 := Scalar.select v548 v549 v534
  let c128_i32_167 : BitVec 32 := 128#32
  let v561 : BitVec 32 := Scalar.muli v550 c128_i32_167
  v561
def k0_mult16 (k0_t1 : Fin k0_t1_loop.trips) : BitVec 32 :=
  let c1_i32_168 : BitVec 32 := 1#32
  let c0_i32_8 : BitVec 32 := 0#32
  let c1_i32 : BitVec 32 := 1#32
  let arg19 : BitVec 32 := Scf.iv c0_i32_8 c1_i32 k0_t1
  let c4_i32_152 : BitVec 32 := 4#32
  let v532 : BitVec 32 := Scalar.muli arg19 c4_i32_152
  let c1_i32_153 : BitVec 32 := 1#32
  let v533 : BitVec 32 := Scalar.addi v532 c1_i32_153
  let c0_i32_155 : BitVec 32 := 0#32
  let v535 : BitVec 1 := Scalar.cmpi .sgt v533 c0_i32_155
  let v536 : BitVec 32 := Scalar.extui v535
  let c0_i32_156 : BitVec 32 := 0#32
  let v537 : BitVec 1 := Scalar.cmpi .slt v533 c0_i32_156
  let v538 : BitVec 32 := Scalar.extui v537
  let v539 : BitVec 32 := Scalar.subi v536 v538
  let c4_i32_154 : BitVec 32 := 4#32
  let c0_i32_157 : BitVec 32 := 0#32
  let v540 : BitVec 1 := Scalar.cmpi .sgt c4_i32_154 c0_i32_157
  let v541 : BitVec 32 := Scalar.extui v540
  let c0_i32_158 : BitVec 32 := 0#32
  let v542 : BitVec 1 := Scalar.cmpi .slt c4_i32_154 c0_i32_158
  let v543 : BitVec 32 := Scalar.extui v542
  let v544 : BitVec 32 := Scalar.subi v541 v543
  let v545 : BitVec 1 := Scalar.cmpi .ne v539 v544
  let v546 : BitVec 32 := Scalar.remsi v533 c4_i32_154
  let c0_i32_159 : BitVec 32 := 0#32
  let v547 : BitVec 1 := Scalar.cmpi .ne v546 c0_i32_159
  let v548 : BitVec 1 := Scalar.andi v545 v547
  let v534 : BitVec 32 := Scalar.divsi v533 c4_i32_154
  let c1_i32_160 : BitVec 32 := 1#32
  let v549 : BitVec 32 := Scalar.subi v534 c1_i32_160
  let v550 : BitVec 32 := Scalar.select v548 v549 v534
  let v562 : BitVec 32 := Scalar.subi c1_i32_168 v550
  let c128_i32_169 : BitVec 32 := 128#32
  let v563 : BitVec 32 := Scalar.muli v562 c128_i32_169
  v563
def k0_mult17 (k0_t1 : Fin k0_t1_loop.trips) : BitVec 32 :=
  let c0_i32_8 : BitVec 32 := 0#32
  let c1_i32 : BitVec 32 := 1#32
  let arg19 : BitVec 32 := Scf.iv c0_i32_8 c1_i32 k0_t1
  let c8_i32_1667 : BitVec 32 := 8#32
  let v6126 : BitVec 32 := Scalar.muli arg19 c8_i32_1667
  let c4_i32_1668 : BitVec 32 := 4#32
  let v6127 : BitVec 32 := Scalar.addi v6126 c4_i32_1668
  let c512_i32_1669 : BitVec 32 := 512#32
  let v6128 : BitVec 32 := Scalar.muli v6127 c512_i32_1669
  v6128
def k0_mult18 (k0_t1 : Fin k0_t1_loop.trips) : BitVec 32 :=
  let c0_i32_8 : BitVec 32 := 0#32
  let c1_i32 : BitVec 32 := 1#32
  let arg19 : BitVec 32 := Scf.iv c0_i32_8 c1_i32 k0_t1
  let c4_i32_170 : BitVec 32 := 4#32
  let v564 : BitVec 32 := Scalar.muli arg19 c4_i32_170
  let c2_i32_171 : BitVec 32 := 2#32
  let v565 : BitVec 32 := Scalar.addi v564 c2_i32_171
  let c0_i32_173 : BitVec 32 := 0#32
  let v567 : BitVec 1 := Scalar.cmpi .sgt v565 c0_i32_173
  let v568 : BitVec 32 := Scalar.extui v567
  let c0_i32_174 : BitVec 32 := 0#32
  let v569 : BitVec 1 := Scalar.cmpi .slt v565 c0_i32_174
  let v570 : BitVec 32 := Scalar.extui v569
  let v571 : BitVec 32 := Scalar.subi v568 v570
  let c4_i32_172 : BitVec 32 := 4#32
  let c0_i32_175 : BitVec 32 := 0#32
  let v572 : BitVec 1 := Scalar.cmpi .sgt c4_i32_172 c0_i32_175
  let v573 : BitVec 32 := Scalar.extui v572
  let c0_i32_176 : BitVec 32 := 0#32
  let v574 : BitVec 1 := Scalar.cmpi .slt c4_i32_172 c0_i32_176
  let v575 : BitVec 32 := Scalar.extui v574
  let v576 : BitVec 32 := Scalar.subi v573 v575
  let v577 : BitVec 1 := Scalar.cmpi .ne v571 v576
  let v578 : BitVec 32 := Scalar.remsi v565 c4_i32_172
  let c0_i32_177 : BitVec 32 := 0#32
  let v579 : BitVec 1 := Scalar.cmpi .ne v578 c0_i32_177
  let v580 : BitVec 1 := Scalar.andi v577 v579
  let v566 : BitVec 32 := Scalar.divsi v565 c4_i32_172
  let c1_i32_178 : BitVec 32 := 1#32
  let v581 : BitVec 32 := Scalar.subi v566 c1_i32_178
  let v582 : BitVec 32 := Scalar.select v580 v581 v566
  let c128_i32_185 : BitVec 32 := 128#32
  let v593 : BitVec 32 := Scalar.muli v582 c128_i32_185
  v593
def k0_mult19 (k0_t1 : Fin k0_t1_loop.trips) : BitVec 32 :=
  let c1_i32_186 : BitVec 32 := 1#32
  let c0_i32_8 : BitVec 32 := 0#32
  let c1_i32 : BitVec 32 := 1#32
  let arg19 : BitVec 32 := Scf.iv c0_i32_8 c1_i32 k0_t1
  let c4_i32_170 : BitVec 32 := 4#32
  let v564 : BitVec 32 := Scalar.muli arg19 c4_i32_170
  let c2_i32_171 : BitVec 32 := 2#32
  let v565 : BitVec 32 := Scalar.addi v564 c2_i32_171
  let c0_i32_173 : BitVec 32 := 0#32
  let v567 : BitVec 1 := Scalar.cmpi .sgt v565 c0_i32_173
  let v568 : BitVec 32 := Scalar.extui v567
  let c0_i32_174 : BitVec 32 := 0#32
  let v569 : BitVec 1 := Scalar.cmpi .slt v565 c0_i32_174
  let v570 : BitVec 32 := Scalar.extui v569
  let v571 : BitVec 32 := Scalar.subi v568 v570
  let c4_i32_172 : BitVec 32 := 4#32
  let c0_i32_175 : BitVec 32 := 0#32
  let v572 : BitVec 1 := Scalar.cmpi .sgt c4_i32_172 c0_i32_175
  let v573 : BitVec 32 := Scalar.extui v572
  let c0_i32_176 : BitVec 32 := 0#32
  let v574 : BitVec 1 := Scalar.cmpi .slt c4_i32_172 c0_i32_176
  let v575 : BitVec 32 := Scalar.extui v574
  let v576 : BitVec 32 := Scalar.subi v573 v575
  let v577 : BitVec 1 := Scalar.cmpi .ne v571 v576
  let v578 : BitVec 32 := Scalar.remsi v565 c4_i32_172
  let c0_i32_177 : BitVec 32 := 0#32
  let v579 : BitVec 1 := Scalar.cmpi .ne v578 c0_i32_177
  let v580 : BitVec 1 := Scalar.andi v577 v579
  let v566 : BitVec 32 := Scalar.divsi v565 c4_i32_172
  let c1_i32_178 : BitVec 32 := 1#32
  let v581 : BitVec 32 := Scalar.subi v566 c1_i32_178
  let v582 : BitVec 32 := Scalar.select v580 v581 v566
  let v594 : BitVec 32 := Scalar.subi c1_i32_186 v582
  let c128_i32_187 : BitVec 32 := 128#32
  let v595 : BitVec 32 := Scalar.muli v594 c128_i32_187
  v595
def k0_mult20 (k0_t1 : Fin k0_t1_loop.trips) : BitVec 32 :=
  let c0_i32_8 : BitVec 32 := 0#32
  let c1_i32 : BitVec 32 := 1#32
  let arg19 : BitVec 32 := Scf.iv c0_i32_8 c1_i32 k0_t1
  let c8_i32_1706 : BitVec 32 := 8#32
  let v6791 : BitVec 32 := Scalar.muli arg19 c8_i32_1706
  let c5_i32_1707 : BitVec 32 := 5#32
  let v6792 : BitVec 32 := Scalar.addi v6791 c5_i32_1707
  let c512_i32_1708 : BitVec 32 := 512#32
  let v6793 : BitVec 32 := Scalar.muli v6792 c512_i32_1708
  v6793
def k0_mult21 (k0_t1 : Fin k0_t1_loop.trips) : BitVec 32 :=
  let c0_i32_8 : BitVec 32 := 0#32
  let c1_i32 : BitVec 32 := 1#32
  let arg19 : BitVec 32 := Scf.iv c0_i32_8 c1_i32 k0_t1
  let c4_i32_170 : BitVec 32 := 4#32
  let v564 : BitVec 32 := Scalar.muli arg19 c4_i32_170
  let c2_i32_171 : BitVec 32 := 2#32
  let v565 : BitVec 32 := Scalar.addi v564 c2_i32_171
  let c0_i32_173 : BitVec 32 := 0#32
  let v567 : BitVec 1 := Scalar.cmpi .sgt v565 c0_i32_173
  let v568 : BitVec 32 := Scalar.extui v567
  let c0_i32_174 : BitVec 32 := 0#32
  let v569 : BitVec 1 := Scalar.cmpi .slt v565 c0_i32_174
  let v570 : BitVec 32 := Scalar.extui v569
  let v571 : BitVec 32 := Scalar.subi v568 v570
  let c4_i32_172 : BitVec 32 := 4#32
  let c0_i32_175 : BitVec 32 := 0#32
  let v572 : BitVec 1 := Scalar.cmpi .sgt c4_i32_172 c0_i32_175
  let v573 : BitVec 32 := Scalar.extui v572
  let c0_i32_176 : BitVec 32 := 0#32
  let v574 : BitVec 1 := Scalar.cmpi .slt c4_i32_172 c0_i32_176
  let v575 : BitVec 32 := Scalar.extui v574
  let v576 : BitVec 32 := Scalar.subi v573 v575
  let v577 : BitVec 1 := Scalar.cmpi .ne v571 v576
  let v578 : BitVec 32 := Scalar.remsi v565 c4_i32_172
  let c0_i32_177 : BitVec 32 := 0#32
  let v579 : BitVec 1 := Scalar.cmpi .ne v578 c0_i32_177
  let v580 : BitVec 1 := Scalar.andi v577 v579
  let v566 : BitVec 32 := Scalar.divsi v565 c4_i32_172
  let c1_i32_178 : BitVec 32 := 1#32
  let v581 : BitVec 32 := Scalar.subi v566 c1_i32_178
  let v582 : BitVec 32 := Scalar.select v580 v581 v566
  let c128_i32_185 : BitVec 32 := 128#32
  let v593 : BitVec 32 := Scalar.muli v582 c128_i32_185
  v593
def k0_mult22 (k0_t1 : Fin k0_t1_loop.trips) : BitVec 32 :=
  let c1_i32_186 : BitVec 32 := 1#32
  let c0_i32_8 : BitVec 32 := 0#32
  let c1_i32 : BitVec 32 := 1#32
  let arg19 : BitVec 32 := Scf.iv c0_i32_8 c1_i32 k0_t1
  let c4_i32_170 : BitVec 32 := 4#32
  let v564 : BitVec 32 := Scalar.muli arg19 c4_i32_170
  let c2_i32_171 : BitVec 32 := 2#32
  let v565 : BitVec 32 := Scalar.addi v564 c2_i32_171
  let c0_i32_173 : BitVec 32 := 0#32
  let v567 : BitVec 1 := Scalar.cmpi .sgt v565 c0_i32_173
  let v568 : BitVec 32 := Scalar.extui v567
  let c0_i32_174 : BitVec 32 := 0#32
  let v569 : BitVec 1 := Scalar.cmpi .slt v565 c0_i32_174
  let v570 : BitVec 32 := Scalar.extui v569
  let v571 : BitVec 32 := Scalar.subi v568 v570
  let c4_i32_172 : BitVec 32 := 4#32
  let c0_i32_175 : BitVec 32 := 0#32
  let v572 : BitVec 1 := Scalar.cmpi .sgt c4_i32_172 c0_i32_175
  let v573 : BitVec 32 := Scalar.extui v572
  let c0_i32_176 : BitVec 32 := 0#32
  let v574 : BitVec 1 := Scalar.cmpi .slt c4_i32_172 c0_i32_176
  let v575 : BitVec 32 := Scalar.extui v574
  let v576 : BitVec 32 := Scalar.subi v573 v575
  let v577 : BitVec 1 := Scalar.cmpi .ne v571 v576
  let v578 : BitVec 32 := Scalar.remsi v565 c4_i32_172
  let c0_i32_177 : BitVec 32 := 0#32
  let v579 : BitVec 1 := Scalar.cmpi .ne v578 c0_i32_177
  let v580 : BitVec 1 := Scalar.andi v577 v579
  let v566 : BitVec 32 := Scalar.divsi v565 c4_i32_172
  let c1_i32_178 : BitVec 32 := 1#32
  let v581 : BitVec 32 := Scalar.subi v566 c1_i32_178
  let v582 : BitVec 32 := Scalar.select v580 v581 v566
  let v594 : BitVec 32 := Scalar.subi c1_i32_186 v582
  let c128_i32_187 : BitVec 32 := 128#32
  let v595 : BitVec 32 := Scalar.muli v594 c128_i32_187
  v595
def k0_mult23 (k0_t1 : Fin k0_t1_loop.trips) : BitVec 32 :=
  let c0_i32_8 : BitVec 32 := 0#32
  let c1_i32 : BitVec 32 := 1#32
  let arg19 : BitVec 32 := Scf.iv c0_i32_8 c1_i32 k0_t1
  let c4_i32_170 : BitVec 32 := 4#32
  let v564 : BitVec 32 := Scalar.muli arg19 c4_i32_170
  let c2_i32_171 : BitVec 32 := 2#32
  let v565 : BitVec 32 := Scalar.addi v564 c2_i32_171
  let c0_i32_173 : BitVec 32 := 0#32
  let v567 : BitVec 1 := Scalar.cmpi .sgt v565 c0_i32_173
  let v568 : BitVec 32 := Scalar.extui v567
  let c0_i32_174 : BitVec 32 := 0#32
  let v569 : BitVec 1 := Scalar.cmpi .slt v565 c0_i32_174
  let v570 : BitVec 32 := Scalar.extui v569
  let v571 : BitVec 32 := Scalar.subi v568 v570
  let c4_i32_172 : BitVec 32 := 4#32
  let c0_i32_175 : BitVec 32 := 0#32
  let v572 : BitVec 1 := Scalar.cmpi .sgt c4_i32_172 c0_i32_175
  let v573 : BitVec 32 := Scalar.extui v572
  let c0_i32_176 : BitVec 32 := 0#32
  let v574 : BitVec 1 := Scalar.cmpi .slt c4_i32_172 c0_i32_176
  let v575 : BitVec 32 := Scalar.extui v574
  let v576 : BitVec 32 := Scalar.subi v573 v575
  let v577 : BitVec 1 := Scalar.cmpi .ne v571 v576
  let v578 : BitVec 32 := Scalar.remsi v565 c4_i32_172
  let c0_i32_177 : BitVec 32 := 0#32
  let v579 : BitVec 1 := Scalar.cmpi .ne v578 c0_i32_177
  let v580 : BitVec 1 := Scalar.andi v577 v579
  let v566 : BitVec 32 := Scalar.divsi v565 c4_i32_172
  let c1_i32_178 : BitVec 32 := 1#32
  let v581 : BitVec 32 := Scalar.subi v566 c1_i32_178
  let v582 : BitVec 32 := Scalar.select v580 v581 v566
  let c128_i32_185 : BitVec 32 := 128#32
  let v593 : BitVec 32 := Scalar.muli v582 c128_i32_185
  v593
def k0_mult24 (k0_t1 : Fin k0_t1_loop.trips) : BitVec 32 :=
  let c1_i32_186 : BitVec 32 := 1#32
  let c0_i32_8 : BitVec 32 := 0#32
  let c1_i32 : BitVec 32 := 1#32
  let arg19 : BitVec 32 := Scf.iv c0_i32_8 c1_i32 k0_t1
  let c4_i32_170 : BitVec 32 := 4#32
  let v564 : BitVec 32 := Scalar.muli arg19 c4_i32_170
  let c2_i32_171 : BitVec 32 := 2#32
  let v565 : BitVec 32 := Scalar.addi v564 c2_i32_171
  let c0_i32_173 : BitVec 32 := 0#32
  let v567 : BitVec 1 := Scalar.cmpi .sgt v565 c0_i32_173
  let v568 : BitVec 32 := Scalar.extui v567
  let c0_i32_174 : BitVec 32 := 0#32
  let v569 : BitVec 1 := Scalar.cmpi .slt v565 c0_i32_174
  let v570 : BitVec 32 := Scalar.extui v569
  let v571 : BitVec 32 := Scalar.subi v568 v570
  let c4_i32_172 : BitVec 32 := 4#32
  let c0_i32_175 : BitVec 32 := 0#32
  let v572 : BitVec 1 := Scalar.cmpi .sgt c4_i32_172 c0_i32_175
  let v573 : BitVec 32 := Scalar.extui v572
  let c0_i32_176 : BitVec 32 := 0#32
  let v574 : BitVec 1 := Scalar.cmpi .slt c4_i32_172 c0_i32_176
  let v575 : BitVec 32 := Scalar.extui v574
  let v576 : BitVec 32 := Scalar.subi v573 v575
  let v577 : BitVec 1 := Scalar.cmpi .ne v571 v576
  let v578 : BitVec 32 := Scalar.remsi v565 c4_i32_172
  let c0_i32_177 : BitVec 32 := 0#32
  let v579 : BitVec 1 := Scalar.cmpi .ne v578 c0_i32_177
  let v580 : BitVec 1 := Scalar.andi v577 v579
  let v566 : BitVec 32 := Scalar.divsi v565 c4_i32_172
  let c1_i32_178 : BitVec 32 := 1#32
  let v581 : BitVec 32 := Scalar.subi v566 c1_i32_178
  let v582 : BitVec 32 := Scalar.select v580 v581 v566
  let v594 : BitVec 32 := Scalar.subi c1_i32_186 v582
  let c128_i32_187 : BitVec 32 := 128#32
  let v595 : BitVec 32 := Scalar.muli v594 c128_i32_187
  v595
def k0_mult25 (k0_t1 : Fin k0_t1_loop.trips) : BitVec 32 :=
  let c0_i32_8 : BitVec 32 := 0#32
  let c1_i32 : BitVec 32 := 1#32
  let arg19 : BitVec 32 := Scf.iv c0_i32_8 c1_i32 k0_t1
  let c8_i32_1746 : BitVec 32 := 8#32
  let v6911 : BitVec 32 := Scalar.muli arg19 c8_i32_1746
  let c6_i32_1747 : BitVec 32 := 6#32
  let v6912 : BitVec 32 := Scalar.addi v6911 c6_i32_1747
  let c512_i32_1748 : BitVec 32 := 512#32
  let v6913 : BitVec 32 := Scalar.muli v6912 c512_i32_1748
  v6913
def k0_mult26 (k0_t1 : Fin k0_t1_loop.trips) : BitVec 32 :=
  let c0_i32_8 : BitVec 32 := 0#32
  let c1_i32 : BitVec 32 := 1#32
  let arg19 : BitVec 32 := Scf.iv c0_i32_8 c1_i32 k0_t1
  let c4_i32_188 : BitVec 32 := 4#32
  let v596 : BitVec 32 := Scalar.muli arg19 c4_i32_188
  let c3_i32_189 : BitVec 32 := 3#32
  let v597 : BitVec 32 := Scalar.addi v596 c3_i32_189
  let c0_i32_191 : BitVec 32 := 0#32
  let v599 : BitVec 1 := Scalar.cmpi .sgt v597 c0_i32_191
  let v600 : BitVec 32 := Scalar.extui v599
  let c0_i32_192 : BitVec 32 := 0#32
  let v601 : BitVec 1 := Scalar.cmpi .slt v597 c0_i32_192
  let v602 : BitVec 32 := Scalar.extui v601
  let v603 : BitVec 32 := Scalar.subi v600 v602
  let c4_i32_190 : BitVec 32 := 4#32
  let c0_i32_193 : BitVec 32 := 0#32
  let v604 : BitVec 1 := Scalar.cmpi .sgt c4_i32_190 c0_i32_193
  let v605 : BitVec 32 := Scalar.extui v604
  let c0_i32_194 : BitVec 32 := 0#32
  let v606 : BitVec 1 := Scalar.cmpi .slt c4_i32_190 c0_i32_194
  let v607 : BitVec 32 := Scalar.extui v606
  let v608 : BitVec 32 := Scalar.subi v605 v607
  let v609 : BitVec 1 := Scalar.cmpi .ne v603 v608
  let v610 : BitVec 32 := Scalar.remsi v597 c4_i32_190
  let c0_i32_195 : BitVec 32 := 0#32
  let v611 : BitVec 1 := Scalar.cmpi .ne v610 c0_i32_195
  let v612 : BitVec 1 := Scalar.andi v609 v611
  let v598 : BitVec 32 := Scalar.divsi v597 c4_i32_190
  let c1_i32_196 : BitVec 32 := 1#32
  let v613 : BitVec 32 := Scalar.subi v598 c1_i32_196
  let v614 : BitVec 32 := Scalar.select v612 v613 v598
  let c128_i32_203 : BitVec 32 := 128#32
  let v625 : BitVec 32 := Scalar.muli v614 c128_i32_203
  v625
def k0_mult27 (k0_t1 : Fin k0_t1_loop.trips) : BitVec 32 :=
  let c1_i32_204 : BitVec 32 := 1#32
  let c0_i32_8 : BitVec 32 := 0#32
  let c1_i32 : BitVec 32 := 1#32
  let arg19 : BitVec 32 := Scf.iv c0_i32_8 c1_i32 k0_t1
  let c4_i32_188 : BitVec 32 := 4#32
  let v596 : BitVec 32 := Scalar.muli arg19 c4_i32_188
  let c3_i32_189 : BitVec 32 := 3#32
  let v597 : BitVec 32 := Scalar.addi v596 c3_i32_189
  let c0_i32_191 : BitVec 32 := 0#32
  let v599 : BitVec 1 := Scalar.cmpi .sgt v597 c0_i32_191
  let v600 : BitVec 32 := Scalar.extui v599
  let c0_i32_192 : BitVec 32 := 0#32
  let v601 : BitVec 1 := Scalar.cmpi .slt v597 c0_i32_192
  let v602 : BitVec 32 := Scalar.extui v601
  let v603 : BitVec 32 := Scalar.subi v600 v602
  let c4_i32_190 : BitVec 32 := 4#32
  let c0_i32_193 : BitVec 32 := 0#32
  let v604 : BitVec 1 := Scalar.cmpi .sgt c4_i32_190 c0_i32_193
  let v605 : BitVec 32 := Scalar.extui v604
  let c0_i32_194 : BitVec 32 := 0#32
  let v606 : BitVec 1 := Scalar.cmpi .slt c4_i32_190 c0_i32_194
  let v607 : BitVec 32 := Scalar.extui v606
  let v608 : BitVec 32 := Scalar.subi v605 v607
  let v609 : BitVec 1 := Scalar.cmpi .ne v603 v608
  let v610 : BitVec 32 := Scalar.remsi v597 c4_i32_190
  let c0_i32_195 : BitVec 32 := 0#32
  let v611 : BitVec 1 := Scalar.cmpi .ne v610 c0_i32_195
  let v612 : BitVec 1 := Scalar.andi v609 v611
  let v598 : BitVec 32 := Scalar.divsi v597 c4_i32_190
  let c1_i32_196 : BitVec 32 := 1#32
  let v613 : BitVec 32 := Scalar.subi v598 c1_i32_196
  let v614 : BitVec 32 := Scalar.select v612 v613 v598
  let v626 : BitVec 32 := Scalar.subi c1_i32_204 v614
  let c128_i32_205 : BitVec 32 := 128#32
  let v627 : BitVec 32 := Scalar.muli v626 c128_i32_205
  v627
def k0_mult28 (k0_t1 : Fin k0_t1_loop.trips) : BitVec 32 :=
  let c0_i32_8 : BitVec 32 := 0#32
  let c1_i32 : BitVec 32 := 1#32
  let arg19 : BitVec 32 := Scf.iv c0_i32_8 c1_i32 k0_t1
  let c8_i32_1785 : BitVec 32 := 8#32
  let v7576 : BitVec 32 := Scalar.muli arg19 c8_i32_1785
  let c7_i32_1786 : BitVec 32 := 7#32
  let v7577 : BitVec 32 := Scalar.addi v7576 c7_i32_1786
  let c512_i32_1787 : BitVec 32 := 512#32
  let v7578 : BitVec 32 := Scalar.muli v7577 c512_i32_1787
  v7578
def k0_mult29 (k0_t1 : Fin k0_t1_loop.trips) : BitVec 32 :=
  let c0_i32_8 : BitVec 32 := 0#32
  let c1_i32 : BitVec 32 := 1#32
  let arg19 : BitVec 32 := Scf.iv c0_i32_8 c1_i32 k0_t1
  let c4_i32_188 : BitVec 32 := 4#32
  let v596 : BitVec 32 := Scalar.muli arg19 c4_i32_188
  let c3_i32_189 : BitVec 32 := 3#32
  let v597 : BitVec 32 := Scalar.addi v596 c3_i32_189
  let c0_i32_191 : BitVec 32 := 0#32
  let v599 : BitVec 1 := Scalar.cmpi .sgt v597 c0_i32_191
  let v600 : BitVec 32 := Scalar.extui v599
  let c0_i32_192 : BitVec 32 := 0#32
  let v601 : BitVec 1 := Scalar.cmpi .slt v597 c0_i32_192
  let v602 : BitVec 32 := Scalar.extui v601
  let v603 : BitVec 32 := Scalar.subi v600 v602
  let c4_i32_190 : BitVec 32 := 4#32
  let c0_i32_193 : BitVec 32 := 0#32
  let v604 : BitVec 1 := Scalar.cmpi .sgt c4_i32_190 c0_i32_193
  let v605 : BitVec 32 := Scalar.extui v604
  let c0_i32_194 : BitVec 32 := 0#32
  let v606 : BitVec 1 := Scalar.cmpi .slt c4_i32_190 c0_i32_194
  let v607 : BitVec 32 := Scalar.extui v606
  let v608 : BitVec 32 := Scalar.subi v605 v607
  let v609 : BitVec 1 := Scalar.cmpi .ne v603 v608
  let v610 : BitVec 32 := Scalar.remsi v597 c4_i32_190
  let c0_i32_195 : BitVec 32 := 0#32
  let v611 : BitVec 1 := Scalar.cmpi .ne v610 c0_i32_195
  let v612 : BitVec 1 := Scalar.andi v609 v611
  let v598 : BitVec 32 := Scalar.divsi v597 c4_i32_190
  let c1_i32_196 : BitVec 32 := 1#32
  let v613 : BitVec 32 := Scalar.subi v598 c1_i32_196
  let v614 : BitVec 32 := Scalar.select v612 v613 v598
  let c128_i32_203 : BitVec 32 := 128#32
  let v625 : BitVec 32 := Scalar.muli v614 c128_i32_203
  v625
def k0_mult30 (k0_t1 : Fin k0_t1_loop.trips) : BitVec 32 :=
  let c1_i32_204 : BitVec 32 := 1#32
  let c0_i32_8 : BitVec 32 := 0#32
  let c1_i32 : BitVec 32 := 1#32
  let arg19 : BitVec 32 := Scf.iv c0_i32_8 c1_i32 k0_t1
  let c4_i32_188 : BitVec 32 := 4#32
  let v596 : BitVec 32 := Scalar.muli arg19 c4_i32_188
  let c3_i32_189 : BitVec 32 := 3#32
  let v597 : BitVec 32 := Scalar.addi v596 c3_i32_189
  let c0_i32_191 : BitVec 32 := 0#32
  let v599 : BitVec 1 := Scalar.cmpi .sgt v597 c0_i32_191
  let v600 : BitVec 32 := Scalar.extui v599
  let c0_i32_192 : BitVec 32 := 0#32
  let v601 : BitVec 1 := Scalar.cmpi .slt v597 c0_i32_192
  let v602 : BitVec 32 := Scalar.extui v601
  let v603 : BitVec 32 := Scalar.subi v600 v602
  let c4_i32_190 : BitVec 32 := 4#32
  let c0_i32_193 : BitVec 32 := 0#32
  let v604 : BitVec 1 := Scalar.cmpi .sgt c4_i32_190 c0_i32_193
  let v605 : BitVec 32 := Scalar.extui v604
  let c0_i32_194 : BitVec 32 := 0#32
  let v606 : BitVec 1 := Scalar.cmpi .slt c4_i32_190 c0_i32_194
  let v607 : BitVec 32 := Scalar.extui v606
  let v608 : BitVec 32 := Scalar.subi v605 v607
  let v609 : BitVec 1 := Scalar.cmpi .ne v603 v608
  let v610 : BitVec 32 := Scalar.remsi v597 c4_i32_190
  let c0_i32_195 : BitVec 32 := 0#32
  let v611 : BitVec 1 := Scalar.cmpi .ne v610 c0_i32_195
  let v612 : BitVec 1 := Scalar.andi v609 v611
  let v598 : BitVec 32 := Scalar.divsi v597 c4_i32_190
  let c1_i32_196 : BitVec 32 := 1#32
  let v613 : BitVec 32 := Scalar.subi v598 c1_i32_196
  let v614 : BitVec 32 := Scalar.select v612 v613 v598
  let v626 : BitVec 32 := Scalar.subi c1_i32_204 v614
  let c128_i32_205 : BitVec 32 := 128#32
  let v627 : BitVec 32 := Scalar.muli v626 c128_i32_205
  v627
def k0_mult31 (k0_t1 : Fin k0_t1_loop.trips) : BitVec 32 :=
  let c0_i32_8 : BitVec 32 := 0#32
  let c1_i32 : BitVec 32 := 1#32
  let arg19 : BitVec 32 := Scf.iv c0_i32_8 c1_i32 k0_t1
  let c4_i32_188 : BitVec 32 := 4#32
  let v596 : BitVec 32 := Scalar.muli arg19 c4_i32_188
  let c3_i32_189 : BitVec 32 := 3#32
  let v597 : BitVec 32 := Scalar.addi v596 c3_i32_189
  let c0_i32_191 : BitVec 32 := 0#32
  let v599 : BitVec 1 := Scalar.cmpi .sgt v597 c0_i32_191
  let v600 : BitVec 32 := Scalar.extui v599
  let c0_i32_192 : BitVec 32 := 0#32
  let v601 : BitVec 1 := Scalar.cmpi .slt v597 c0_i32_192
  let v602 : BitVec 32 := Scalar.extui v601
  let v603 : BitVec 32 := Scalar.subi v600 v602
  let c4_i32_190 : BitVec 32 := 4#32
  let c0_i32_193 : BitVec 32 := 0#32
  let v604 : BitVec 1 := Scalar.cmpi .sgt c4_i32_190 c0_i32_193
  let v605 : BitVec 32 := Scalar.extui v604
  let c0_i32_194 : BitVec 32 := 0#32
  let v606 : BitVec 1 := Scalar.cmpi .slt c4_i32_190 c0_i32_194
  let v607 : BitVec 32 := Scalar.extui v606
  let v608 : BitVec 32 := Scalar.subi v605 v607
  let v609 : BitVec 1 := Scalar.cmpi .ne v603 v608
  let v610 : BitVec 32 := Scalar.remsi v597 c4_i32_190
  let c0_i32_195 : BitVec 32 := 0#32
  let v611 : BitVec 1 := Scalar.cmpi .ne v610 c0_i32_195
  let v612 : BitVec 1 := Scalar.andi v609 v611
  let v598 : BitVec 32 := Scalar.divsi v597 c4_i32_190
  let c1_i32_196 : BitVec 32 := 1#32
  let v613 : BitVec 32 := Scalar.subi v598 c1_i32_196
  let v614 : BitVec 32 := Scalar.select v612 v613 v598
  let c128_i32_203 : BitVec 32 := 128#32
  let v625 : BitVec 32 := Scalar.muli v614 c128_i32_203
  v625
def k0_mult32 (k0_t1 : Fin k0_t1_loop.trips) : BitVec 32 :=
  let c1_i32_204 : BitVec 32 := 1#32
  let c0_i32_8 : BitVec 32 := 0#32
  let c1_i32 : BitVec 32 := 1#32
  let arg19 : BitVec 32 := Scf.iv c0_i32_8 c1_i32 k0_t1
  let c4_i32_188 : BitVec 32 := 4#32
  let v596 : BitVec 32 := Scalar.muli arg19 c4_i32_188
  let c3_i32_189 : BitVec 32 := 3#32
  let v597 : BitVec 32 := Scalar.addi v596 c3_i32_189
  let c0_i32_191 : BitVec 32 := 0#32
  let v599 : BitVec 1 := Scalar.cmpi .sgt v597 c0_i32_191
  let v600 : BitVec 32 := Scalar.extui v599
  let c0_i32_192 : BitVec 32 := 0#32
  let v601 : BitVec 1 := Scalar.cmpi .slt v597 c0_i32_192
  let v602 : BitVec 32 := Scalar.extui v601
  let v603 : BitVec 32 := Scalar.subi v600 v602
  let c4_i32_190 : BitVec 32 := 4#32
  let c0_i32_193 : BitVec 32 := 0#32
  let v604 : BitVec 1 := Scalar.cmpi .sgt c4_i32_190 c0_i32_193
  let v605 : BitVec 32 := Scalar.extui v604
  let c0_i32_194 : BitVec 32 := 0#32
  let v606 : BitVec 1 := Scalar.cmpi .slt c4_i32_190 c0_i32_194
  let v607 : BitVec 32 := Scalar.extui v606
  let v608 : BitVec 32 := Scalar.subi v605 v607
  let v609 : BitVec 1 := Scalar.cmpi .ne v603 v608
  let v610 : BitVec 32 := Scalar.remsi v597 c4_i32_190
  let c0_i32_195 : BitVec 32 := 0#32
  let v611 : BitVec 1 := Scalar.cmpi .ne v610 c0_i32_195
  let v612 : BitVec 1 := Scalar.andi v609 v611
  let v598 : BitVec 32 := Scalar.divsi v597 c4_i32_190
  let c1_i32_196 : BitVec 32 := 1#32
  let v613 : BitVec 32 := Scalar.subi v598 c1_i32_196
  let v614 : BitVec 32 := Scalar.select v612 v613 v598
  let v626 : BitVec 32 := Scalar.subi c1_i32_204 v614
  let c128_i32_205 : BitVec 32 := 128#32
  let v627 : BitVec 32 := Scalar.muli v626 c128_i32_205
  v627
def k0_off8 (c0_i32_15 : BitVec 32) : Fin 3 → Nat :=
  let c0_i32_14 : BitVec 32 := 0#32
  let c16_i32 : BitVec 32 := 16#32
  let v22 : BitVec 32 := Scalar.muli c0_i32_14 c16_i32
  let v23 : BitVec 32 := Scalar.addi v22 c0_i32_15
  let v24 : Index := Scalar.indexCast v23
  let c0_16 : Index := 0#32
  let c0_17 : Index := 0#32
  ![v24.toNat, 0, 0]
def k0_mult33 : BitVec 32 :=
  let c0_i32_14 : BitVec 32 := 0#32
  let c16_i32 : BitVec 32 := 16#32
  let v22 : BitVec 32 := Scalar.muli c0_i32_14 c16_i32
  let c0_i32_15 : BitVec 32 := 0#32
  let v23 : BitVec 32 := Scalar.addi v22 c0_i32_15
  let c512_i32 : BitVec 32 := 512#32
  let v44 : BitVec 32 := Scalar.muli v23 c512_i32
  v44
def k0_off9 (c0_i32_15 : BitVec 32) : Fin 3 → Nat :=
  let c0_18 : Index := 0#32
  let c0_i32_14 : BitVec 32 := 0#32
  let c16_i32 : BitVec 32 := 16#32
  let v22 : BitVec 32 := Scalar.muli c0_i32_14 c16_i32
  let v23 : BitVec 32 := Scalar.addi v22 c0_i32_15
  let c512_i32 : BitVec 32 := 512#32
  let v44 : BitVec 32 := Scalar.muli v23 c512_i32
  let v45 : BitVec 32 := v44
  let v46 : Index := Scalar.indexCast v45
  let c0_19 : Index := 0#32
  ![0, v46.toNat, 0]
def k0_mult34 : BitVec 32 :=
  let c0_i32_14 : BitVec 32 := 0#32
  let c16_i32_21 : BitVec 32 := 16#32
  let v51 : BitVec 32 := Scalar.muli c0_i32_14 c16_i32_21
  let c1_i32_22 : BitVec 32 := 1#32
  let v52 : BitVec 32 := Scalar.addi v51 c1_i32_22
  let c512_i32_25 : BitVec 32 := 512#32
  let v73 : BitVec 32 := Scalar.muli v52 c512_i32_25
  v73
def k0_mult35 : BitVec 32 :=
  let c0_i32_14 : BitVec 32 := 0#32
  let c16_i32_29 : BitVec 32 := 16#32
  let v80 : BitVec 32 := Scalar.muli c0_i32_14 c16_i32_29
  let c2_i32_30 : BitVec 32 := 2#32
  let v81 : BitVec 32 := Scalar.addi v80 c2_i32_30
  let c512_i32_33 : BitVec 32 := 512#32
  let v102 : BitVec 32 := Scalar.muli v81 c512_i32_33
  v102
def k0_mult36 : BitVec 32 :=
  let c0_i32_14 : BitVec 32 := 0#32
  let c16_i32_37 : BitVec 32 := 16#32
  let v109 : BitVec 32 := Scalar.muli c0_i32_14 c16_i32_37
  let c3_i32 : BitVec 32 := 3#32
  let v110 : BitVec 32 := Scalar.addi v109 c3_i32
  let c512_i32_40 : BitVec 32 := 512#32
  let v131 : BitVec 32 := Scalar.muli v110 c512_i32_40
  v131
def k0_mult37 : BitVec 32 :=
  let c0_i32_14 : BitVec 32 := 0#32
  let c16_i32_44 : BitVec 32 := 16#32
  let v138 : BitVec 32 := Scalar.muli c0_i32_14 c16_i32_44
  let c4_i32 : BitVec 32 := 4#32
  let v139 : BitVec 32 := Scalar.addi v138 c4_i32
  let c512_i32_47 : BitVec 32 := 512#32
  let v160 : BitVec 32 := Scalar.muli v139 c512_i32_47
  v160
def k0_mult38 : BitVec 32 :=
  let c0_i32_14 : BitVec 32 := 0#32
  let c16_i32_51 : BitVec 32 := 16#32
  let v167 : BitVec 32 := Scalar.muli c0_i32_14 c16_i32_51
  let c5_i32 : BitVec 32 := 5#32
  let v168 : BitVec 32 := Scalar.addi v167 c5_i32
  let c512_i32_54 : BitVec 32 := 512#32
  let v189 : BitVec 32 := Scalar.muli v168 c512_i32_54
  v189
def k0_mult39 : BitVec 32 :=
  let c0_i32_14 : BitVec 32 := 0#32
  let c16_i32_58 : BitVec 32 := 16#32
  let v196 : BitVec 32 := Scalar.muli c0_i32_14 c16_i32_58
  let c6_i32 : BitVec 32 := 6#32
  let v197 : BitVec 32 := Scalar.addi v196 c6_i32
  let c512_i32_61 : BitVec 32 := 512#32
  let v218 : BitVec 32 := Scalar.muli v197 c512_i32_61
  v218
def k0_mult40 : BitVec 32 :=
  let c0_i32_14 : BitVec 32 := 0#32
  let c16_i32_65 : BitVec 32 := 16#32
  let v225 : BitVec 32 := Scalar.muli c0_i32_14 c16_i32_65
  let c7_i32 : BitVec 32 := 7#32
  let v226 : BitVec 32 := Scalar.addi v225 c7_i32
  let c512_i32_68 : BitVec 32 := 512#32
  let v247 : BitVec 32 := Scalar.muli v226 c512_i32_68
  v247
def k0_mult41 : BitVec 32 :=
  let c0_i32_14 : BitVec 32 := 0#32
  let c16_i32_72 : BitVec 32 := 16#32
  let v254 : BitVec 32 := Scalar.muli c0_i32_14 c16_i32_72
  let c8_i32 : BitVec 32 := 8#32
  let v255 : BitVec 32 := Scalar.addi v254 c8_i32
  let c512_i32_75 : BitVec 32 := 512#32
  let v276 : BitVec 32 := Scalar.muli v255 c512_i32_75
  v276
def k0_mult42 : BitVec 32 :=
  let c0_i32_14 : BitVec 32 := 0#32
  let c16_i32_79 : BitVec 32 := 16#32
  let v283 : BitVec 32 := Scalar.muli c0_i32_14 c16_i32_79
  let c9_i32 : BitVec 32 := 9#32
  let v284 : BitVec 32 := Scalar.addi v283 c9_i32
  let c512_i32_82 : BitVec 32 := 512#32
  let v305 : BitVec 32 := Scalar.muli v284 c512_i32_82
  v305
def k0_mult43 : BitVec 32 :=
  let c0_i32_14 : BitVec 32 := 0#32
  let c16_i32_86 : BitVec 32 := 16#32
  let v312 : BitVec 32 := Scalar.muli c0_i32_14 c16_i32_86
  let c10_i32 : BitVec 32 := 10#32
  let v313 : BitVec 32 := Scalar.addi v312 c10_i32
  let c512_i32_89 : BitVec 32 := 512#32
  let v334 : BitVec 32 := Scalar.muli v313 c512_i32_89
  v334
def k0_mult44 : BitVec 32 :=
  let c0_i32_14 : BitVec 32 := 0#32
  let c16_i32_93 : BitVec 32 := 16#32
  let v341 : BitVec 32 := Scalar.muli c0_i32_14 c16_i32_93
  let c11_i32 : BitVec 32 := 11#32
  let v342 : BitVec 32 := Scalar.addi v341 c11_i32
  let c512_i32_96 : BitVec 32 := 512#32
  let v363 : BitVec 32 := Scalar.muli v342 c512_i32_96
  v363
def k0_mult45 : BitVec 32 :=
  let c0_i32_14 : BitVec 32 := 0#32
  let c16_i32_100 : BitVec 32 := 16#32
  let v370 : BitVec 32 := Scalar.muli c0_i32_14 c16_i32_100
  let c12_i32 : BitVec 32 := 12#32
  let v371 : BitVec 32 := Scalar.addi v370 c12_i32
  let c512_i32_103 : BitVec 32 := 512#32
  let v392 : BitVec 32 := Scalar.muli v371 c512_i32_103
  v392
def k0_mult46 : BitVec 32 :=
  let c0_i32_14 : BitVec 32 := 0#32
  let c16_i32_107 : BitVec 32 := 16#32
  let v399 : BitVec 32 := Scalar.muli c0_i32_14 c16_i32_107
  let c13_i32 : BitVec 32 := 13#32
  let v400 : BitVec 32 := Scalar.addi v399 c13_i32
  let c512_i32_110 : BitVec 32 := 512#32
  let v421 : BitVec 32 := Scalar.muli v400 c512_i32_110
  v421
def k0_mult47 : BitVec 32 :=
  let c0_i32_14 : BitVec 32 := 0#32
  let c16_i32_114 : BitVec 32 := 16#32
  let v428 : BitVec 32 := Scalar.muli c0_i32_14 c16_i32_114
  let c14_i32 : BitVec 32 := 14#32
  let v429 : BitVec 32 := Scalar.addi v428 c14_i32
  let c512_i32_117 : BitVec 32 := 512#32
  let v450 : BitVec 32 := Scalar.muli v429 c512_i32_117
  v450
def k0_mult48 : BitVec 32 :=
  let c0_i32_14 : BitVec 32 := 0#32
  let c16_i32_121 : BitVec 32 := 16#32
  let v457 : BitVec 32 := Scalar.muli c0_i32_14 c16_i32_121
  let c15_i32 : BitVec 32 := 15#32
  let v458 : BitVec 32 := Scalar.addi v457 c15_i32
  let c512_i32_124 : BitVec 32 := 512#32
  let v479 : BitVec 32 := Scalar.muli v458 c512_i32_124
  v479
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg1 c16_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg1 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![arg0.toNat, v9.toNat, v26.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_7 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_8 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg1 c16_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg1 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![arg0.toNat, v9.toNat, v26.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![c0_i32.toNat, arg0.toNat, v0.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 2 → Memref sig .tc .vmem S4x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4x1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x8192x512 : Shape := ⟨3, ![2, 8192, 512]⟩
abbrev S2x8192x256 : Shape := ⟨3, ![2, 8192, 256]⟩
abbrev S4x2x8192x128 : Shape := ⟨4, ![4, 2, 8192, 128]⟩
abbrev S2x8192x2x2x128 : Shape := ⟨5, ![2, 8192, 2, 2, 128]⟩
abbrev S2x8192x2x128 : Shape := ⟨4, ![2, 8192, 2, 128]⟩
abbrev S2x2x8192x8192x2 : Shape := ⟨5, ![2, 2, 8192, 8192, 2]⟩
abbrev S2x2x2x8192x8192 : Shape := ⟨5, ![2, 2, 2, 8192, 8192]⟩
abbrev S_ : Shape := ⟨0, ![]⟩
abbrev S2x2x2x8192 : Shape := ⟨4, ![2, 2, 2, 8192]⟩
abbrev S2x2x2x8192x1 : Shape := ⟨5, ![2, 2, 2, 8192, 1]⟩
abbrev S2x2x128x2x8192 : Shape := ⟨5, ![2, 2, 128, 2, 8192]⟩

abbrev nBuf : Space → Nat
  | .hbm => 29
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x256, .f32⟩
  | .hbm, ⟨2, _⟩ => ⟨S2x8192x256, .f32⟩
  | .hbm, ⟨3, _⟩ => ⟨S4x2x8192x128, .f32⟩
  | .hbm, ⟨4, _⟩ => ⟨S4x2x8192x128, .f32⟩
  | .hbm, ⟨5, _⟩ => ⟨S4x2x8192x128, .f32⟩
  | .hbm, ⟨6, _⟩ => ⟨S4x2x8192x128, .f32⟩
  | .hbm, ⟨7, _⟩ => ⟨S2x8192x2x2x128, .f32⟩
  | .hbm, ⟨8, _⟩ => ⟨S2x8192x2x128, .f32⟩
  | .hbm, ⟨9, _⟩ => ⟨S2x8192x2x128, .f32⟩
  | .hbm, ⟨10, _⟩ => ⟨S2x2x8192x8192x2, .f32⟩
  | .hbm, ⟨11, _⟩ => ⟨S2x2x2x8192x8192, .f32⟩
  | .hbm, ⟨12, _⟩ => ⟨S_, .f32⟩
  | .hbm, ⟨13, _⟩ => ⟨S2x2x2x8192, .f32⟩
  | .hbm, ⟨14, _⟩ => ⟨S_, .f32⟩
  | .hbm, ⟨15, _⟩ => ⟨S2x2x2x8192, .f32⟩
  | .hbm, ⟨16, _⟩ => ⟨S2x2x2x8192, .f32⟩
  | .hbm, ⟨17, _⟩ => ⟨S2x2x2x8192x1, .f32⟩
  | .hbm, ⟨18, _⟩ => ⟨S2x2x2x8192x8192, .f32⟩
  | .hbm, ⟨19, _⟩ => ⟨S2x2x2x8192x8192, .f32⟩
  | .hbm, ⟨20, _⟩ => ⟨S2x2x2x8192x8192, .f32⟩
  | .hbm, ⟨21, _⟩ => ⟨S_, .f32⟩
  | .hbm, ⟨22, _⟩ => ⟨S2x2x2x8192, .f32⟩
  | .hbm, ⟨23, _⟩ => ⟨S2x2x2x8192x1, .f32⟩
  | .hbm, ⟨24, _⟩ => ⟨S2x2x2x8192x8192, .f32⟩
  | .hbm, ⟨25, _⟩ => ⟨S2x2x2x8192x8192, .f32⟩
  | .hbm, ⟨26, _⟩ => ⟨S2x2x128x2x8192, .f32⟩
  | .hbm, ⟨27, _⟩ => ⟨S2x8192x2x2x128, .f32⟩
  | .hbm, ⟨28, _⟩ => ⟨S2x8192x512, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S4x16384x128 : Shape := ⟨3, ![4, 16384, 128]⟩
abbrev S1x512 : Shape := ⟨2, ![1, 512]⟩
abbrev S1x128 : Shape := ⟨2, ![1, 128]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S512x512 : Shape := ⟨2, ![512, 512]⟩
abbrev S4x512x128 : Shape := ⟨3, ![4, 512, 128]⟩
abbrev S512 : Shape := ⟨1, ![512]⟩
abbrev S512x1 : Shape := ⟨2, ![512, 1]⟩
abbrev S1x512x128 : Shape := ⟨3, ![1, 512, 128]⟩
abbrev S512x128 : Shape := ⟨2, ![512, 128]⟩
abbrev S1024x2816 : Shape := ⟨2, ![1024, 2816]⟩
abbrev S512x2816 : Shape := ⟨2, ![512, 2816]⟩

abbrev nBuf : Space → Nat
  | .hbm => 14
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S4x16384x128, .f32⟩
  | .hbm, ⟨3, _⟩ => ⟨S4x16384x128, .f32⟩
  | .hbm, ⟨4, _⟩ => ⟨S16384x512, .f32⟩
  | .hbm, ⟨5, _⟩ => ⟨S1x512, .f32⟩
  | .hbm, ⟨6, _⟩ => ⟨S1x128, .f32⟩
  | .hbm, ⟨7, _⟩ => ⟨S1024x1024, .f32⟩
  | .hbm, ⟨8, _⟩ => ⟨S1x1024, .f32⟩
  | .hbm, ⟨9, _⟩ => ⟨S1024x5632, .f32⟩
  | .hbm, ⟨10, _⟩ => ⟨S2816x1024, .f32⟩
  | .hbm, ⟨11, _⟩ => ⟨S1x1024, .f32⟩
  | .hbm, ⟨12, _⟩ => ⟨S1024x5632, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S4x512x128, .f32⟩
  | .local _ .vmem, ⟨5, _⟩ => ⟨S4x512x128, .f32⟩
  | .local _ .vmem, ⟨6, _⟩ => ⟨S4x512x128, .f32⟩
  | .local _ .vmem, ⟨7, _⟩ => ⟨S4x512x128, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1x128, .f32⟩
  | .local _ .vmem, ⟨12, _⟩ => ⟨S1024x1024, .f32⟩
  | .local _ .vmem, ⟨13, _⟩ => ⟨S1x1024, .f32⟩
  | .local _ .vmem, ⟨14, _⟩ => ⟨S1024x5632, .bf16⟩
  | .local _ .vmem, ⟨15, _⟩ => ⟨S2816x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel2Ideal.lean ====
variable {F : FTy → Type} [FloatOps F] [Named F]
def κ : String → Option EReal := fun
  | "nlog2e" => some ((-((Real.log 2)⁻¹) : ℝ) : EReal)
  | _ => none
-- ==== Reference2Ideal.lean ====
abbrev S16384x1024 : Shape := ⟨2, ![16384, 1024]⟩
abbrev S16384x512 : Shape := ⟨2, ![16384, 512]⟩
abbrev S4x16384x128 : Shape := ⟨3, ![4, 16384, 128]⟩
abbrev S1x512 : Shape := ⟨2, ![1, 512]⟩
abbrev S1x128 : Shape := ⟨2, ![1, 128]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S512 : Shape := ⟨1, ![512]⟩
abbrev S_ : Shape := ⟨0, ![]⟩
abbrev S16384 : Shape := ⟨1, ![16384]⟩
abbrev S16384x1 : Shape := ⟨2, ![16384, 1]⟩
abbrev S4x2x8192x128 : Shape := ⟨4, ![4, 2, 8192, 128]⟩
abbrev S2x8192x4x128 : Shape := ⟨4, ![2, 8192, 4, 128]⟩
abbrev S128 : Shape := ⟨1, ![128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S1024 : Shape := ⟨1, ![1024]⟩
abbrev S16384x5632 : Shape := ⟨2, ![16384, 5632]⟩
abbrev S16384x2816 : Shape := ⟨2, ![16384, 2816]⟩

abbrev nBuf : Space → Nat
  | .hbm => 117
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S4x16384x128, .f32⟩
  | .hbm, ⟨3, _⟩ => ⟨S4x16384x128, .f32⟩
  | .hbm, ⟨4, _⟩ => ⟨S16384x512, .f32⟩
  | .hbm, ⟨5, _⟩ => ⟨S1x512, .f32⟩
  | .hbm, ⟨6, _⟩ => ⟨S1x128, .f32⟩
  | .hbm, ⟨7, _⟩ => ⟨S1024x1024, .f32⟩
  | .hbm, ⟨8, _⟩ => ⟨S1x1024, .f32⟩
  | .hbm, ⟨9, _⟩ => ⟨S1024x5632, .f32⟩
  | .hbm, ⟨10, _⟩ => ⟨S2816x1024, .f32⟩
  | .hbm, ⟨11, _⟩ => ⟨S1x1024, .f32⟩
  | .hbm, ⟨12, _⟩ => ⟨S512, .f32⟩
  | .hbm, ⟨13, _⟩ => ⟨S16384x512, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x512, .f32⟩
  | .hbm, ⟨25, _⟩ => ⟨S16384x512, .f32⟩
  | .hbm, ⟨26, _⟩ => ⟨S1x512, .f32⟩
  | .hbm, ⟨27, _⟩ => ⟨S16384x512, .f32⟩
  | .hbm, ⟨28, _⟩ => ⟨S16384x512, .f32⟩
  | .hbm, ⟨29, _⟩ => ⟨S4x2x8192x128, .f32⟩
  | .hbm, ⟨30, _⟩ => ⟨S2x8192x4x128, .f32⟩
  | .hbm, ⟨31, _⟩ => ⟨S4x2x8192x128, .f32⟩
  | .hbm, ⟨32, _⟩ => ⟨S2x8192x4x128, .f32⟩
  | .hbm, ⟨33, _⟩ => ⟨S2x8192x4x128, .f32⟩
  | .hbm, ⟨34, _⟩ => ⟨S128, .f32⟩
  | .hbm, ⟨35, _⟩ => ⟨S2x8192x4x128, .f32⟩
  | .hbm, ⟨36, _⟩ => ⟨S_, .f32⟩
  | .hbm, ⟨37, _⟩ => ⟨S2x8192x4, .f32⟩
  | .hbm, ⟨38, _⟩ => ⟨S2x8192x4x1, .f32⟩
  | .hbm, ⟨39, _⟩ => ⟨S_, .f32⟩
  | .hbm, ⟨40, _⟩ => ⟨S2x8192x4x1, .f32⟩
  | .hbm, ⟨41, _⟩ => ⟨S2x8192x4x1, .f32⟩
  | .hbm, ⟨42, _⟩ => ⟨S_, .f32⟩
  | .hbm, ⟨43, _⟩ => ⟨S2x8192x4x1, .f32⟩
  | .hbm, ⟨44, _⟩ => ⟨S2x8192x4x1, .f32⟩
  | .hbm, ⟨45, _⟩ => ⟨S2x8192x4x1, .f32⟩
  | .hbm, ⟨46, _⟩ => ⟨S2x8192x4x128, .f32⟩
  | .hbm, ⟨47, _⟩ => ⟨S2x8192x4x128, .f32⟩
  | .hbm, ⟨48, _⟩ => ⟨S1x1x1x128, .f32⟩
  | .hbm, ⟨49, _⟩ => ⟨S2x8192x4x128, .f32⟩
  | .hbm, ⟨50, _⟩ => ⟨S2x8192x4x128, .f32⟩
  | .hbm, ⟨51, _⟩ => ⟨S16384x512, .f32⟩
  | .hbm, ⟨52, _⟩ => ⟨S16384x512, .f32⟩
  | .hbm, ⟨53, _⟩ => ⟨S16384x512, .f32⟩
  | .hbm, ⟨54, _⟩ => ⟨S_, .f32⟩
  | .hbm, ⟨55, _⟩ => ⟨S16384x512, .f32⟩
  | .hbm, ⟨56, _⟩ => ⟨S16384x512, .f32⟩
  | .hbm, ⟨57, _⟩ => ⟨S_, .f32⟩
  | .hbm, ⟨58, _⟩ => ⟨S16384x512, .f32⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S1024, .f32⟩
  | .hbm, ⟨66, _⟩ => ⟨S16384x1024, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S16384x1, .f32⟩
  | .hbm, ⟨77, _⟩ => ⟨S16384x1024, .f32⟩
  | .hbm, ⟨78, _⟩ => ⟨S16384x1024, .f32⟩
  | .hbm, ⟨79, _⟩ => ⟨S1x1024, .f32⟩
  | .hbm, ⟨80, _⟩ => ⟨S16384x1024, .f32⟩
  | .hbm, ⟨81, _⟩ => ⟨S16384x1024, .f32⟩
  | .hbm, ⟨82, _⟩ => ⟨S16384x5632, .f32⟩
  | .hbm, ⟨83, _⟩ => ⟨S16384x2816, .f32⟩
  | .hbm, ⟨84, _⟩ => ⟨S16384x2816, .f32⟩
  | .hbm, ⟨85, _⟩ => ⟨S16384x2816, .f32⟩
  | .hbm, ⟨86, _⟩ => ⟨S16384x2816, .f32⟩
  | .hbm, ⟨87, _⟩ => ⟨S_, .f32⟩
  | .hbm, ⟨88, _⟩ => ⟨S16384x2816, .f32⟩
  | .hbm, ⟨89, _⟩ => ⟨S16384x2816, .f32⟩
  | .hbm, ⟨90, _⟩ => ⟨S_, .f32⟩
  | .hbm, ⟨91, _⟩ => ⟨S16384x2816, .f32⟩
  | .hbm, ⟨92, _⟩ => ⟨S16384x2816, .f32⟩
  | .hbm, ⟨93, _⟩ => ⟨S16384x2816, .f32⟩
  | .hbm, ⟨94, _⟩ => ⟨S16384x2816, .f32⟩
  | .hbm, ⟨95, _⟩ => ⟨S16384x1024, .f32⟩
  | .hbm, ⟨96, _⟩ => ⟨S_, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S1024, .f32⟩
  | .hbm, ⟨101, _⟩ => ⟨S16384x1024, .f32⟩
  | .hbm, ⟨102, _⟩ => ⟨S_, .f32⟩
  | .hbm, ⟨103, _⟩ => ⟨S16384, .f32⟩
  | .hbm, ⟨104, _⟩ => ⟨S16384x1, .f32⟩
  | .hbm, ⟨105, _⟩ => ⟨S_, .f32⟩
  | .hbm, ⟨106, _⟩ => ⟨S16384x1, .f32⟩
  | .hbm, ⟨107, _⟩ => ⟨S16384x1, .f32⟩
  | .hbm, ⟨108, _⟩ => ⟨S_, .f32⟩
  | .hbm, ⟨109, _⟩ => ⟨S16384x1, .f32⟩
  | .hbm, ⟨110, _⟩ => ⟨S16384x1, .f32⟩
  | .hbm, ⟨111, _⟩ => ⟨S16384x1, .f32⟩
  | .hbm, ⟨112, _⟩ => ⟨S16384x1024, .f32⟩
  | .hbm, ⟨113, _⟩ => ⟨S16384x1024, .f32⟩
  | .hbm, ⟨114, _⟩ => ⟨S1x1024, .f32⟩
  | .hbm, ⟨115, _⟩ => ⟨S16384x1024, .f32⟩
  | .hbm, ⟨116, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_call1_v5 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_8 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_9 : Ref sig .tc := ⟨.hbm, 102, rfl⟩
abbrev main_v64 : Ref sig .tc := ⟨.hbm, 103, rfl⟩
abbrev main_v65 : Ref sig .tc := ⟨.hbm, 104, rfl⟩
abbrev main_cst_10 : Ref sig .tc := ⟨.hbm, 105, rfl⟩
abbrev main_v66 : Ref sig .tc := ⟨.hbm, 106, rfl⟩
abbrev main_v67 : Ref sig .tc := ⟨.hbm, 107, rfl⟩
abbrev main_cst_11 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S32x5632 : Shape := ⟨2, ![32, 5632]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1024x5632, .f32⟩
  | .hbm, ⟨5, _⟩ => ⟨S16384x1024, .f32⟩
  | .hbm, ⟨6, _⟩ => ⟨S1024x5632, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .f32⟩
  | .local _ .vmem, ⟨4, _⟩ => ⟨S2816x1024, .f32⟩
  | .local _ .vmem, ⟨5, _⟩ => ⟨S32x5632, .f32⟩
  | .local _ .vmem, ⟨6, _⟩ => ⟨S32x5632, .f32⟩
  | .local _ .vmem, ⟨7, _⟩ => ⟨S512x1024, .f32⟩
  | .local _ .vmem, ⟨8, _⟩ => ⟨S512x1024, .f32⟩
  | .local _ .vmem, ⟨9, _⟩ => ⟨S32x5632, .bf16⟩
  | .local _ .vmem, ⟨10, _⟩ => ⟨S32x5632, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel3Ideal.lean ====
variable {F : FTy → Type} [FloatOps F] [Named F]
def κ : String → Option EReal := fun
  | "nlog2e" => some ((-((Real.log 2)⁻¹) : ℝ) : EReal)
  | _ => none
-- ==== Reference3Ideal.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1024x5632, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x5632, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S1024x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S1024x3584 : Shape := ⟨2, ![1024, 3584]⟩
abbrev S1x128 : Shape := ⟨2, ![1, 128]⟩
abbrev S2x512 : Shape := ⟨2, ![2, 512]⟩
abbrev S8192x32 : Shape := ⟨2, ![8192, 32]⟩
abbrev S8192x128 : Shape := ⟨2, ![8192, 128]⟩
abbrev S16384x512 : Shape := ⟨2, ![16384, 512]⟩
abbrev S16384x256 : Shape := ⟨2, ![16384, 256]⟩
abbrev S4x16384x128 : Shape := ⟨3, ![4, 16384, 128]⟩
abbrev S1024x1024 : Shape := ⟨2, ![1024, 1024]⟩
abbrev S1024x128 : Shape := ⟨2, ![1024, 128]⟩
abbrev S1024x512 : Shape := ⟨2, ![1024, 512]⟩
abbrev S1024x256 : Shape := ⟨2, ![1024, 256]⟩
abbrev S4x1024x128 : Shape := ⟨3, ![4, 1024, 128]⟩
abbrev S1024 : Shape := ⟨1, ![1024]⟩
abbrev S1024x1 : Shape := ⟨2, ![1024, 1]⟩
abbrev S1x512 : Shape := ⟨2, ![1, 512]⟩
abbrev S1x1024x128 : Shape := ⟨3, ![1, 1024, 128]⟩

abbrev nBuf : Space → Nat
  | .hbm => 22
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3584, .f32⟩
  | .hbm, ⟨3, _⟩ => ⟨S1x128, .f32⟩
  | .hbm, ⟨4, _⟩ => ⟨S1x128, .f32⟩
  | .hbm, ⟨5, _⟩ => ⟨S2x512, .f32⟩
  | .hbm, ⟨6, _⟩ => ⟨S8192x32, .f32⟩
  | .hbm, ⟨7, _⟩ => ⟨S8192x32, .f32⟩
  | .hbm, ⟨8, _⟩ => ⟨S8192x32, .f32⟩
  | .hbm, ⟨9, _⟩ => ⟨S8192x32, .f32⟩
  | .hbm, ⟨10, _⟩ => ⟨S8192x128, .f32⟩
  | .hbm, ⟨11, _⟩ => ⟨S8192x32, .f32⟩
  | .hbm, ⟨12, _⟩ => ⟨S8192x32, .f32⟩
  | .hbm, ⟨13, _⟩ => ⟨S8192x128, .f32⟩
  | .hbm, ⟨14, _⟩ => ⟨S16384x512, .f32⟩
  | .hbm, ⟨15, _⟩ => ⟨S16384x256, .bf16⟩
  | .hbm, ⟨16, _⟩ => ⟨S16384x512, .bf16⟩
  | .hbm, ⟨17, _⟩ => ⟨S4x16384x128, .f32⟩
  | .hbm, ⟨18, _⟩ => ⟨S4x16384x128, .f32⟩
  | .hbm, ⟨19, _⟩ => ⟨S4x16384x128, .f32⟩
  | .hbm, ⟨20, _⟩ => ⟨S4x16384x128, .f32⟩
  | .hbm, ⟨21, _⟩ => ⟨S16384x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3584, .f32⟩
  | .local _ .vmem, ⟨4, _⟩ => ⟨S1x128, .f32⟩
  | .local _ .vmem, ⟨5, _⟩ => ⟨S1x128, .f32⟩
  | .local _ .vmem, ⟨6, _⟩ => ⟨S2x512, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x512, .f32⟩
  | .local _ .vmem, ⟨12, _⟩ => ⟨S1024x512, .f32⟩
  | .local _ .vmem, ⟨13, _⟩ => ⟨S1024x256, .bf16⟩
  | .local _ .vmem, ⟨14, _⟩ => ⟨S1024x256, .bf16⟩
  | .local _ .vmem, ⟨15, _⟩ => ⟨S1024x512, .bf16⟩
  | .local _ .vmem, ⟨16, _⟩ => ⟨S1024x512, .bf16⟩
  | .local _ .vmem, ⟨17, _⟩ => ⟨S4x1024x128, .f32⟩
  | .local _ .vmem, ⟨18, _⟩ => ⟨S4x1024x128, .f32⟩
  | .local _ .vmem, ⟨19, _⟩ => ⟨S4x1024x128, .f32⟩
  | .local _ .vmem, ⟨20, _⟩ => ⟨S4x1024x128, .f32⟩
  | .local _ .vmem, ⟨21, _⟩ => ⟨S4x1024x128, .f32⟩
  | .local _ .vmem, ⟨22, _⟩ => ⟨S4x1024x128, .f32⟩
  | .local _ .vmem, ⟨23, _⟩ => ⟨S4x1024x128, .f32⟩
  | .local _ .vmem, ⟨24, _⟩ => ⟨S4x1024x128, .f32⟩
  | .local _ .vmem, ⟨25, _⟩ => ⟨S1024x512, .f32⟩
  | .local _ .vmem, ⟨26, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev main_v4_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel4Ideal.lean ====
variable {F : FTy → Type} [FloatOps F] [Named F]
def κ : String → Option EReal := fun
  | "nlog2e" => some ((-((Real.log 2)⁻¹) : ℝ) : EReal)
  | _ => none
-- ==== Reference4Ideal.lean ====
abbrev S16384x1024 : Shape := ⟨2, ![16384, 1024]⟩
abbrev S1x1024 : Shape := ⟨2, ![1, 1024]⟩
abbrev S1024x3584 : Shape := ⟨2, ![1024, 3584]⟩
abbrev S1x128 : Shape := ⟨2, ![1, 128]⟩
abbrev S2x512 : Shape := ⟨2, ![2, 512]⟩
abbrev S8192x32 : Shape := ⟨2, ![8192, 32]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x3584 : Shape := ⟨2, ![16384, 3584]⟩
abbrev S16384x512 : Shape := ⟨2, ![16384, 512]⟩
abbrev S16384x256 : Shape := ⟨2, ![16384, 256]⟩
abbrev S2x8192x4x128 : Shape := ⟨4, ![2, 8192, 4, 128]⟩
abbrev S128 : Shape := ⟨1, ![128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S8192x1x32 : Shape := ⟨3, ![8192, 1, 32]⟩
abbrev S2x8192x4x64 : Shape := ⟨4, ![2, 8192, 4, 64]⟩
abbrev S2x8192x4x32 : Shape := ⟨4, ![2, 8192, 4, 32]⟩
abbrev S1x8192x1x32 : Shape := ⟨4, ![1, 8192, 1, 32]⟩
abbrev S2x8192x2x128 : Shape := ⟨4, ![2, 8192, 2, 128]⟩
abbrev S2x8192x2 : Shape := ⟨3, ![2, 8192, 2]⟩
abbrev S2x8192x2x1 : Shape := ⟨4, ![2, 8192, 2, 1]⟩
abbrev S2x8192x2x64 : Shape := ⟨4, ![2, 8192, 2, 64]⟩
abbrev S2x8192x2x32 : Shape := ⟨4, ![2, 8192, 2, 32]⟩
abbrev S16384x128 : Shape := ⟨2, ![16384, 128]⟩
abbrev S16384x4x128 : Shape := ⟨3, ![16384, 4, 128]⟩
abbrev S4x16384x128 : Shape := ⟨3, ![4, 16384, 128]⟩
abbrev S1x512 : Shape := ⟨2, ![1, 512]⟩
abbrev S512 : Shape := ⟨1, ![512]⟩

abbrev nBuf : Space → Nat
  | .hbm => 220
  | .vmem => 0
  | .smem => 0
  | _ => 0

abbrev hbmTy0_0 (i : Nat) : BufTy := match i % 128 with
  | 0 => ⟨S16384x1024, .f32⟩
  | 1 => ⟨S1x1024, .f32⟩
  | 2 => ⟨S1024x3584, .f32⟩
  | 3 => ⟨S1x128, .f32⟩
  | 4 => ⟨S1x128, .f32⟩
  | 5 => ⟨S2x512, .f32⟩
  | 6 => ⟨S8192x32, .f32⟩
  | 7 => ⟨S8192x32, .f32⟩
  | 8 => ⟨S8192x32, .f32⟩
  | 9 => ⟨S8192x32, .f32⟩
  | 10 => ⟨S1024, .f32⟩
  | 11 => ⟨S16384x1024, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1, .f32⟩
  | 22 => ⟨S16384x1024, .f32⟩
  | 23 => ⟨S16384x1024, .f32⟩
  | 24 => ⟨S1x1024, .f32⟩
  | 25 => ⟨S16384x1024, .f32⟩
  | 26 => ⟨S16384x1024, .f32⟩
  | 27 => ⟨S16384x3584, .f32⟩
  | 28 => ⟨S16384x512, .f32⟩
  | 29 => ⟨S16384x256, .f32⟩
  | 30 => ⟨S16384x256, .f32⟩
  | 31 => ⟨S16384x512, .f32⟩
  | 32 => ⟨S16384x512, .f32⟩
  | 33 => ⟨S16384x512, .f32⟩
  | 34 => ⟨S16384x512, .f32⟩
  | 35 => ⟨S16384x512, .f32⟩
  | 36 => ⟨S2x8192x4x128, .f32⟩
  | 37 => ⟨S128, .f32⟩
  | 38 => ⟨S2x8192x4x128, .f32⟩
  | 39 => ⟨S_, .f32⟩
  | 40 => ⟨S2x8192x4, .f32⟩
  | 41 => ⟨S2x8192x4x1, .f32⟩
  | 42 => ⟨S_, .f32⟩
  | 43 => ⟨S2x8192x4x1, .f32⟩
  | 44 => ⟨S2x8192x4x1, .f32⟩
  | 45 => ⟨S_, .f32⟩
  | 46 => ⟨S2x8192x4x1, .f32⟩
  | 47 => ⟨S2x8192x4x1, .f32⟩
  | 48 => ⟨S2x8192x4x1, .f32⟩
  | 49 => ⟨S2x8192x4x128, .f32⟩
  | 50 => ⟨S2x8192x4x128, .f32⟩
  | 51 => ⟨S1x1x1x128, .f32⟩
  | 52 => ⟨S2x8192x4x128, .f32⟩
  | 53 => ⟨S2x8192x4x128, .f32⟩
  | 54 => ⟨S8192x1x32, .f32⟩
  | 55 => ⟨S8192x1x32, .f32⟩
  | 56 => ⟨S8192x1x32, .f32⟩
  | 57 => ⟨S8192x1x32, .f32⟩
  | 58 => ⟨S2x8192x4x64, .f32⟩
  | 59 => ⟨S2x8192x4x32, .f32⟩
  | 60 => ⟨S2x8192x4x32, .f32⟩
  | 61 => ⟨S1x8192x1x32, .f32⟩
  | 62 => ⟨S2x8192x4x32, .f32⟩
  | 63 => ⟨S2x8192x4x32, .f32⟩
  | 64 => ⟨S1x8192x1x32, .f32⟩
  | 65 => ⟨S2x8192x4x32, .f32⟩
  | 66 => ⟨S2x8192x4x32, .f32⟩
  | 67 => ⟨S2x8192x4x32, .f32⟩
  | 68 => ⟨S1x8192x1x32, .f32⟩
  | 69 => ⟨S2x8192x4x32, .f32⟩
  | 70 => ⟨S2x8192x4x32, .f32⟩
  | 71 => ⟨S1x8192x1x32, .f32⟩
  | 72 => ⟨S2x8192x4x32, .f32⟩
  | 73 => ⟨S2x8192x4x32, .f32⟩
  | 74 => ⟨S2x8192x4x32, .f32⟩
  | 75 => ⟨S2x8192x4x64, .f32⟩
  | 76 => ⟨S2x8192x4x64, .f32⟩
  | 77 => ⟨S2x8192x4x32, .f32⟩
  | 78 => ⟨S2x8192x4x32, .f32⟩
  | 79 => ⟨S1x8192x1x32, .f32⟩
  | 80 => ⟨S2x8192x4x32, .f32⟩
  | 81 => ⟨S2x8192x4x32, .f32⟩
  | 82 => ⟨S1x8192x1x32, .f32⟩
  | 83 => ⟨S2x8192x4x32, .f32⟩
  | 84 => ⟨S2x8192x4x32, .f32⟩
  | 85 => ⟨S2x8192x4x32, .f32⟩
  | 86 => ⟨S1x8192x1x32, .f32⟩
  | 87 => ⟨S2x8192x4x32, .f32⟩
  | 88 => ⟨S2x8192x4x32, .f32⟩
  | 89 => ⟨S1x8192x1x32, .f32⟩
  | 90 => ⟨S2x8192x4x32, .f32⟩
  | 91 => ⟨S2x8192x4x32, .f32⟩
  | 92 => ⟨S2x8192x4x32, .f32⟩
  | 93 => ⟨S2x8192x4x64, .f32⟩
  | 94 => ⟨S2x8192x4x128, .f32⟩
  | 95 => ⟨S_, .f32⟩
  | 96 => ⟨S2x8192x4x128, .f32⟩
  | 97 => ⟨S2x8192x4x128, .f32⟩
  | 98 => ⟨S2x8192x2x128, .f32⟩
  | 99 => ⟨S128, .f32⟩
  | 100 => ⟨S2x8192x2x128, .f32⟩
  | 101 => ⟨S_, .f32⟩
  | 102 => ⟨S2x8192x2, .f32⟩
  | 103 => ⟨S2x8192x2x1, .f32⟩
  | 104 => ⟨S_, .f32⟩
  | 105 => ⟨S2x8192x2x1, .f32⟩
  | 106 => ⟨S2x8192x2x1, .f32⟩
  | 107 => ⟨S_, .f32⟩
  | 108 => ⟨S2x8192x2x1, .f32⟩
  | 109 => ⟨S2x8192x2x1, .f32⟩
  | 110 => ⟨S2x8192x2x1, .f32⟩
  | 111 => ⟨S2x8192x2x128, .f32⟩
  | 112 => ⟨S2x8192x2x128, .f32⟩
  | 113 => ⟨S1x1x1x128, .f32⟩
  | 114 => ⟨S2x8192x2x128, .f32⟩
  | 115 => ⟨S2x8192x2x128, .f32⟩
  | 116 => ⟨S8192x1x32, .f32⟩
  | 117 => ⟨S8192x1x32, .f32⟩
  | 118 => ⟨S8192x1x32, .f32⟩
  | 119 => ⟨S8192x1x32, .f32⟩
  | 120 => ⟨S2x8192x2x64, .f32⟩
  | 121 => ⟨S2x8192x2x32, .f32⟩
  | 122 => ⟨S2x8192x2x32, .f32⟩
  | 123 => ⟨S1x8192x1x32, .f32⟩
  | 124 => ⟨S2x8192x2x32, .f32⟩
  | 125 => ⟨S2x8192x2x32, .f32⟩
  | 126 => ⟨S1x8192x1x32, .f32⟩
  | 127 => ⟨S2x8192x2x32, .f32⟩
  | _ => ⟨S16384x1024, .f32⟩

abbrev hbmTy0_1 (i : Nat) : BufTy := match i % 128 with
  | 0 => ⟨S2x8192x2x32, .f32⟩
  | 1 => ⟨S2x8192x2x32, .f32⟩
  | 2 => ⟨S1x8192x1x32, .f32⟩
  | 3 => ⟨S2x8192x2x32, .f32⟩
  | 4 => ⟨S2x8192x2x32, .f32⟩
  | 5 => ⟨S1x8192x1x32, .f32⟩
  | 6 => ⟨S2x8192x2x32, .f32⟩
  | 7 => ⟨S2x8192x2x32, .f32⟩
  | 8 => ⟨S2x8192x2x32, .f32⟩
  | 9 => ⟨S2x8192x2x64, .f32⟩
  | 10 => ⟨S2x8192x2x64, .f32⟩
  | 11 => ⟨S2x8192x2x32, .f32⟩
  | 12 => ⟨S2x8192x2x32, .f32⟩
  | 13 => ⟨S1x8192x1x32, .f32⟩
  | 14 => ⟨S2x8192x2x32, .f32⟩
  | 15 => ⟨S2x8192x2x32, .f32⟩
  | 16 => ⟨S1x8192x1x32, .f32⟩
  | 17 => ⟨S2x8192x2x32, .f32⟩
  | 18 => ⟨S2x8192x2x32, .f32⟩
  | 19 => ⟨S2x8192x2x32, .f32⟩
  | 20 => ⟨S1x8192x1x32, .f32⟩
  | 21 => ⟨S2x8192x2x32, .f32⟩
  | 22 => ⟨S2x8192x2x32, .f32⟩
  | 23 => ⟨S1x8192x1x32, .f32⟩
  | 24 => ⟨S2x8192x2x32, .f32⟩
  | 25 => ⟨S2x8192x2x32, .f32⟩
  | 26 => ⟨S2x8192x2x32, .f32⟩
  | 27 => ⟨S2x8192x2x64, .f32⟩
  | 28 => ⟨S2x8192x2x128, .f32⟩
  | 29 => ⟨S_, .f32⟩
  | 30 => ⟨S16384x128, .f32⟩
  | 31 => ⟨S16384x128, .f32⟩
  | 32 => ⟨S16384x128, .f32⟩
  | 33 => ⟨S16384x512, .f32⟩
  | 34 => ⟨S16384x512, .f32⟩
  | 35 => ⟨S16384x256, .f32⟩
  | 36 => ⟨S16384x256, .bf16⟩
  | 37 => ⟨S16384x512, .bf16⟩
  | 38 => ⟨S16384x4x128, .f32⟩
  | 39 => ⟨S4x16384x128, .f32⟩
  | 40 => ⟨S1x512, .f32⟩
  | 41 => ⟨S512, .f32⟩
  | 42 => ⟨S_, .f32⟩
  | 43 => ⟨S512, .f32⟩
  | 44 => ⟨S512, .f32⟩
  | 45 => ⟨S16384x512, .f32⟩
  | 46 => ⟨S16384x512, .f32⟩
  | 47 => ⟨S_, .f32⟩
  | 48 => ⟨S16384x512, .f32⟩
  | 49 => ⟨S16384x512, .f32⟩
  | 50 => ⟨S_, .f32⟩
  | 51 => ⟨S16384x512, .f32⟩
  | 52 => ⟨S16384x512, .f32⟩
  | 53 => ⟨S1x512, .f32⟩
  | 54 => ⟨S16384x512, .f32⟩
  | 55 => ⟨S16384x512, .f32⟩
  | 56 => ⟨S1x512, .f32⟩
  | 57 => ⟨S16384x512, .f32⟩
  | 58 => ⟨S16384x512, .f32⟩
  | 59 => ⟨S16384x512, .f32⟩
  | 60 => ⟨S_, .f32⟩
  | 61 => ⟨S16384x512, .f32⟩
  | 62 => ⟨S16384x512, .f32⟩
  | 63 => ⟨S16384x4x128, .f32⟩
  | 64 => ⟨S4x16384x128, .f32⟩
  | 65 => ⟨S1x512, .f32⟩
  | 66 => ⟨S512, .f32⟩
  | 67 => ⟨S_, .f32⟩
  | 68 => ⟨S512, .f32⟩
  | 69 => ⟨S512, .f32⟩
  | 70 => ⟨S16384x512, .f32⟩
  | 71 => ⟨S16384x512, .f32⟩
  | 72 => ⟨S_, .f32⟩
  | 73 => ⟨S16384x512, .f32⟩
  | 74 => ⟨S16384x512, .f32⟩
  | 75 => ⟨S_, .f32⟩
  | 76 => ⟨S16384x512, .f32⟩
  | 77 => ⟨S16384x512, .f32⟩
  | 78 => ⟨S1x512, .f32⟩
  | 79 => ⟨S16384x512, .f32⟩
  | 80 => ⟨S16384x512, .f32⟩
  | 81 => ⟨S1x512, .f32⟩
  | 82 => ⟨S16384x512, .f32⟩
  | 83 => ⟨S16384x512, .f32⟩
  | 84 => ⟨S16384x512, .f32⟩
  | 85 => ⟨S_, .f32⟩
  | 86 => ⟨S16384x512, .f32⟩
  | 87 => ⟨S16384x512, .f32⟩
  | 88 => ⟨S16384x4x128, .f32⟩
  | 89 => ⟨S4x16384x128, .f32⟩
  | 90 => ⟨S16384x4x128, .f32⟩
  | 91 => ⟨S4x16384x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_5 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_6 : Ref sig .tc := ⟨.hbm, 101, rfl⟩
abbrev main_v84 : Ref sig .tc := ⟨.hbm, 102, rfl⟩
abbrev main_v85 : Ref sig .tc := ⟨.hbm, 103, rfl⟩
abbrev main_cst_7 : Ref sig .tc := ⟨.hbm, 104, rfl⟩
abbrev main_v86 : Ref sig .tc := ⟨.hbm, 105, rfl⟩
abbrev main_v87 : Ref sig .tc := ⟨.hbm, 106, rfl⟩
abbrev main_cst_8 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_cst_9 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_cst_10 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_cst_11 : Ref sig .tc := ⟨.hbm, 175, rfl⟩
abbrev main_v153 : Ref sig .tc := ⟨.hbm, 176, rfl⟩
abbrev main_v154 : Ref sig .tc := ⟨.hbm, 177, rfl⟩
abbrev main_cst_12 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_cst_13 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_cst_14 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_cst_15 : Ref sig .tc := ⟨.hbm, 200, rfl⟩
abbrev main_v174 : Ref sig .tc := ⟨.hbm, 201, rfl⟩
abbrev main_v175 : Ref sig .tc := ⟨.hbm, 202, rfl⟩
abbrev main_cst_16 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_cst_17 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩

abbrev nD : Nat := 1
abbrev τ : Topo := Topo.v7x

variable {F : FTy → Type} [FloatOps F]
-- ==== Proof.Quiet.lean ====
/- Programs run over a resource that owns the kernel's buffers: some buffers are tracked (the resource names their
   contents as a function of a state), the others only have to be there. -/
module

public import proofs.«01_k».proof.Proof.Gen.KernelIdeal.Frame

@[expose] public section

noncomputable section

namespace Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

local notation "𝕄" => MT nD τ sig Unit Val ℕ (UR sig nD τ) ℕ

section

variable {σ : Type} (c : Dev nD) (R : σ → sProp (MT nD τ sig Unit Val ℕ (UR sig nD τ) ℕ))
variable {s : Shape} {e : EltTy}

/-- The resource owns the memref's buffer at contents the state names, and takes it back as found. -/
def Reads (m : Memref sig .tc .vmem s e) (g : σ → Buf Val (m.view.loc (c.tc : Thread nD τ))) : Prop :=
  ∀ a, R a ⊢ iprop((m.view.loc (c.tc : Thread nD τ) ↦{fullShare} g a) ∗ ((m.view.loc (c.tc : Thread nD τ) ↦{fullShare} g a) -∗ R a))

/-- The resource owns the memref's buffer at contents the state names, and takes it back at any contents, the state
    changed to name those. -/
def Writes (m : Memref sig .tc .vmem s e) (g : σ → Buf Val (m.view.loc (c.tc : Thread nD τ)))
    (put : σ → Buf Val (m.view.loc (c.tc : Thread nD τ)) → σ) : Prop :=
  ∀ a, R a ⊢ iprop((m.view.loc (c.tc : Thread nD τ) ↦{fullShare} g a) ∗ (∀ f', (m.view.loc (c.tc : Thread nD τ) ↦{fullShare} f') -∗ R (put a f')))

/-- The resource owns the memref's buffer at some contents, and takes it back as found. -/
structure SomeReads (m : Memref sig .tc .vmem s e) : Prop where
  /-- at every state -/
  own : ∀ a, R a ⊢ iprop(∃ f, (m.view.loc (c.tc : Thread nD τ) ↦{fullShare} f) ∗ ((m.view.loc (c.tc : Thread nD τ) ↦{fullShare} f) -∗ R a))

/-- The resource owns the memref's buffer at some contents, and takes it back at any. -/
structure SomeWrites (m : Memref sig .tc .vmem s e) : Prop where
  /-- at every state -/
  own : ∀ a, R a ⊢ iprop(∃ f, (m.view.loc (c.tc : Thread nD τ) ↦{fullShare} f) ∗ (∀ f', (m.view.loc (c.tc : Thread nD τ) ↦{fullShare} f') -∗ R a))

theorem SomeWrites.reads {m : Memref sig .tc .vmem s e} (h : SomeWrites c R m) : SomeReads c R m := by
  constructor; intro a
  iintro H
  ihave H' := h.own a $$ H
  icases H' with ⟨%f, H, Hk⟩
  iexists f
  isplitl [H]; · iexact H
  iintro H; iapply Hk; iexact H

end

section

variable {defs : Defs nD τ sig Val Λ} (𝒱 : Variants) {σ : Type} (c : Dev nD)
  (R : σ → sProp (MT nD τ sig Unit Val ℕ (UR sig nD τ) ℕ))
variable {s : Shape} {e : EltTy} {α β : Type}

/-- From the resource at state `a` the program runs to the post. -/
abbrev Wp (defs : Defs nD τ sig Val Λ) (a : σ) (p : Prog (TpuEff nD τ sig Val Λ .tc) α)
    (Q : α → sProp (MT nD τ sig Unit Val ℕ (UR sig nD τ) ℕ)) : Prop :=
  R a ⊢ wp frame (wpE defs 𝒱 (c.tc : Thread nD τ) none) Set.univ p Q

/-- The program touches only buffers the state does not name, or leaves those it names as found. -/
structure Quiet (defs : Defs nD τ sig Val Λ) (p : Prog (TpuEff nD τ sig Val Λ .tc) α) : Prop where
  /-- at every state -/
  run : ∀ a, Wp 𝒱 c R defs a p (fun _ => R a)

variable {𝒱 c R}

theorem Quiet.ret (x : α) : Quiet 𝒱 c R defs (pure x : Prog (TpuEff nD τ sig Val Λ .tc) α) := by
  constructor; intro a
  unfold Wp
  rw [wp_pure]; iintro H; imodintro; iexact H

theorem Quiet.bind {p : Prog (TpuEff nD τ sig Val Λ .tc) α} {k : α → Prog (TpuEff nD τ sig Val Λ .tc) β}
    (hp : Quiet 𝒱 c R defs p) (hk : ∀ x, Quiet 𝒱 c R defs (k x)) : Quiet 𝒱 c R defs (p >>= k) := by
  constructor; intro a
  unfold Wp
  rw [wp_bind]
  exact (hp.run a).trans (wp_mono _ _ _ fun x => (hk x).run a)

theorem Quiet.load {m : Memref sig .tc .vmem s e} (h : SomeReads c R m) {r : LoadRect s} {hl : m.view.LoadsAt r} :
    Quiet 𝒱 c R defs (Prog.lift (.load m r hl) : Prog (TpuEff nD τ sig Val Λ .tc) (r.shape.Idx → Val e)) := by
  constructor; intro a
  unfold Wp Prog.lift
  iintro H
  ihave H' := h.own a $$ H
  icases H' with ⟨%f, H, Hk⟩
  iapply (wp_load 𝒱 (c.tc : Thread nD τ) none Set.univ (m := m) (r := r) (hl := hl) (S := Finset.univ) (f := f) (Finset.subset_univ _)) $$ H
  iintro H
  rw [wp_ret]; imodintro
  iapply Hk; iexact H

theorem Quiet.store {m : Memref sig .tc .vmem s e} (h : SomeWrites c R m) {r : Rect s} {w : r.shape.Idx → Val e}
    {Mk : Finset r.shape.Idx} {hx : (m.access r).Stores Mk} {hm : Mk = Finset.univ ∨ ∀ a, r.stride a = 1} :
    Quiet 𝒱 c R defs (Prog.lift (.store m r w Mk hx hm) : Prog (TpuEff nD τ sig Val Λ .tc) PUnit) := by
  constructor; intro a
  unfold Wp Prog.lift
  iintro H
  ihave H' := h.own a $$ H
  icases H' with ⟨%f, H, Hk⟩
  iapply (wp_store 𝒱 (c.tc : Thread nD τ) none Set.univ (m := m) (r := r) (w := w) (hx := hx) (hm := hm) (S := Finset.univ) (f := f) (Finset.subset_univ _)) $$ H
  iintro H
  rw [wp_ret]; imodintro
  iapply Hk; iexact H

variable {a : σ} {Q : β → sProp (MT nD τ sig Unit Val ℕ (UR sig nD τ) ℕ)}

theorem Wp.ret {x : β} (h : R a ⊢ Q x) : Wp 𝒱 c R defs a (pure x) Q := by
  unfold Wp
  rw [wp_pure]
  iintro H; imodintro; iapply h; iexact H

theorem Wp.quiet {p : Prog (TpuEff nD τ sig Val Λ .tc) α} {k : α → Prog (TpuEff nD τ sig Val Λ .tc) β}
    (hp : Quiet 𝒱 c R defs p) (hk : ∀ x, Wp 𝒱 c R defs a (k x) Q) : Wp 𝒱 c R defs a (p >>= k) Q := by
  unfold Wp
  rw [wp_bind]
  exact (hp.run a).trans (wp_mono _ _ _ fun x => hk x)

theorem Wp.assoc {γ : Type} {p : Prog (TpuEff nD τ sig Val Λ .tc) γ} {k : γ → Prog (TpuEff nD τ sig Val Λ .tc) α}
    {k' : α → Prog (TpuEff nD τ sig Val Λ .tc) β}
    (h : Wp 𝒱 c R defs a (p >>= fun x => k x >>= k') Q) : Wp 𝒱 c R defs a ((p >>= k) >>= k') Q := by
  unfold Wp at h ⊢
  rw [bind_assoc]; exact h

theorem Wp.pureBind {x : α} {k : α → Prog (TpuEff nD τ sig Val Λ .tc) β}
    (h : Wp 𝒱 c R defs a (k x) Q) : Wp 𝒱 c R defs a (pure x >>= k) Q := by
  unfold Wp at h ⊢
  rw [pure_bind]; exact h

theorem Wp.load {m : Memref sig .tc .vmem s e} {g : σ → Buf Val (m.view.loc (c.tc : Thread nD τ))} (h : Reads c R m g)
    {r : LoadRect s} {hl : m.view.LoadsAt r} {k : (r.shape.Idx → Val e) → Prog (TpuEff nD τ sig Val Λ .tc) β}
    (hk : Wp 𝒱 c R defs a (k (m.view.readAt Val r (g a))) Q) : Wp 𝒱 c R defs a (Prog.lift (.load m r hl) >>= k) Q := by
  unfold Wp at hk ⊢
  show R a ⊢ wp frame (wpE defs 𝒱 (c.tc : Thread nD τ) none) Set.univ (.op (.load m r hl) k) Q
  iintro H
  ihave H' := h a $$ H
  icases H' with ⟨H, Hk⟩
  iapply (wp_load 𝒱 (c.tc : Thread nD τ) none Set.univ (m := m) (r := r) (hl := hl) (S := Finset.univ) (f := g a) (Finset.subset_univ _)) $$ H
  iintro H
  iapply hk
  iapply Hk; iexact H

theorem Wp.store {m : Memref sig .tc .vmem s e} {g : σ → Buf Val (m.view.loc (c.tc : Thread nD τ))}
    {put : σ → Buf Val (m.view.loc (c.tc : Thread nD τ)) → σ} (h : Writes c R m g put)
    {r : Rect s} {w : r.shape.Idx → Val e}
    {Mk : Finset r.shape.Idx} {hx : (m.access r).Stores Mk} {hm : Mk = Finset.univ ∨ ∀ a, r.stride a = 1}
    {k : PUnit → Prog (TpuEff nD τ sig Val Λ .tc) β}
    (hk : Wp 𝒱 c R defs (put a ((m.access r).write Val (g a) w Mk)) (k ⟨⟩) Q) :
    Wp 𝒱 c R defs a (Prog.lift (.store m r w Mk hx hm) >>= k) Q := by
  unfold Wp at hk ⊢
  show R a ⊢ wp frame (wpE defs 𝒱 (c.tc : Thread nD τ) none) Set.univ (.op (.store m r w Mk hx hm) k) Q
  iintro H
  ihave H' := h a $$ H
  icases H' with ⟨H, Hk⟩
  iapply (wp_store 𝒱 (c.tc : Thread nD τ) none Set.univ (m := m) (r := r) (w := w) (hx := hx) (hm := hm) (S := Finset.univ) (f := g a) (Finset.subset_univ _)) $$ H
  iintro H
  iapply hk
  iapply Hk; iexact H

/-- A counted loop whose trip takes the state by `step`. -/
theorem Wp.loop {w : Nat} {lb ub st : BitVec w} {hok : Scf.OK lb ub st}
    {body : Fin (Scf.trips lb ub st) → PUnit → Prog (TpuEff nD τ sig Val Λ .tc) PUnit}
    (iter : ℕ → σ) (ha : iter 0 = a)
    (hbody : ∀ (t : Fin (Scf.trips lb ub st)) u, Wp 𝒱 c R defs (iter t.val) (body t u) (fun _ => R (iter (t.val + 1))))
    {k : PUnit → Prog (TpuEff nD τ sig Val Λ .tc) β}
    (hk : Wp 𝒱 c R defs (iter (Scf.trips lb ub st)) (k ⟨⟩) Q) :
    Wp 𝒱 c R defs a (Scf.for lb ub st hok ⟨⟩ body >>= k) Q := by
  unfold Wp at hk ⊢
  subst ha
  iintro H
  iapply (Scf.wp_for_bind frame (wpE defs 𝒱 (c.tc : Thread nD τ) none) Set.univ lb ub st hok ⟨⟩ body (fun n _ => R (iter n)) hbody) $$ H
  iintro %u H
  iapply hk; iexact H

end

section

variable {σ : Type} {c : Dev nD} {P Q : σ → sProp (MT nD τ sig Unit Val ℕ (UR sig nD τ) ℕ)} {s : Shape} {e : EltTy} {m : Memref sig .tc .vmem s e}

/-! ## Which buffers a resource owns that lists them -/

theorem Reads.here (g : σ → Buf Val (m.view.loc (c.tc : Thread nD τ))) :
    Reads c (fun a => iprop((m.view.loc (c.tc : Thread nD τ) ↦{fullShare} g a) ∗ Q a)) m g := by
  intro a
  iintro ⟨H, HQ⟩
  isplitl [H]; · iexact H
  iintro H
  isplitl [H]; · iexact H
  iexact HQ

theorem Reads.there {g : σ → Buf Val (m.view.loc (c.tc : Thread nD τ))} (h : Reads c Q m g) : Reads c (fun a => iprop(P a ∗ Q a)) m g := by
  intro a
  iintro ⟨HP, HQ⟩
  ihave H' := h a $$ HQ
  icases H' with ⟨H, Hk⟩
  isplitl [H]; · iexact H
  iintro H
  isplitl [HP]; · iexact HP
  iapply Hk; iexact H

theorem Reads.some {g : σ → Buf Val (m.view.loc (c.tc : Thread nD τ))} (h : Reads c Q m g) : SomeReads c Q m := by
  constructor; intro a
  iintro HQ
  ihave H' := h a $$ HQ
  icases H' with ⟨H, Hk⟩
  iexists (g a)
  isplitl [H]; · iexact H
  iexact Hk

theorem Writes.here {g : σ → Buf Val (m.view.loc (c.tc : Thread nD τ))} {put : σ → Buf Val (m.view.loc (c.tc : Thread nD τ)) → σ}
    (hg : ∀ a f, g (put a f) = f) (hQ : ∀ a f, Q (put a f) = Q a) :
    Writes c (fun a => iprop((m.view.loc (c.tc : Thread nD τ) ↦{fullShare} g a) ∗ Q a)) m g put := by
  intro a
  iintro ⟨H, HQ⟩
  isplitl [H]; · iexact H
  iintro %f H
  beta_reduce
  rw [hg, hQ]
  isplitl [H]; · iexact H
  iexact HQ

theorem Writes.there {g : σ → Buf Val (m.view.loc (c.tc : Thread nD τ))} {put : σ → Buf Val (m.view.loc (c.tc : Thread nD τ)) → σ}
    (hP : ∀ a f, P (put a f) = P a) (h : Writes c Q m g put) : Writes c (fun a => iprop(P a ∗ Q a)) m g put := by
  intro a
  iintro ⟨HP, HQ⟩
  ihave H' := h a $$ HQ
  icases H' with ⟨H, Hk⟩
  isplitl [H]; · iexact H
  iintro %f H
  beta_reduce
  rw [hP]
  isplitl [HP]; · iexact HP
  iapply Hk; iexact H

theorem SomeWrites.here : SomeWrites c (fun a => iprop((∃ f, (m.view.loc (c.tc : Thread nD τ) ↦{fullShare} f)) ∗ Q a)) m := by
  constructor; intro a
  iintro ⟨⟨%f, H⟩, HQ⟩
  iexists f
  isplitl [H]; · iexact H
  iintro %f' H
  isplitl [H]; · iexists f'; iexact H
  iexact HQ

theorem SomeWrites.there (h : SomeWrites c Q m) : SomeWrites c (fun a => iprop(P a ∗ Q a)) m := by
  constructor; intro a
  iintro ⟨HP, HQ⟩
  ihave H' := h.own a $$ HQ
  icases H' with ⟨%f, H, Hk⟩
  iexists f
  isplitl [H]; · iexact H
  iintro %f' H
  isplitl [HP]; · iexact HP
  iapply Hk; iexact H

/-- A whole buffer, owned at what it reads as, is a points-to of all of it. -/
theorem owns_whole (hm : m.IsWhole) (X : s.Idx → Val e) :
    (owns (c.tc : Thread nD τ) m fullShare X : sProp (MT nD τ sig Unit Val ℕ (UR sig nD τ) ℕ))
      = iprop(∃ f, ⌜m.view.read Val f = X⌝ ∗ (m.view.loc (c.tc : Thread nD τ) ↦{fullShare} f)) := by
  unfold owns
  rw [hm.set_eq_univ]

end

end Attn
-- ==== Proof.Trip.lean ====
module

public import proofs.«01_k».proof.Proof.Quiet
public import proofs.«01_k».proof.Proof.Gen.KernelIdeal.Skeleton

@[expose] public section

set_option maxRecDepth 65536
set_option pp.deepTerms false
set_option pp.maxSteps 300

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section

variable {σ : Type} (c : Dev nD) (R : σ → sProp (MT nD τ sig Unit (Elt F) ℕ (UR sig nD τ) ℕ))
variable (i : grid0.Coords) (arg2 : Memref sig .tc .vmem S1x512x256 .f32) (harg2 : arg2.IsWhole) (arg3 : Memref sig .tc .vmem S1x8192x128 .bf16) (harg3 : arg3.IsWhole) (arg4 : Memref sig .tc .vmem S1x8192x256 .bf16) (harg4 : arg4.IsWhole) (arg5 : Memref sig .tc .vmem S4x1x256x128 .f32) (harg5 : arg5.IsWhole) (arg6 : Memref sig .tc .vmem S4x1x256x128 .f32) (harg6 : arg6.IsWhole) (arg7 : Memref sig .tc .vmem S4x1x256x128 .f32) (harg7 : arg7.IsWhole) (arg8 : Memref sig .tc .vmem S4x1x256x128 .f32) (harg8 : arg8.IsWhole) (arg9 : Memref sig .tc .vmem S4x1x256x128 .f32) (harg9 : arg9.IsWhole) (arg10 : Memref sig .tc .vmem S4x1x256x128 .f32) (harg10 : arg10.IsWhole) (arg11 : Memref sig .tc .vmem S1x512x256 .f32) (harg11 : arg11.IsWhole) (arg12 : Memref sig .tc .vmem S4x1x256x128 .f32) (harg12 : arg12.IsWhole) (arg13 : Memref sig .tc .vmem S4x1x256x128 .f32) (harg13 : arg13.IsWhole) (arg14 : Memref sig .tc .vmem S16x1024x512 .f32) (harg14 : arg14.IsWhole) (arg15 : Memref sig .tc .vmem S1024x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x128x128 .f32) (harg18 : arg18.IsWhole)

set_option maxHeartbeats 8000000 in
theorem quiet152 (x y : BitVec 32) (k0_t1 : Fin k0_t1_loop.trips) (h5 : SomeReads c R arg5) (h6 : SomeReads c R arg6) (h7 : SomeReads c R arg7) (h8 : SomeReads c R arg8) (h9 : SomeReads c R arg9) (h10 : SomeReads c R arg10)
    (h12 : SomeWrites c R arg12) (h13 : SomeWrites c R arg13) (h16 : SomeWrites c R arg16) (h17 : SomeWrites c R arg17) (h18 : SomeWrites c R arg18) :
    Quiet Variants.none c R (defs₀ (F := F)) (k0_part152 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x y k0_t1) := by
  have h12' := h12.reads
  have h13' := h13.reads
  have h16' := h16.reads
  have h17' := h17.reads
  have h18' := h18.reads
  rw [k0_part152_eq_skeleton]
  unfold k0_part152_skel
  repeat' first
    | exact Quiet.load (by assumption)
    | exact Quiet.store (by assumption)
    | refine Quiet.bind ?_ (fun _ => ?_)
    | exact Quiet.ret _

/-- One block of keys: its scores are put in their place of the score scratch, and the running maximum takes them in. -/
def blockStep (get3 : Buf (Elt F) (arg3.view.loc (c.tc : Thread nD τ))) (get14 : σ → Buf (Elt F) (arg14.view.loc (c.tc : Thread nD τ)))
    (put14 : σ → Buf (Elt F) (arg14.view.loc (c.tc : Thread nD τ)) → σ) (get15 : σ → Buf (Elt F) (arg15.view.loc (c.tc : Thread nD τ)))
    (put15 : σ → Buf (Elt F) (arg15.view.loc (c.tc : Thread nD τ)) → σ) (v7 : FVec F S1024x128 .bf16)
    (t : Fin k0_t1_loop.trips) (b : Fin 8) (a : σ) : σ :=
  let kb := arg3.view.readAt (Elt F) (Rect.unit (s := S1x8192x128) (k0_off3 t (BitVec.ofNat 32 b.val)) S1x512x128.size (k0_off3_inb t b)).toLoadRect get3
  let a' := put14 a ((arg14.access (Rect.unit (s := S16x1024x512) (k0_off4 t (BitVec.ofNat 32 b.val)) S1x1024x512.size (k0_off4_inb t b))).write (Elt F) (get14 a) (k0_pay526 v7 kb) Finset.univ)
  put15 a' ((arg15.access (Rect.unit (s := S1024x128) ![0, 0] S1024x128.size inb_S1024x128_S1024x128_0_0)).write (Elt F) (get15 a')
    (k0_pay527 v7 kb (arg15.view.readAt (Elt F) (Rect.unit (s := S1024x128) ![0, 0] S1024x128.size inb_S1024x128_S1024x128_0_0).toLoadRect (get15 a'))) Finset.univ)

/-- The eight blocks of a trip, in order. -/
def tripStep (get3 : Buf (Elt F) (arg3.view.loc (c.tc : Thread nD τ))) (get14 : σ → Buf (Elt F) (arg14.view.loc (c.tc : Thread nD τ)))
    (put14 : σ → Buf (Elt F) (arg14.view.loc (c.tc : Thread nD τ)) → σ) (get15 : σ → Buf (Elt F) (arg15.view.loc (c.tc : Thread nD τ)))
    (put15 : σ → Buf (Elt F) (arg15.view.loc (c.tc : Thread nD τ)) → σ) (v7 : FVec F S1024x128 .bf16)
    (t : Fin k0_t1_loop.trips) (a : σ) : σ :=
  let step := blockStep c arg3 arg14 arg15 get3 get14 put14 get15 put15 v7 t
  step 7 (step 6 (step 5 (step 4 (step 3 (step 2 (step 1 (step 0 a)))))))

set_option maxHeartbeats 16000000 in
/-- One trip of the score loop: eight blocks of keys, and of the recurrence four times a piece. -/
theorem trip_wp (v3 v5 : Vec F S1x512x128 .f32) (t : Fin k0_t1_loop.trips) (u : Unit) (h5 : SomeReads c R arg5) (h6 : SomeReads c R arg6) (h7 : SomeReads c R arg7) (h8 : SomeReads c R arg8) (h9 : SomeReads c R arg9) (h10 : SomeReads c R arg10)
    (h12 : SomeWrites c R arg12) (h13 : SomeWrites c R arg13) (h16 : SomeWrites c R arg16) (h17 : SomeWrites c R arg17) (h18 : SomeWrites c R arg18)
    {get3 : Buf (Elt F) (arg3.view.loc (c.tc : Thread nD τ))} {get14 : σ → Buf (Elt F) (arg14.view.loc (c.tc : Thread nD τ))}
    {put14 : σ → Buf (Elt F) (arg14.view.loc (c.tc : Thread nD τ)) → σ} {get15 : σ → Buf (Elt F) (arg15.view.loc (c.tc : Thread nD τ))}
    {put15 : σ → Buf (Elt F) (arg15.view.loc (c.tc : Thread nD τ)) → σ}
    (h3 : Reads c R arg3 (fun _ => get3)) (h14 : Writes c R arg14 get14 put14) (h15 : Writes c R arg15 get15 put15)
    (h3' : SomeReads c R arg3) (h14' : SomeReads c R arg14) (h15' : Reads c R arg15 get15) (h15'' : SomeReads c R arg15) (a : σ) :
    Wp Variants.none c R (defs₀ (F := F)) a (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v5 t u)
      (fun _ => R (tripStep c arg3 arg14 arg15 get3 get14 put14 get15 put15 (k0_pay1823 v3 v5) t a)) := by
  have h12' := h12.reads
  have h13' := h13.reads
  have h16' := h16.reads
  have h17' := h17.reads
  have h18' := h18.reads
  unfold k0_t1_body
  refine Wp.quiet (quiet152 _ _ _ _ _ _ _ _ _ _ _ _ _ _ _ _ _ _ _ _ _ _ _ _ _ _ _ _ _ _ _ _ _ _ _ _ _ _ _ _ h5 h6 h7 h8 h9 h10 h12 h13 h16 h17 h18) (fun _ => ?_)
  rw [k0_part153_eq_skeleton]
  unfold k0_part153_skel
  rw [k0_part94_eq_skeleton, k0_part105_eq_skeleton, k0_part106_eq_skeleton, k0_part108_eq_skeleton, k0_part109_eq_skeleton, k0_part120_eq_skeleton, k0_part123_eq_skeleton, k0_part134_eq_skeleton, k0_part135_eq_skeleton, k0_part137_eq_skeleton, k0_part138_eq_skeleton, k0_part149_eq_skeleton]
  unfold k0_part94_skel k0_part105_skel k0_part106_skel k0_part108_skel k0_part109_skel k0_part120_skel k0_part123_skel k0_part134_skel k0_part135_skel k0_part137_skel k0_part138_skel k0_part149_skel
  refine Wp.assoc ?_
  repeat' first
    | exact Quiet.load (by assumption)
    | exact Quiet.store (by assumption)
    | refine Quiet.bind ?_ (fun _ => ?_)
    | exact Quiet.ret _
    | with_reducible refine Wp.load (by assumption) ?_
    | with_reducible refine Wp.store (by assumption) ?_
    | with_reducible refine Wp.quiet (Quiet.load (by assumption)) (fun _ => ?_)
    | with_reducible refine Wp.quiet (Quiet.store (by assumption)) (fun _ => ?_)
    | with_reducible refine Wp.pureBind ?_
    | with_reducible refine Wp.assoc ?_
    | with_reducible refine Wp.ret ?_
    | refine Wp.quiet ?_ (fun _ => ?_)
  exact .rfl
end

end Attn
-- ==== Proof.Body.lean ====
module

public import proofs.«01_k».proof.Proof.Trip

@[expose] public section

set_option maxRecDepth 65536
set_option pp.deepTerms false
set_option pp.maxSteps 300

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section

variable {σ : Type} (c : Dev nD) (R : σ → sProp (MT nD τ sig Unit (Elt F) ℕ (UR sig nD τ) ℕ))
variable (i : grid0.Coords) (arg2 : Memref sig .tc .vmem S1x512x256 .f32) (harg2 : arg2.IsWhole) (arg3 : Memref sig .tc .vmem S1x8192x128 .bf16) (harg3 : arg3.IsWhole) (arg4 : Memref sig .tc .vmem S1x8192x256 .bf16) (harg4 : arg4.IsWhole) (arg5 : Memref sig .tc .vmem S4x1x256x128 .f32) (harg5 : arg5.IsWhole) (arg6 : Memref sig .tc .vmem S4x1x256x128 .f32) (harg6 : arg6.IsWhole) (arg7 : Memref sig .tc .vmem S4x1x256x128 .f32) (harg7 : arg7.IsWhole) (arg8 : Memref sig .tc .vmem S4x1x256x128 .f32) (harg8 : arg8.IsWhole) (arg9 : Memref sig .tc .vmem S4x1x256x128 .f32) (harg9 : arg9.IsWhole) (arg10 : Memref sig .tc .vmem S4x1x256x128 .f32) (harg10 : arg10.IsWhole) (arg11 : Memref sig .tc .vmem S1x512x256 .f32) (harg11 : arg11.IsWhole) (arg12 : Memref sig .tc .vmem S4x1x256x128 .f32) (harg12 : arg12.IsWhole) (arg13 : Memref sig .tc .vmem S4x1x256x128 .f32) (harg13 : arg13.IsWhole) (arg14 : Memref sig .tc .vmem S16x1024x512 .f32) (harg14 : arg14.IsWhole) (arg15 : Memref sig .tc .vmem S1024x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x128x128 .f32) (harg18 : arg18.IsWhole)

/-- The score loop from the state `a`, `n` trips of it. -/
def loopState (get3 : Buf (Elt F) (arg3.view.loc (c.tc : Thread nD τ))) (get14 : σ → Buf (Elt F) (arg14.view.loc (c.tc : Thread nD τ))) (put14 : σ → Buf (Elt F) (arg14.view.loc (c.tc : Thread nD τ)) → σ) (get15 : σ → Buf (Elt F) (arg15.view.loc (c.tc : Thread nD τ))) (put15 : σ → Buf (Elt F) (arg15.view.loc (c.tc : Thread nD τ)) → σ)
    (v7 : FVec F S1024x128 .bf16) (a : σ) : ℕ → σ
  | 0 => a
  | n + 1 => if h : n < k0_t1_loop.trips then tripStep c arg3 arg14 arg15 get3 get14 put14 get15 put15 v7 ⟨n, h⟩ (loopState get3 get14 put14 get15 put15 v7 a n)
    else loopState get3 get14 put14 get15 put15 v7 a n

/-- The sums after block `j` of the values: the weights of the block's scores against the block. -/
abbrev accStep (get4 : Buf (Elt F) (arg4.view.loc (c.tc : Thread nD τ))) (f14 : Buf (Elt F) (arg14.view.loc (c.tc : Thread nD τ))) (v17 : FVec F S1024x128 .f32) (j : Fin 16) (acc : FVec F S1024x256 .f32) : FVec F S1024x256 .f32 :=
  k0_pay1838 v17 acc (arg14.view.readAt (Elt F) (Rect.unit (s := S16x1024x512) (k0_off8 (BitVec.ofNat 32 j.val)) S1x1024x512.size (k0_off8_inb j)).toLoadRect f14)
    (arg4.view.readAt (Elt F) (Rect.unit (s := S1x8192x256) (k0_off9 (BitVec.ofNat 32 j.val)) S1x512x256.size (k0_off9_inb j)).toLoadRect get4)

/-- The quotient of the sums: values over weights. -/
def quot (acc : FVec F S1024x256 .f32) : FVec F S1024x128 .f32 :=
  divf (extractStridedSlice S1024x128 ![0, 0] acc slices_S1024x256_o0_0_S1024x128) (extractStridedSlice S1024x128 ![0, 128] acc slices_S1024x256_o0_128_S1024x128)

private theorem one0 (m : Vec F S1024x128 .f32) (acc : FVec F S1024x256 .f32) (s : Vec F S1x1024x512 .f32) (w : Vec F S1x512x256 .bf16) :
    k0_pay1829 (k0_pay1825 m) acc (k0_pay1827 s) (k0_pay1828 m s) w = k0_pay1838 (k0_pay1825 m) acc s w := rfl

private theorem two1 (V : FVec F S1024x128 .f32) (acc : FVec F S1024x256 .f32) (s s' : Vec F S1x1024x512 .f32) (w w' : Vec F S1x512x256 .bf16) :
    k0_pay1832 V acc (k0_pay1830 V s) (k0_pay1831 w) (constant S1024x256 .f32 0x00000000#32) s' w' = k0_pay1838 V (k0_pay1838 V acc s w) s' w' := rfl

private theorem two3 (V : FVec F S1024x128 .f32) (acc : FVec F S1024x256 .f32) (s s' : Vec F S1x1024x512 .f32) (w w' : Vec F S1x512x256 .bf16) :
    k0_pay1837 V acc (k0_pay1833 s) (k0_pay1834 V s) (k0_pay1835 V s) (k0_pay1836 V s) w s' w' = k0_pay1838 V (k0_pay1838 V acc s w) s' w' := rfl

private theorem two6 (V : FVec F S1024x128 .f32) (acc : FVec F S1024x256 .f32) (s s' : Vec F S1x1024x512 .f32) (w w' : Vec F S1x512x256 .bf16) :
    k0_pay1840 V acc (k0_pay1839 V s) w s' w' = k0_pay1838 V (k0_pay1838 V acc s w) s' w' := rfl

private theorem two8 (V : FVec F S1024x128 .f32) (acc : FVec F S1024x256 .f32) (s s' : Vec F S1x1024x512 .f32) (w w' : Vec F S1x512x256 .bf16) :
    k0_pay1844 V acc (k0_pay1841 s) (k0_pay1842 V s) (k0_pay1843 V s) w s' w' = k0_pay1838 V (k0_pay1838 V acc s w) s' w' := rfl

private theorem one10 (V : FVec F S1024x128 .f32) (acc : FVec F S1024x256 .f32) (s : Vec F S1x1024x512 .f32) (w : Vec F S1x512x256 .bf16) :
    k0_pay1845 V acc s w = k0_pay1838 V acc s w := rfl

private theorem two11 (V : FVec F S1024x128 .f32) (acc : FVec F S1024x256 .f32) (s s' : Vec F S1x1024x512 .f32) (w w' : Vec F S1x512x256 .bf16) :
    k0_pay1851 V acc (k0_pay1847 V s) (k0_pay1848 V s) (k0_pay1849 V s) (k0_pay1850 V s) w s' w' = k0_pay1838 V (k0_pay1838 V acc s w) s' w' := rfl

private theorem one13 (V : FVec F S1024x128 .f32) (acc : FVec F S1024x256 .f32) (s : Vec F S1x1024x512 .f32) (w : Vec F S1x512x256 .bf16) :
    k0_pay1854 V acc (k0_pay1852 s) (k0_pay1853 V s) w = k0_pay1838 V acc s w := rfl

private theorem out0 (V : FVec F S1024x128 .f32) (acc : FVec F S1024x256 .f32) (s s' : Vec F S1x1024x512 .f32) (w w' : Vec F S1x512x256 .bf16) :
    k0_pay1858 V acc (k0_pay1855 V s) (k0_pay1856 w) s' w' = shapeCast S1x512x128 (extractStridedSlice S512x128 ![0, 0] (quot (k0_pay1838 V (k0_pay1838 V acc s w) s' w')) slices_S1024x128_o0_0_S512x128) shapeCasts_S512x128_S1x512x128 := rfl

private theorem out1 (V : FVec F S1024x128 .f32) (acc : FVec F S1024x256 .f32) (s s' : Vec F S1x1024x512 .f32) (w w' : Vec F S1x512x256 .bf16) :
    k0_pay1859 V acc (k0_pay1855 V s) (k0_pay1856 w) s' w' = shapeCast S1x512x128 (extractStridedSlice S512x128 ![512, 0] (quot (k0_pay1838 V (k0_pay1838 V acc s w) s' w')) slices_S1024x128_o512_0_S512x128) shapeCasts_S512x128_S1x512x128 := rfl

/-- The queries' two heads, one below the other. -/
def heads (get2 : Buf (Elt F) (arg2.view.loc (c.tc : Thread nD τ))) : FVec F S1024x128 .bf16 :=
  k0_pay1823 (arg2.view.readAt (Elt F) (Rect.unit (s := S1x512x256) ![0, 0, 0] S1x512x128.size inb_S1x512x256_S1x512x128_0_0_0).toLoadRect get2)
    (arg2.view.readAt (Elt F) (Rect.unit (s := S1x512x256) ![0, 0, 128] S1x512x128.size inb_S1x512x256_S1x512x128_0_0_128).toLoadRect get2)

/-- The state the whole kernel leaves. -/
def bodyStep (get2 : Buf (Elt F) (arg2.view.loc (c.tc : Thread nD τ))) (get3 : Buf (Elt F) (arg3.view.loc (c.tc : Thread nD τ))) (get4 : Buf (Elt F) (arg4.view.loc (c.tc : Thread nD τ))) (get11 : σ → Buf (Elt F) (arg11.view.loc (c.tc : Thread nD τ))) (put11 : σ → Buf (Elt F) (arg11.view.loc (c.tc : Thread nD τ)) → σ)
    (get14 : σ → Buf (Elt F) (arg14.view.loc (c.tc : Thread nD τ))) (put14 : σ → Buf (Elt F) (arg14.view.loc (c.tc : Thread nD τ)) → σ) (get15 : σ → Buf (Elt F) (arg15.view.loc (c.tc : Thread nD τ))) (put15 : σ → Buf (Elt F) (arg15.view.loc (c.tc : Thread nD τ)) → σ) (a : σ) : σ :=
  let a0 := put15 a ((arg15.access (Rect.unit (s := S1024x128) ![0, 0] S1024x128.size inb_S1024x128_S1024x128_0_0)).write (Elt F) (get15 a) (k0_pay1824 (F := F)) Finset.univ)
  let a1 := loopState c arg3 arg14 arg15 get3 get14 put14 get15 put15 (heads c arg2 get2) a0 k0_t1_loop.trips
  let v17 := k0_pay1825 (arg15.view.readAt (Elt F) (Rect.unit (s := S1024x128) ![0, 0] S1024x128.size inb_S1024x128_S1024x128_0_0).toLoadRect (get15 a1))
  let step := accStep c arg4 arg14 get4 (get14 a1) v17
  let acc := step 15 (step 14 (step 13 (step 12 (step 11 (step 10 (step 9 (step 8 (step 7 (step 6 (step 5 (step 4 (step 3 (step 2 (step 1 (step 0 (k0_pay1826 (F := F)))))))))))))))))
  let a2 := put11 a1 ((arg11.access (Rect.unit (s := S1x512x256) ![0, 0, 0] S1x512x128.size inb_S1x512x256_S1x512x128_0_0_0)).write (Elt F) (get11 a1)
    (shapeCast S1x512x128 (extractStridedSlice S512x128 ![0, 0] (quot acc) slices_S1024x128_o0_0_S512x128) shapeCasts_S512x128_S1x512x128) Finset.univ)
  put11 a2 ((arg11.access (Rect.unit (s := S1x512x256) ![0, 0, 128] S1x512x128.size inb_S1x512x256_S1x512x128_0_0_128)).write (Elt F) (get11 a2)
    (shapeCast S1x512x128 (extractStridedSlice S512x128 ![512, 0] (quot acc) slices_S1024x128_o512_0_S512x128) shapeCasts_S512x128_S1x512x128) Finset.univ)

set_option maxHeartbeats 16000000 in
theorem body_wp (h5 : SomeReads c R arg5) (h6 : SomeReads c R arg6) (h7 : SomeReads c R arg7) (h8 : SomeReads c R arg8) (h9 : SomeReads c R arg9) (h10 : SomeReads c R arg10)
    (h12 : SomeWrites c R arg12) (h13 : SomeWrites c R arg13) (h16 : SomeWrites c R arg16) (h17 : SomeWrites c R arg17) (h18 : SomeWrites c R arg18)
    {get2 : Buf (Elt F) (arg2.view.loc (c.tc : Thread nD τ))} {get3 : Buf (Elt F) (arg3.view.loc (c.tc : Thread nD τ))} {get4 : Buf (Elt F) (arg4.view.loc (c.tc : Thread nD τ))} {get11 : σ → Buf (Elt F) (arg11.view.loc (c.tc : Thread nD τ))} {put11 : σ → Buf (Elt F) (arg11.view.loc (c.tc : Thread nD τ)) → σ}
    {get14 : σ → Buf (Elt F) (arg14.view.loc (c.tc : Thread nD τ))} {put14 : σ → Buf (Elt F) (arg14.view.loc (c.tc : Thread nD τ)) → σ} {get15 : σ → Buf (Elt F) (arg15.view.loc (c.tc : Thread nD τ))} {put15 : σ → Buf (Elt F) (arg15.view.loc (c.tc : Thread nD τ)) → σ}
    (h2 : Reads c R arg2 (fun _ => get2)) (h3 : Reads c R arg3 (fun _ => get3)) (h4 : Reads c R arg4 (fun _ => get4)) (h11 : Writes c R arg11 get11 put11)
    (h14 : Writes c R arg14 get14 put14) (h15 : Writes c R arg15 get15 put15)
    (h11' : SomeReads c R arg11) (h14' : Reads c R arg14 get14) (h15' : Reads c R arg15 get15) (h3s : SomeReads c R arg3) (h14s : SomeReads c R arg14) (h15s : SomeReads c R arg15) (a : σ) :
    Wp Variants.none c R (defs₀ (F := F)) a (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
      (fun _ => R (bodyStep c arg2 arg3 arg4 arg11 arg14 arg15 get2 get3 get4 get11 put11 get14 put14 get15 put15 a)) := by
  have h16' := h16.reads
  have hloop : ∀ (v3 v5 : Vec F S1x512x128 .f32) (a : σ) (t : Fin k0_t1_loop.trips) (u : Unit),
      Wp Variants.none c R (defs₀ (F := F)) (loopState c arg3 arg14 arg15 get3 get14 put14 get15 put15 (k0_pay1823 v3 v5) a t.val)
        (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v5 t u)
        (fun _ => R (loopState c arg3 arg14 arg15 get3 get14 put14 get15 put15 (k0_pay1823 v3 v5) a (t.val + 1))) := by
    intro v3 v5 a t u
    rw [loopState, dif_pos t.isLt]
    exact trip_wp (σ := σ) c R i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v5 t u h5 h6 h7 h8 h9 h10 h12 h13 h16 h17 h18 h3 h14 h15 h3s h14s h15' h15s _
  rw [cc0_mixer_eq_skeleton]
  unfold cc0_mixer_skel
  rw [k0_part164_eq_skeleton]
  unfold k0_part164_skel
  rw [k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton]
  unfold k0_part154_skel k0_part155_skel k0_part156_skel k0_part157_skel k0_part158_skel k0_part159_skel k0_part160_skel k0_part161_skel k0_part162_skel k0_part163_skel
  dsimp only
  split
  all_goals
   repeat' first
    | exact Quiet.load (by assumption)
    | exact Quiet.store (by assumption)
    | refine Quiet.bind ?_ (fun _ => ?_)
    | exact Quiet.ret _
    | with_reducible refine Wp.load (by assumption) ?_
    | with_reducible refine Wp.store (by assumption) ?_
    | with_reducible refine Wp.quiet (Quiet.load (by assumption)) (fun _ => ?_)
    | with_reducible refine Wp.quiet (Quiet.store (by assumption)) (fun _ => ?_)
    | with_reducible refine Wp.pureBind ?_
    | with_reducible refine Wp.assoc ?_
    | refine Wp.loop (loopState c arg3 arg14 arg15 get3 get14 put14 get15 put15 (heads c arg2 get2) _) rfl (hloop _ _ _) ?_
    | with_reducible refine Wp.ret ?_
  all_goals
    dsimp only
    simp only [one0, two1, two3, two6, two8, one10, two11, one13, out0, out1]
    exact .rfl
end

end Attn
-- ==== Proof.Pure.lean ====
module

public import proofs.«01_k».proof.Proof.Body
public import Idealize.ShloMosaic.Lib.VecWindow
public import Idealize.ShloMosaic.Lib.ValueLayout

@[expose] public section

set_option maxRecDepth 65536
set_option pp.deepTerms false
set_option pp.maxSteps 300

noncomputable section

namespace Attn

open Cert.KernelIdeal Cert.KernelIdeal.Gen
open Idealize.ShloMosaic Idealize.ShloMosaic.TcCoe Idealize.ShloMosaic.Tactic
open Idealize.ShloMosaic.ValueIdx (ix2 ix3 shapeCast_ab_1ab_apply)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## What the kernel leaves in the attention's block, as a function of the three blocks it reads -/

theorem kb_inb (j : Fin 16) : ∀ a, (![0, 512 * j.val, 0] : Fin 3 → ℕ) a + S1x512x128.size a ≤ S1x8192x128.size a := by
  intro a
  have := j.isLt
  match a with
  | ⟨0, _⟩ => exact Nat.le_refl 1
  | ⟨1, _⟩ => show 512 * j.val + 512 ≤ 8192; omega
  | ⟨2, _⟩ => exact Nat.le_refl 128

theorem vb_inb (j : Fin 16) : ∀ a, (![0, 512 * j.val, 0] : Fin 3 → ℕ) a + S1x512x256.size a ≤ S1x8192x256.size a := by
  intro a
  have := j.isLt
  match a with
  | ⟨0, _⟩ => exact Nat.le_refl 1
  | ⟨1, _⟩ => show 512 * j.val + 512 ≤ 8192; omega
  | ⟨2, _⟩ => exact Nat.le_refl 256

theorem sb_inb (j : Fin 16) : ∀ a, (![j.val, 0, 0] : Fin 3 → ℕ) a + S1x1024x512.size a ≤ S16x1024x512.size a := by
  intro a
  have := j.isLt
  match a with
  | ⟨0, _⟩ => show j.val + 1 ≤ 16; omega
  | ⟨1, _⟩ => exact Nat.le_refl 1024
  | ⟨2, _⟩ => exact Nat.le_refl 512

section
variable (x2 : Vec F S1x512x256 .f32) (x3 : Vec F S1x8192x128 .bf16) (x4 : Vec F S1x8192x256 .bf16)

/-- Block `j` of the keys. -/
def kblk (j : Fin 16) : Vec F S1x512x128 .bf16 := VecWindow.window x3 ![0, 512 * j.val, 0] S1x512x128.size (kb_inb j)

/-- Block `j` of the values. -/
def vblk (j : Fin 16) : Vec F S1x512x256 .bf16 := VecWindow.window x4 ![0, 512 * j.val, 0] S1x512x256.size (vb_inb j)

/-- The queries of the two heads, one below the other. -/
def qrows : FVec F S1024x128 .bf16 :=
  k0_pay1823 (VecWindow.window x2 ![0, 0, 0] S1x512x128.size inb_S1x512x256_S1x512x128_0_0_0) (VecWindow.window x2 ![0, 0, 128] S1x512x128.size inb_S1x512x256_S1x512x128_0_0_128)

/-- The scores against block `j` of the keys. -/
def sblk (j : Fin 16) : Vec F S1x1024x512 .f32 := k0_pay526 (qrows x2) (kblk x3 j)

/-- The running maximum, lane by lane, after `n` blocks. -/
def mx : ℕ → FVec F S1024x128 .f32
  | 0 => k0_pay1824 (F := F)
  | n + 1 => if h : n < 16 then k0_pay527 (qrows x2) (kblk x3 ⟨n, h⟩) (mx n) else mx n

/-- The sums after `n` blocks of the values. -/
def acc : ℕ → FVec F S1024x256 .f32
  | 0 => k0_pay1826 (F := F)
  | n + 1 => if h : n < 16 then k0_pay1838 (k0_pay1825 (mx x2 x3 16)) (acc n) (sblk x2 x3 ⟨n, h⟩) (vblk x4 ⟨n, h⟩) else acc n

/-- The block of the attention's result: head `0` in lanes 0–127, head `1` in lanes 128–255. -/
def attnOut : Vec F S1x512x256 .f32 := fun y =>
  quot (acc x2 x3 x4 16) (ix2 (⟨(y 1).val + 512 * ((y 2).val / 128), by
    have h1 : (y 1).val < 512 := (y 1).isLt
    have h2 : (y 2).val < 256 := (y 2).isLt
    show _ < 1024; omega⟩ : Fin 1024) (⟨(y 2).val % 128, Nat.mod_lt _ (by decide)⟩ : Fin 128))

end

/-! ## Offsets -/

theorem off3_eq : ∀ (t : Fin k0_t1_loop.trips) (b : Fin 8), k0_off3 t (BitVec.ofNat 32 b.val) = ![0, 512 * (8 * t.val + b.val), 0] := by decide
theorem off4_eq : ∀ (t : Fin k0_t1_loop.trips) (b : Fin 8), k0_off4 t (BitVec.ofNat 32 b.val) = ![8 * t.val + b.val, 0, 0] := by decide
theorem off8_eq : ∀ j : Fin 16, k0_off8 (BitVec.ofNat 32 j.val) = ![j.val, 0, 0] := by decide
theorem off9_eq : ∀ j : Fin 16, k0_off9 (BitVec.ofNat 32 j.val) = ![0, 512 * j.val, 0] := by decide

/-! ## Reads of buffers after the stores -/

section
variable {κ : Kind} {sp : Space} {s : Shape} {e : EltTy} (v : View sig κ sp s e)

theorem read_store (f : v.ty.Contents (Elt F)) {off off' size : Fin s.rank → ℕ} (inb : ∀ a, off a + size a ≤ s.size a) (h : off = off')
    (w : (Rect.unit off size inb).shape.Idx → Elt F e) :
    v.read (Elt F) ((v.slice (Rect.unit off size inb)).write (Elt F) f w Finset.univ) = VecWindow.put (v.read (Elt F) f) off' size w :=
  View.read_writes_cons_put v f inb w [] h

theorem read_store_full (f : v.ty.Contents (Elt F)) {off : Fin s.rank → ℕ} (inb : ∀ a, off a + s.size a ≤ s.size a)
    (w : (Rect.unit off s.size inb).shape.Idx → Elt F e) :
    v.read (Elt F) ((v.slice (Rect.unit off s.size inb)).write (Elt F) f w Finset.univ) = w :=
  View.read_writes_full v f inb w []

end

/-! ## The state: contents of the attention block, of the scores' buffer and of the maximum's -/

section
variable (c : Dev nD) (arg2 : Memref sig .tc .vmem S1x512x256 .f32) (arg3 : Memref sig .tc .vmem S1x8192x128 .bf16) (arg4 : Memref sig .tc .vmem S1x8192x256 .bf16)
  (arg11 : Memref sig .tc .vmem S1x512x256 .f32) (arg14 : Memref sig .tc .vmem S16x1024x512 .f32) (arg15 : Memref sig .tc .vmem S1024x128 .f32)

/-- What the run follows. -/
structure St (F : FTy → Type) where
  /-- the attention's block -/
  o : Buf (Elt F) (arg11.view.loc (c.tc : Thread nD τ))
  /-- the scores -/
  s : Buf (Elt F) (arg14.view.loc (c.tc : Thread nD τ))
  /-- the running maximum -/
  m : Buf (Elt F) (arg15.view.loc (c.tc : Thread nD τ))

variable (get2 : Buf (Elt F) (arg2.view.loc (c.tc : Thread nD τ))) (get3 : Buf (Elt F) (arg3.view.loc (c.tc : Thread nD τ))) (get4 : Buf (Elt F) (arg4.view.loc (c.tc : Thread nD τ)))

local notation "X2" => (arg2.view.read (Elt F) get2)
local notation "X3" => (arg3.view.read (Elt F) get3)
local notation "X4" => (arg4.view.read (Elt F) get4)

/-- After `n` blocks: the scores of the first `n`, and their running maximum. -/
def Inv (n : ℕ) (a : St c arg11 arg14 arg15 F) : Prop :=
  (∀ j : Fin 16, j.val < n → VecWindow.window (arg14.view.read (Elt F) a.s) ![j.val, 0, 0] S1x1024x512.size (sb_inb j) = sblk X2 X3 j)
    ∧ arg15.view.read (Elt F) a.m = mx X2 X3 n

theorem heads_eq : heads c arg2 get2 = qrows X2 := by
  unfold heads qrows
  rw [View.readAt_unit arg2.view get2 _ rfl inb_S1x512x256_S1x512x128_0_0_0, View.readAt_unit arg2.view get2 _ rfl inb_S1x512x256_S1x512x128_0_0_128]

theorem inv_block (t : Fin k0_t1_loop.trips) (b : Fin 8) (a : St c arg11 arg14 arg15 F)
    (h : Inv c arg2 arg3 arg11 arg14 arg15 get2 get3 (8 * t.val + b.val) a) :
    Inv c arg2 arg3 arg11 arg14 arg15 get2 get3 (8 * t.val + b.val + 1)
      (blockStep c arg3 arg14 arg15 get3 St.s (fun a f => { a with s := f }) St.m (fun a f => { a with m := f }) (qrows X2) t b a) := by
  have ht : t.val < 2 := t.isLt
  have hn : 8 * t.val + b.val < 16 := by have := b.isLt; omega
  have hkb : arg3.view.readAt (Elt F) (Rect.unit (s := S1x8192x128) (k0_off3 t (BitVec.ofNat 32 b.val)) S1x512x128.size (k0_off3_inb t b)).toLoadRect get3
      = kblk X3 ⟨8 * t.val + b.val, hn⟩ := View.readAt_unit arg3.view get3 _ (off3_eq t b) (kb_inb ⟨8 * t.val + b.val, hn⟩)
  unfold blockStep
  rw [hkb]
  refine ⟨fun j hj => ?_, ?_⟩
  · dsimp only
    rw [read_store arg14.view a.s _ (off4_eq t b)]
    rcases Nat.lt_succ_iff_lt_or_eq.mp hj with hlt | heq
    · rw [VecWindow.window_put_of_disjoint _ _ _ _ _ _ _ (0 : Fin 3) (Or.inl (by show j.val + 1 ≤ 8 * t.val + b.val; omega))]
      exact h.1 j hlt
    · obtain rfl : j = ⟨8 * t.val + b.val, hn⟩ := Fin.ext heq
      exact VecWindow.window_put_same _ _ _ _ _
  · rw [mx, dif_pos hn]
    dsimp only
    rw [read_store_full arg15.view a.m, View.readAt_full arg15.view a.m, h.2]

theorem inv_loop (a : St c arg11 arg14 arg15 F) (h : Inv c arg2 arg3 arg11 arg14 arg15 get2 get3 0 a) :
    ∀ n, n ≤ 2 → Inv c arg2 arg3 arg11 arg14 arg15 get2 get3 (8 * n)
      (loopState c arg3 arg14 arg15 get3 St.s (fun a f => { a with s := f }) St.m (fun a f => { a with m := f }) (qrows X2) a n)
  | 0, _ => h
  | n + 1, hn => by
    have ht : n < k0_t1_loop.trips := hn
    have H := inv_loop a h n (by omega)
    rw [loopState, dif_pos ht]
    have B := fun b a h => inv_block c arg2 arg3 arg11 arg14 arg15 get2 get3 ⟨n, ht⟩ b a h
    exact B 7 _ (B 6 _ (B 5 _ (B 4 _ (B 3 _ (B 2 _ (B 1 _ (B 0 _ H)))))))

theorem put_apply {α : Type} {s : Shape} (x : s.Idx → α) (off size : Fin s.rank → ℕ) (w : ((a : Fin s.rank) → Fin (size a)) → α) (y : s.Idx) (l : (a : Fin s.rank) → Fin (size a))
    (h : ∀ a, (y a).val = off a + (l a).val) : VecWindow.put x off size w y = w l := by
  have hin : ∀ a, off a ≤ (y a).val ∧ (y a).val < off a + size a := fun a => by have := h a; have := (l a).isLt; omega
  refine (dif_pos hin).trans (congrArg w (funext fun a => Fin.ext ?_))
  rw [Rect.unitLocal_val, h a]; omega

theorem put_apply_out {α : Type} {s : Shape} (x : s.Idx → α) (off size : Fin s.rank → ℕ) (w : ((a : Fin s.rank) → Fin (size a)) → α) (y : s.Idx) (a : Fin s.rank)
    (h : (y a).val < off a ∨ off a + size a ≤ (y a).val) : VecWindow.put x off size w y = x y :=
  dif_neg fun hin => by have := hin a; omega

/-- Two heads' tiles put side by side. -/
theorem put_heads (x : Vec F S1x512x256 .f32) (z : FVec F S1024x128 .f32) (y : S1x512x256.Idx)
    (w0 w1 : Vec F S1x512x128 .f32)
    (e0 : w0 = shapeCast S1x512x128 (extractStridedSlice S512x128 ![0, 0] z slices_S1024x128_o0_0_S512x128) shapeCasts_S512x128_S1x512x128)
    (e1 : w1 = shapeCast S1x512x128 (extractStridedSlice S512x128 ![512, 0] z slices_S1024x128_o512_0_S512x128) shapeCasts_S512x128_S1x512x128)
    (h : (y 1).val + 512 * ((y 2).val / 128) < 1024) (h' : (y 2).val % 128 < 128) :
    VecWindow.put (s := S1x512x256) (VecWindow.put (s := S1x512x256) x ![0, 0, 0] S1x512x128.size w0) ![0, 0, 128] S1x512x128.size w1 y
      = z (ix2 (⟨(y 1).val + 512 * ((y 2).val / 128), h⟩ : Fin 1024) (⟨(y 2).val % 128, h'⟩ : Fin 128)) := by
  have h1 : (y 1).val < 512 := (y 1).isLt
  have h2 : (y 2).val < 256 := (y 2).isLt
  have h0 : (y 0).val < 1 := (y 0).isLt
  have hcase : (y 2).val / 128 = 0 ∧ (y 2).val < 128 ∨ (y 2).val / 128 = 1 ∧ 128 ≤ (y 2).val := by omega
  subst e0 e1
  rcases hcase with ⟨hd, hl⟩ | ⟨hd, hl⟩
  · rw [put_apply_out _ _ _ _ _ (2 : Fin 3) (Or.inl hl)]
    rw [put_apply (s := S1x512x256) x ![0, 0, 0] S1x512x128.size _ y (ix3 (0 : Fin 1) (⟨(y 1).val, h1⟩ : Fin 512) (⟨(y 2).val, hl⟩ : Fin 128)) (fun a => by
      match a with
      | ⟨0, _⟩ => show (y 0).val = 0 + 0; omega
      | ⟨1, _⟩ => show (y 1).val = 0 + (y 1).val; omega
      | ⟨2, _⟩ => show (y 2).val = 0 + (y 2).val; omega)]
    refine (shapeCast_ab_1ab_apply (a := 512) (b := 128) _ shapeCasts_S512x128_S1x512x128 _ _ _).trans (congrArg z (funext fun a => Fin.ext ?_))
    match a with
    | ⟨0, _⟩ => show 0 + (y 1).val = (y 1).val + 512 * ((y 2).val / 128); omega
    | ⟨1, _⟩ => show 0 + (y 2).val = (y 2).val % 128; omega
  · rw [put_apply (s := S1x512x256) _ ![0, 0, 128] S1x512x128.size _ y (ix3 (0 : Fin 1) (⟨(y 1).val, h1⟩ : Fin 512) (⟨(y 2).val - 128, by omega⟩ : Fin 128)) (fun a => by
      match a with
      | ⟨0, _⟩ => show (y 0).val = 0 + 0; omega
      | ⟨1, _⟩ => show (y 1).val = 0 + (y 1).val; omega
      | ⟨2, _⟩ => show (y 2).val = 128 + ((y 2).val - 128); omega)]
    refine (shapeCast_ab_1ab_apply (a := 512) (b := 128) _ shapeCasts_S512x128_S1x512x128 _ _ _).trans (congrArg z (funext fun a => Fin.ext ?_))
    match a with
    | ⟨0, _⟩ => show 512 + (y 1).val = (y 1).val + 512 * ((y 2).val / 128); omega
    | ⟨1, _⟩ => show 0 + ((y 2).val - 128) = (y 2).val % 128; omega

/-- The attention's block after the body. -/
theorem body_value (a : St c arg11 arg14 arg15 F) :
    arg11.view.read (Elt F) (bodyStep c arg2 arg3 arg4 arg11 arg14 arg15 get2 get3 get4 St.o (fun a f => { a with o := f }) St.s (fun a f => { a with s := f })
      St.m (fun a f => { a with m := f }) a).o = attnOut X2 X3 X4 := by
  unfold bodyStep
  extract_lets a0 a1 v17 step z a2
  have h0 : Inv c arg2 arg3 arg11 arg14 arg15 get2 get3 0 a0 :=
    ⟨fun j hj => absurd hj (Nat.not_lt_zero _), View.read_writes_full arg15.view a.m _ _ []⟩
  have h1 : Inv c arg2 arg3 arg11 arg14 arg15 get2 get3 16 a1 := by
    have := inv_loop c arg2 arg3 arg11 arg14 arg15 get2 get3 a0 h0 2 (le_refl _)
    rw [← heads_eq] at this
    exact this
  have hv : v17 = k0_pay1825 (mx X2 X3 16) := by
    refine congrArg k0_pay1825 ?_
    rw [View.readAt_full arg15.view a1.m, h1.2]
  have hs : ∀ (n : ℕ) (hn : n < 16) (A : FVec F S1024x256 .f32), A = acc X2 X3 X4 n → step ⟨n, hn⟩ A = acc X2 X3 X4 (n + 1) := by
    intro n hn A hA
    rw [acc, dif_pos hn, ← hA, ← hv]
    dsimp only [step, accStep]
    rw [View.readAt_unit arg14.view a1.s _ (off8_eq ⟨n, hn⟩) (sb_inb ⟨n, hn⟩), View.readAt_unit arg4.view get4 _ (off9_eq ⟨n, hn⟩) (vb_inb ⟨n, hn⟩), h1.1 ⟨n, hn⟩ hn]
    rfl
  have hz : z = acc X2 X3 X4 16 :=
    hs 15 _ _ (hs 14 _ _ (hs 13 _ _ (hs 12 _ _ (hs 11 _ _ (hs 10 _ _ (hs 9 _ _ (hs 8 _ _ (hs 7 _ _ (hs 6 _ _ (hs 5 _ _ (hs 4 _ _ (hs 3 _ _ (hs 2 _ _ (hs 1 _ _ (hs 0 _ _ rfl)))))))))))))))
  clear_value z
  subst hz
  funext y
  dsimp only [a2]
  rw [read_store arg11.view _ _ rfl, read_store arg11.view _ _ rfl]
  exact put_heads _ _ y _ _ rfl rfl _ _

end

end Attn
-- ==== Proof.Run.lean ====
module

public import proofs.«01_k».proof.Proof.Pure
public import Idealize.ShloMosaic.Lib.VecWindow
public import Idealize.ShloMosaic.Lib.ValueLayout

@[expose] public section

set_option maxRecDepth 65536
set_option pp.deepTerms false
set_option pp.maxSteps 300

noncomputable section

namespace Attn

open Cert.KernelIdeal Cert.KernelIdeal.Gen
open Idealize.ShloMosaic Idealize.ShloMosaic.TcCoe Idealize.ShloMosaic.Tactic
open Idealize.ShloMosaic.ValueIdx (ix2 ix3 shapeCast_ab_1ab_apply)
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The body's triple -/

section
variable (c : Dev nD)
variable (i : grid0.Coords) (arg2 : Memref sig .tc .vmem S1x512x256 .f32) (harg2 : arg2.IsWhole) (arg3 : Memref sig .tc .vmem S1x8192x128 .bf16) (harg3 : arg3.IsWhole) (arg4 : Memref sig .tc .vmem S1x8192x256 .bf16) (harg4 : arg4.IsWhole) (arg5 : Memref sig .tc .vmem S4x1x256x128 .f32) (harg5 : arg5.IsWhole) (arg6 : Memref sig .tc .vmem S4x1x256x128 .f32) (harg6 : arg6.IsWhole) (arg7 : Memref sig .tc .vmem S4x1x256x128 .f32) (harg7 : arg7.IsWhole) (arg8 : Memref sig .tc .vmem S4x1x256x128 .f32) (harg8 : arg8.IsWhole) (arg9 : Memref sig .tc .vmem S4x1x256x128 .f32) (harg9 : arg9.IsWhole) (arg10 : Memref sig .tc .vmem S4x1x256x128 .f32) (harg10 : arg10.IsWhole) (arg11 : Memref sig .tc .vmem S1x512x256 .f32) (harg11 : arg11.IsWhole) (arg12 : Memref sig .tc .vmem S4x1x256x128 .f32) (harg12 : arg12.IsWhole) (arg13 : Memref sig .tc .vmem S4x1x256x128 .f32) (harg13 : arg13.IsWhole) (arg14 : Memref sig .tc .vmem S16x1024x512 .f32) (harg14 : arg14.IsWhole) (arg15 : Memref sig .tc .vmem S1024x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x128x128 .f32) (harg18 : arg18.IsWhole)

/-- Every buffer of the body, with `T` beside: the three inputs of the attention at fixed contents, its block, the scores and the
    maximum at the state's, the scan's inputs at fixed contents and all it writes at some. -/
def Res (f2 : Buf (Elt F) (arg2.view.loc (c.tc : Thread nD τ))) (f3 : Buf (Elt F) (arg3.view.loc (c.tc : Thread nD τ))) (f4 : Buf (Elt F) (arg4.view.loc (c.tc : Thread nD τ))) (f5 : Buf (Elt F) (arg5.view.loc (c.tc : Thread nD τ))) (f6 : Buf (Elt F) (arg6.view.loc (c.tc : Thread nD τ))) (f7 : Buf (Elt F) (arg7.view.loc (c.tc : Thread nD τ))) (f8 : Buf (Elt F) (arg8.view.loc (c.tc : Thread nD τ))) (f9 : Buf (Elt F) (arg9.view.loc (c.tc : Thread nD τ))) (f10 : Buf (Elt F) (arg10.view.loc (c.tc : Thread nD τ))) (T : sProp 𝕄) (a : St c arg11 arg14 arg15 F) : sProp 𝕄 :=
  iprop((arg2.view.loc (c.tc : Thread nD τ) ↦{fullShare} f2) ∗ (arg3.view.loc (c.tc : Thread nD τ) ↦{fullShare} f3) ∗ (arg4.view.loc (c.tc : Thread nD τ) ↦{fullShare} f4) ∗ (arg11.view.loc (c.tc : Thread nD τ) ↦{fullShare} a.o) ∗ (arg14.view.loc (c.tc : Thread nD τ) ↦{fullShare} a.s) ∗ (arg15.view.loc (c.tc : Thread nD τ) ↦{fullShare} a.m) ∗ (arg5.view.loc (c.tc : Thread nD τ) ↦{fullShare} f5) ∗ (arg6.view.loc (c.tc : Thread nD τ) ↦{fullShare} f6) ∗ (arg7.view.loc (c.tc : Thread nD τ) ↦{fullShare} f7) ∗ (arg8.view.loc (c.tc : Thread nD τ) ↦{fullShare} f8) ∗ (arg9.view.loc (c.tc : Thread nD τ) ↦{fullShare} f9) ∗ (arg10.view.loc (c.tc : Thread nD τ) ↦{fullShare} f10) ∗ (∃ f, (arg12.view.loc (c.tc : Thread nD τ) ↦{fullShare} f)) ∗ (∃ f, (arg13.view.loc (c.tc : Thread nD τ) ↦{fullShare} f)) ∗ (∃ f, (arg16.view.loc (c.tc : Thread nD τ) ↦{fullShare} f)) ∗ (∃ f, (arg17.view.loc (c.tc : Thread nD τ) ↦{fullShare} f)) ∗ (∃ f, (arg18.view.loc (c.tc : Thread nD τ) ↦{fullShare} f)) ∗ T)

set_option maxHeartbeats 4000000 in
/-- The body, from every buffer whole: it leaves the inputs as found and the attention's block at `attnOut` of the first three. -/
theorem sound_kernel (x2 : Vec F S1x512x256 .f32) (x3 : Vec F S1x8192x128 .bf16) (x4 : Vec F S1x8192x256 .bf16) (x5 : Vec F S4x1x256x128 .f32) (x6 : Vec F S4x1x256x128 .f32) (x7 : Vec F S4x1x256x128 .f32) (x8 : Vec F S4x1x256x128 .f32) (x9 : Vec F S4x1x256x128 .f32) (x10 : Vec F S4x1x256x128 .f32) (K : PUnit → sProp 𝕄) :
    iprop(owns (c.tc : Thread nD τ) arg2 fullShare x2 ∗ owns (c.tc : Thread nD τ) arg3 fullShare x3 ∗ owns (c.tc : Thread nD τ) arg4 fullShare x4 ∗ owns (c.tc : Thread nD τ) arg5 fullShare x5 ∗ owns (c.tc : Thread nD τ) arg6 fullShare x6 ∗ owns (c.tc : Thread nD τ) arg7 fullShare x7 ∗ owns (c.tc : Thread nD τ) arg8 fullShare x8 ∗ owns (c.tc : Thread nD τ) arg9 fullShare x9 ∗ owns (c.tc : Thread nD τ) arg10 fullShare x10 ∗ (∃ d, owns (c.tc : Thread nD τ) arg11 fullShare d) ∗ (∃ d, owns (c.tc : Thread nD τ) arg12 fullShare d) ∗ (∃ d, owns (c.tc : Thread nD τ) arg13 fullShare d) ∗ (∃ f, (arg14.view.loc (c.tc : Thread nD τ) ↦{fullShare} f)) ∗ (∃ f, (arg15.view.loc (c.tc : Thread nD τ) ↦{fullShare} f)) ∗ (∃ f, (arg16.view.loc (c.tc : Thread nD τ) ↦{fullShare} f)) ∗ (∃ f, (arg17.view.loc (c.tc : Thread nD τ) ↦{fullShare} f)) ∗ (∃ f, (arg18.view.loc (c.tc : Thread nD τ) ↦{fullShare} f))
        ∗ (iprop(owns (c.tc : Thread nD τ) arg2 fullShare x2 ∗ owns (c.tc : Thread nD τ) arg3 fullShare x3 ∗ owns (c.tc : Thread nD τ) arg4 fullShare x4 ∗ owns (c.tc : Thread nD τ) arg5 fullShare x5 ∗ owns (c.tc : Thread nD τ) arg6 fullShare x6 ∗ owns (c.tc : Thread nD τ) arg7 fullShare x7 ∗ owns (c.tc : Thread nD τ) arg8 fullShare x8 ∗ owns (c.tc : Thread nD τ) arg9 fullShare x9 ∗ owns (c.tc : Thread nD τ) arg10 fullShare x10 ∗ owns (c.tc : Thread nD τ) arg11 fullShare (attnOut x2 x3 x4) ∗ (∃ d, owns (c.tc : Thread nD τ) arg12 fullShare d) ∗ (∃ d, owns (c.tc : Thread nD τ) arg13 fullShare d) ∗ (∃ f, (arg14.view.loc (c.tc : Thread nD τ) ↦{fullShare} f)) ∗ (∃ f, (arg15.view.loc (c.tc : Thread nD τ) ↦{fullShare} f)) ∗ (∃ f, (arg16.view.loc (c.tc : Thread nD τ) ↦{fullShare} f)) ∗ (∃ f, (arg17.view.loc (c.tc : Thread nD τ) ↦{fullShare} f)) ∗ (∃ f, (arg18.view.loc (c.tc : Thread nD τ) ↦{fullShare} f))) -∗ K ⟨⟩))
      ⊢ wp frame (wpE (defs₀ (F := F)) Variants.none (c.tc : Thread nD τ) none) Set.univ (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [owns_whole harg2, owns_whole harg3, owns_whole harg4, owns_whole harg5, owns_whole harg6, owns_whole harg7, owns_whole harg8, owns_whole harg9, owns_whole harg10, owns_whole harg11, owns_whole harg12, owns_whole harg13]
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%d11, %f11, -, H11⟩, ⟨%d12, %f12, -, H12⟩, ⟨%d13, %f13, -, H13⟩, ⟨%f14, H14⟩, ⟨%f15, H15⟩, ⟨%f16, H16⟩, ⟨%f17, H17⟩, ⟨%f18, H18⟩, HK⟩
  subst h2 h3 h4 h5 h6 h7 h8 h9 h10
  generalize hT : iprop(_ -∗ K ⟨⟩) = T
  let R := Res c arg2 arg3 arg4 arg5 arg6 arg7 arg8 arg9 arg10 arg11 arg12 arg13 arg14 arg15 arg16 arg17 arg18 f2 f3 f4 f5 f6 f7 f8 f9 f10 T
  have r2 : Reads c R arg2 (fun _ => f2) := Reads.here _
  have r3 : Reads c R arg3 (fun _ => f3) := .there (Reads.here _)
  have r4 : Reads c R arg4 (fun _ => f4) := .there (.there (Reads.here _))
  have r5 : Reads c R arg5 (fun _ => f5) := .there (.there (.there (.there (.there (.there (Reads.here _))))))
  have r6 : Reads c R arg6 (fun _ => f6) := .there (.there (.there (.there (.there (.there (.there (Reads.here _)))))))
  have r7 : Reads c R arg7 (fun _ => f7) := .there (.there (.there (.there (.there (.there (.there (.there (Reads.here _))))))))
  have r8 : Reads c R arg8 (fun _ => f8) := .there (.there (.there (.there (.there (.there (.there (.there (.there (Reads.here _)))))))))
  have r9 : Reads c R arg9 (fun _ => f9) := .there (.there (.there (.there (.there (.there (.there (.there (.there (.there (Reads.here _))))))))))
  have r10 : Reads c R arg10 (fun _ => f10) := .there (.there (.there (.there (.there (.there (.there (.there (.there (.there (.there (Reads.here _)))))))))))
  have r11 : Reads c R arg11 St.o := .there (.there (.there (Reads.here _)))
  have w11 : Writes c R arg11 St.o (fun a f => { a with o := f }) := .there (fun _ _ => rfl) (.there (fun _ _ => rfl) (.there (fun _ _ => rfl) (Writes.here (fun _ _ => rfl) (fun _ _ => rfl))))
  have r14 : Reads c R arg14 St.s := .there (.there (.there (.there (Reads.here _))))
  have w14 : Writes c R arg14 St.s (fun a f => { a with s := f }) := .there (fun _ _ => rfl) (.there (fun _ _ => rfl) (.there (fun _ _ => rfl) (.there (fun _ _ => rfl) (Writes.here (fun _ _ => rfl) (fun _ _ => rfl)))))
  have r15 : Reads c R arg15 St.m := .there (.there (.there (.there (.there (Reads.here _)))))
  have w15 : Writes c R arg15 St.m (fun a f => { a with m := f }) := .there (fun _ _ => rfl) (.there (fun _ _ => rfl) (.there (fun _ _ => rfl) (.there (fun _ _ => rfl) (.there (fun _ _ => rfl) (Writes.here (fun _ _ => rfl) (fun _ _ => rfl))))))
  have w12 : SomeWrites c R arg12 := .there (.there (.there (.there (.there (.there (.there (.there (.there (.there (.there (.there (SomeWrites.here))))))))))))
  have w13 : SomeWrites c R arg13 := .there (.there (.there (.there (.there (.there (.there (.there (.there (.there (.there (.there (.there (SomeWrites.here)))))))))))))
  have w16 : SomeWrites c R arg16 := .there (.there (.there (.there (.there (.there (.there (.there (.there (.there (.there (.there (.there (.there (SomeWrites.here))))))))))))))
  have w17 : SomeWrites c R arg17 := .there (.there (.there (.there (.there (.there (.there (.there (.there (.there (.there (.there (.there (.there (.there (SomeWrites.here)))))))))))))))
  have w18 : SomeWrites c R arg18 := .there (.there (.there (.there (.there (.there (.there (.there (.there (.there (.there (.there (.there (.there (.there (.there (SomeWrites.here))))))))))))))))
  have run := body_wp c R i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 r5.some r6.some r7.some r8.some r9.some r10.some w12 w13 w16 w17 w18 r2 r3 r4 w11 w14 w15 r11.some r14 r15 r3.some r14.some r15.some ⟨f11, f14, f15⟩
  have val := body_value c arg2 arg3 arg4 arg11 arg14 arg15 f2 f3 f4 ⟨f11, f14, f15⟩
  generalize bodyStep c arg2 arg3 arg4 arg11 arg14 arg15 f2 f3 f4 St.o _ St.s _ St.m _ ⟨f11, f14, f15⟩ = z at run val
  refine BIBase.Entails.trans ?_ (run.trans (wp_mono _ _ _ fun _ => ?_))
  · unfold R Res
    iintro ⟨⟨⟨⟨⟨⟨⟨⟨⟨⟨⟨⟨⟨⟨⟨⟨⟨H2, H3⟩, H4⟩, H5⟩, H6⟩, H7⟩, H8⟩, H9⟩, H10⟩, H11⟩, H12⟩, H13⟩, H14⟩, H15⟩, H16⟩, H17⟩, H18⟩, HT⟩
    isplitl [H2]; · iexact H2
    isplitl [H3]; · iexact H3
    isplitl [H4]; · iexact H4
    isplitl [H11]; · iexact H11
    isplitl [H14]; · iexact H14
    isplitl [H15]; · iexact H15
    isplitl [H5]; · iexact H5
    isplitl [H6]; · iexact H6
    isplitl [H7]; · iexact H7
    isplitl [H8]; · iexact H8
    isplitl [H9]; · iexact H9
    isplitl [H10]; · iexact H10
    isplitl [H12]; · iexists _; iexact H12
    isplitl [H13]; · iexists _; iexact H13
    isplitl [H16]; · iexists _; iexact H16
    isplitl [H17]; · iexists _; iexact H17
    isplitl [H18]; · iexists _; iexact H18
    iexact HT
  · unfold R Res
    subst hT
    iintro ⟨H2, H3, H4, H11, H14, H15, H5, H6, H7, H8, H9, H10, ⟨%f12, H12⟩, ⟨%f13, H13⟩, ⟨%f16, H16⟩, ⟨%f17, H17⟩, ⟨%f18, H18⟩, HK⟩
    iapply HK
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists z.o; isplitr; · ipureintro; exact val
      iexact H11
    isplitl [H12]
    · iexists _, f12; isplitr; · ipureintro; rfl
      iexact H12
    isplitl [H13]
    · iexists _, f13; isplitr; · ipureintro; rfl
      iexact H13
    isplitl [H14]; · iexists _; iexact H14
    isplitl [H15]; · iexists _; iexact H15
    isplitl [H16]; · iexists _; iexact H16
    isplitl [H17]; · iexists _; iexact H17
    iexists _; iexact H18

end

end Attn
-- ==== Proof.Launch.lean ====
module

public import proofs.«01_k».proof.Proof.Run
public import Idealize.ShloMosaic.Lib.Claim
public import Idealize.ShloMosaic.Lib.VecWindow
public import Idealize.ShloMosaic.Lib.ValueLayout

@[expose] public section

set_option maxRecDepth 65536
set_option pp.deepTerms false
set_option pp.maxSteps 300

noncomputable section

namespace Attn

open Cert.KernelIdeal Cert.KernelIdeal.Gen
open Idealize.ShloMosaic Idealize.ShloMosaic.TcCoe Idealize.ShloMosaic.Tactic
open Idealize.ShloMosaic.ValueIdx (ix2 ix3 shapeCast_ab_1ab_apply)
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data: the recurrence's two results forgotten, the attention's block named -/

/-- The windows nothing is said of: the recurrence's results. -/
def fgt : Fin 12 → Bool
  | ⟨10, _⟩ => true
  | ⟨11, _⟩ => true
  | _ => false

/-- The arrays as the region finds them; after the body each input's block as it was and the attention's block at `attnOut`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => attnOut (iblk m c 0 t) (iblk m c 1 t) (iblk m c 2 t)
    | ⟨10, _⟩ => Pipeline.Dat.unnamed (cfg := cfg0) 10 t
    | ⟨11, _⟩ => Pipeline.Dat.unnamed (cfg := cfg0) 11 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = attnOut (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ X, owns (c : Thread nD τ) (st0_10 t) fullShare (X)) ∗ (∃ X, owns (c : Thread nD τ) (st0_11 t) fullShare (X)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ (∃ X, owns (c : Thread nD τ) (st0_10 t) fullShare (X)) ∗ (∃ X, owns (c : Thread nD τ) (st0_11 t) fullShare (X)))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5, after0_6, after0_7, after0_8, after0_9]
  unfold Pipeline.ΦA
  rw [scopedRest0_eq]
  iintro ⟨⟨⟨S0, S1, S2, S3, S4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  iapply (sound_kernel c _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, S0, S1, S2, S3, S4⟩
  isplitl [S0 S1 S2 S3 S4 Hr]
  · isplitl [S0 S1 S2 S3 S4]
    · isplitl [S0]; · iexact S0
      isplitl [S1]; · iexact S1
      isplitl [S2]; · iexact S2
      isplitl [S3]; · iexact S3
      iexact S4
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-! ## The run -/

-- the library theorem's implicit arguments are found by unifying its conclusion with this one, which takes unfolding plain
-- definitions in a metavariable's type
set_option backward.isDefEq.respectTransparency.types false in
/-- Every fair execution ends, with the region's arrays as the proof data says and every counter at zero. -/
theorem run_main : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_track_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- What the run says of the arguments and of the attention's result. -/
theorem frame_value : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)
      ∧ ∀ c : Dev nD, r.2.mem ((c.tc : Thread nD τ).loc main_v6_0) = (dats m 0 c).arrAt 9 cfg0.N) := by
  refine (θ_run defs _ _).mono (fun r h => ⟨⟨fun c => ?_, h.2⟩, fun c => ((dats m 0 c).toRForget_arrAt_iff (fgt := fgt) (w := 9) rfl _ _).mp ((h.1 c).1 9)⟩) (run_main m ρ)
  exact ⟨(h.1.arr_in c 0 rfl).trans ((A_eq m c 0).trans (V_main_arg0 m c)),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    (h.1.arr_in c 6 rfl).trans ((A_eq m c 6).trans (V_main_arg3 m c)),
    (h.1.arr_in c 5 rfl).trans ((A_eq m c 5).trans (V_main_arg4 m c)),
    (h.1.arr_in c 8 rfl).trans ((A_eq m c 8).trans (V_main_arg5 m c)),
    (h.1.arr_in c 7 rfl).trans ((A_eq m c 7).trans (V_main_arg6 m c))⟩

end Attn
-- ==== Proof.Frames.lean ====
/- The frame of the kernel as it is printed: its text at machine words is the idealized program's at machine words, once
   the named constant is read as the word it was printed with. -/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Attn

open Idealize.ShloMosaic Idealize.ShloMosaic.TcCoe Idealize.SL.Sem

/-- At machine words a named constant is the word it was printed with. -/
@[reducible] def wordNames : Named Bits where
  named _ _ {φ} bits := Scalar.ofBits φ bits

attribute [local instance] wordNames

set_option maxRecDepth 100000 in
theorem mixer_same : Cert.Kernel.cc0_mixer (F := Bits) = Cert.KernelIdeal.cc0_mixer (F := Bits) := rfl

theorem defs₀_same : Cert.Kernel.defs₀ (F := Bits) = Cert.KernelIdeal.defs₀ (F := Bits) := by
  unfold Cert.Kernel.defs₀ Cert.KernelIdeal.defs₀
  refine congrArg Defs.onTc (funext fun l => funext fun p => ?_)
  match l, p with
  | 0, (t, s) =>
    dsimp only
    rw [mixer_same]
    rfl

theorem defs_same : Cert.Kernel.defs (F := Bits) = Cert.KernelIdeal.defs (F := Bits) :=
  congrArg (Pipeline.defs (Cert.Kernel.pcfgs (F := Bits))) defs₀_same

theorem frame_kernel : Cert.quiescent_Kernel := fun m g _ => by
  rw [defs_same]
  exact (θ_run (Cert.KernelIdeal.defs (F := Bits)) _ _).mono (fun _ h => h.1) (frame_value (F := Bits) m g)

theorem frame_ideal : Cert.quiescent_KernelIdeal := fun m g _ =>
  (θ_run (Cert.KernelIdeal.defs (F := Ideal)) _ _).mono (fun _ h => h.1) (frame_value (F := Ideal) m g)

theorem frame_reference : Cert.quiescent_ReferenceIdeal := fun m g _ =>
  (θ_run (Cert.ReferenceIdeal.defs (F := Ideal)) _ _).mono (fun _ h => ⟨fun c => (h c).2, sem_eq_zero_of_no_sems (by decide) _⟩)
    (Cert.ReferenceIdeal.Value.run (F := Ideal) m g)

theorem named : Cert.preserves_Kernel_KernelIdeal :=
  IdealRules.named_const.statement Cert.KernelIdeal.κ "log2e" .f32 0x3FB8AA3B#32 (((Real.log 2)⁻¹ : ℝ) : EReal) rfl

end Attn
-- ==== Proof.Soft.lean ====
/- Softmax attention of one query row over the extended reals: dividing after the product with the values or before it,
   in base two or base e, from any finite reference score. -/
module

public import Idealize.ShloMosaic.PureOps.Ideal
public import Idealize.ShloMosaic.PureOps.Ideal.Laws

@[expose] public section

noncomputable section

namespace Attn.Soft

open Idealize.ShloMosaic

/-- An extended real that is a real. -/
def Fin (x : EReal) : Prop := ∃ r : ℝ, x = (r : EReal)

theorem Fin.mul {x y : EReal} : Fin x → Fin y → Fin (x * y) := fun ⟨a, ha⟩ ⟨b, hb⟩ => ⟨a * b, by rw [ha, hb, EReal.coe_mul]⟩
theorem Fin.max_fin {x y : EReal} (hx : Fin x) (hy : Fin y) : Fin (Max.max x y) := by
  rcases max_choice x y with h | h <;> rw [h] <;> assumption

theorem Fin.max_left {x y : EReal} (hx : Fin x) (hy : y = ⊥ ∨ Fin y) : Fin (Max.max x y) := by
  rcases hy with rfl | h
  · rwa [max_bot_right]
  · exact hx.max_fin h

theorem coe_sum {ι : Type} (S : Finset ι) (f : ι → ℝ) : ((∑ i ∈ S, f i : ℝ) : EReal) = ∑ i ∈ S, (f i : EReal) := by
  classical
  induction S using Finset.induction with
  | empty => simp
  | insert a S ha ih => rw [Finset.sum_insert ha, Finset.sum_insert ha, EReal.coe_add, ih]

theorem Fin.sum {ι : Type} (S : Finset ι) (f : ι → EReal) (h : ∀ i, Fin (f i)) : Fin (∑ i ∈ S, f i) := by
  choose g hg using h
  exact ⟨∑ i ∈ S, g i, by rw [coe_sum]; exact Finset.sum_congr rfl fun i _ => hg i⟩

theorem fold_max {ι : Type} (S : Finset ι) (f : ι → EReal) (h : ∀ i, Fin (f i)) : (S = ∅ ∧ S.fold Max.max ⊥ f = ⊥) ∨ Fin (S.fold Max.max ⊥ f) := by
  classical
  induction S using Finset.induction with
  | empty => exact .inl ⟨rfl, rfl⟩
  | insert a S ha ih =>
    right
    rw [Finset.fold_insert ha]
    exact (h a).max_left (ih.imp And.right id)

theorem fold_max_fin {n : ℕ} (f : _root_.Fin (n + 1) → EReal) (h : ∀ i, Fin (f i)) : Fin (Finset.univ.fold Max.max ⊥ f) :=
  (fold_max Finset.univ f h).resolve_left fun hc => absurd hc.1 Finset.univ_nonempty.ne_empty

/-- A nonnegative real goes through a sum. -/
theorem sum_mul_real {ι : Type} (S : Finset ι) (f : ι → EReal) (c : ℝ) (hc : 0 ≤ c) : (∑ i ∈ S, f i) * (c : EReal) = ∑ i ∈ S, f i * (c : EReal) := by
  classical
  induction S using Finset.induction with
  | empty => simp
  | insert a S ha ih =>
    rw [Finset.sum_insert ha, Finset.sum_insert ha, EReal.right_distrib_of_nonneg_of_ne_top (by exact_mod_cast hc) (EReal.coe_ne_top c), ih]

theorem exp2_real (r : ℝ) : Ideal.exp2 (r : EReal) = ((2 : ℝ) ^ r : ℝ) := rfl

theorem rpow_log (s M : ℝ) : (2 : ℝ) ^ ((Real.log 2)⁻¹ * s - M) = Real.exp s * (2 : ℝ) ^ (-M) := by
  have h2 : Real.log 2 ≠ 0 := (Real.log_pos (by norm_num)).ne'
  rw [sub_eq_add_neg, Real.rpow_add (by norm_num), Real.rpow_def_of_pos (by norm_num : (0 : ℝ) < 2), mul_inv_cancel_left₀ h2]

/-- One row: weights in base two and a division at the end, against weights in base e divided first. -/
theorem row {n : ℕ} (s : _root_.Fin (n + 1) → ℝ) (M N : ℝ) (v : _root_.Fin (n + 1) → EReal) :
    Ideal.div (∑ c, (((2 : ℝ) ^ ((Real.log 2)⁻¹ * s c - N) : ℝ) : EReal) * v c) (∑ c, (((2 : ℝ) ^ ((Real.log 2)⁻¹ * s c - N) : ℝ) : EReal))
      = ∑ c, v c * Ideal.div ((Real.exp (s c - M) : ℝ) : EReal) (∑ c, ((Real.exp (s c - M) : ℝ) : EReal)) := by
  have hb : (0 : ℝ) < (2 : ℝ) ^ (-N) := Real.rpow_pos_of_pos (by norm_num) _
  have hL : (0 : ℝ) < ∑ c, Real.exp (s c - M) := Finset.sum_pos (fun _ _ => Real.exp_pos _) Finset.univ_nonempty
  have hP : (0 : ℝ) < ∑ c, (2 : ℝ) ^ ((Real.log 2)⁻¹ * s c - N) := Finset.sum_pos (fun _ _ => Real.rpow_pos_of_pos (by norm_num) _) Finset.univ_nonempty
  have hd : ∀ (x : EReal) (y : ℝ), 0 < y → Ideal.div x (y : EReal) = x * ((y⁻¹ : ℝ) : EReal) := by
    intro x y hy
    unfold Ideal.div
    rw [if_neg (by exact_mod_cast hy.ne'), EReal.coe_inv]
  rw [← coe_sum, ← coe_sum, hd _ _ hP, sum_mul_real _ _ _ (inv_nonneg.2 hP.le)]
  refine Finset.sum_congr rfl fun c _ => ?_
  rw [hd _ _ hL, mul_comm (v c), mul_right_comm, ← EReal.coe_mul, ← EReal.coe_mul]
  congr 2
  have e1 : ∀ c, (2 : ℝ) ^ ((Real.log 2)⁻¹ * s c - N) = Real.exp (s c - M) * (Real.exp M * (2 : ℝ) ^ (-N)) := fun c => by
    rw [rpow_log, ← mul_assoc, ← Real.exp_add, sub_add_cancel]
  simp only [e1, ← Finset.sum_mul]
  have hk : Real.exp M * (2 : ℝ) ^ (-N) ≠ 0 := (mul_pos (Real.exp_pos _) hb).ne'
  field_simp

end Attn.Soft
-- ==== Proof.KVal.lean ====
/- The attention's block read at an index. -/
module

public import proofs.«01_k».proof.Proof.Pure
public import proofs.«01_k».proof.Proof.Soft
public import Idealize.ShloMosaic.Lib.Pointwise

@[expose] public section

noncomputable section

namespace Attn

open Cert.KernelIdeal Cert.KernelIdeal.Gen Idealize.ShloMosaic Idealize.ShloMosaic.TcCoe

set_option maxRecDepth 16384

/-- The base-two logarithm of e. -/
def log2e : ℝ := (Real.log 2)⁻¹

section reads

theorem pay1823_at (a b : Vec Ideal S1x512x128 .f32) (R : Fin 1024) (d : Fin 128) : k0_pay1823 a b (ix2 R d)
    = (if h : R.val < 512 then a (ix3 0 ⟨R.val, h⟩ d) else b (ix3 0 ⟨R.val - 512, by omega⟩ d)) * (log2e : EReal) := by
  pointwise [k0_pay1823]
  rfl

theorem pay525_at (a : FVec Ideal S1024x128 .bf16) (b : Vec Ideal S1x512x128 .bf16) (R : Fin 1024) (t : Fin 512) :
    k0_pay525 a b (ix2 R t) = ∑ x : Fin 128, a (ix2 R x) * b (ix3 0 t x) := by
  pointwise [k0_pay525]

theorem pay526_at (a : FVec Ideal S1024x128 .bf16) (b : Vec Ideal S1x512x128 .bf16) (z : Fin 1) (R : Fin 1024) (t : Fin 512) :
    k0_pay526 a b (ix3 z R t) = k0_pay525 a b (ix2 R t) := by
  pointwise [k0_pay526]

theorem pay527_at (a : FVec Ideal S1024x128 .bf16) (b : Vec Ideal S1x512x128 .bf16) (m : Vec Ideal S1024x128 .f32) (R : Fin 1024) (d : Fin 128) :
    k0_pay527 a b m (ix2 R d) = max (m (ix2 R d)) (max (max (max (k0_pay525 a b (ix2 R ⟨d.val, by omega⟩)) (k0_pay525 a b (ix2 R ⟨128 + d.val, by omega⟩)))
      (k0_pay525 a b (ix2 R ⟨256 + d.val, by omega⟩))) (k0_pay525 a b (ix2 R ⟨384 + d.val, by omega⟩))) := by
  pointwise [k0_pay527]

theorem pay1825_at (m : Vec Ideal S1024x128 .f32) (R : Fin 1024) (d : Fin 128) :
    k0_pay1825 m (ix2 R d) = Finset.univ.fold max ⊥ fun x : Fin 128 => m (ix2 R x) := by
  have h : Ideal.ofBits .f32 0xFF800000#32 = ⊥ := by simp [Ideal.ofBits, Ideal.ieee]
  pointwise [k0_pay1825]
  rw [← h]

theorem pay1838_at (V : FVec Ideal S1024x128 .f32) (acc : FVec Ideal S1024x256 .f32) (s : Vec Ideal S1x1024x512 .f32) (w : Vec Ideal S1x512x256 .bf16)
    (R : Fin 1024) (l : Fin 256) (N : EReal) (hV : ∀ d, V (ix2 R d) = N) :
    k0_pay1838 V acc s w (ix2 R l) = acc (ix2 R l) + ∑ x : Fin 512, Ideal.exp2 (s (ix3 0 R x) - N) * w (ix3 0 x l) := by
  pointwise [k0_pay1838]
  refine congrArg _ (Finset.sum_congr rfl fun x _ => congrArg (· * _) ?_)
  simp only [hV]
  split
  · rfl
  split
  · exact congrArg (fun y => Ideal.exp2 (s (ix3 0 R y) - N)) (Fin.ext (by show 128 + (x.val - 128) = x.val; omega))
  split
  · exact congrArg (fun y => Ideal.exp2 (s (ix3 0 R y) - N)) (Fin.ext (by show 256 + (x.val - 128 - 128) = x.val; omega))
  · exact congrArg (fun y => Ideal.exp2 (s (ix3 0 R y) - N)) (Fin.ext (by show 384 + (x.val - 128 - 128 - 128) = x.val; omega))

theorem quot_at (acc : FVec Ideal S1024x256 .f32) (R : Fin 1024) (l : Fin 128) :
    quot acc (ix2 R l) = Ideal.div (acc (ix2 R ⟨l.val, by omega⟩)) (acc (ix2 R ⟨128 + l.val, by omega⟩)) := by
  pointwise [quot]

end reads

section
variable (x2 : Vec Ideal S1x512x256 .f32) (x3 : Vec Ideal S1x8192x128 .bf16) (x4 : Vec Ideal S1x8192x256 .bf16)

theorem emb_val {s : Shape} (off size : Fin s.rank → ℕ) (inb : ∀ a, off a + size a ≤ s.size a) (y : (Rect.unit off size inb).shape.Idx) (a : Fin s.rank) :
    ((Rect.unit off size inb).emb y a).val = off a + (y a).val := by
  show off a + 1 * (y a).val = _
  rw [Nat.one_mul]

theorem kblk_at (j : Fin 16) (t : Fin 512) (d : Fin 128) : kblk x3 j (ix3 0 t d) = x3 (ix3 0 ⟨512 * j.val + t.val, by omega⟩ d) :=
  congrArg x3 (funext fun a => Fin.ext ((emb_val _ _ _ _ a).trans (match a with
    | ⟨0, _⟩ => rfl
    | ⟨1, _⟩ => rfl
    | ⟨2, _⟩ => Nat.zero_add _)))

theorem vblk_at (j : Fin 16) (t : Fin 512) (d : Fin 256) : vblk x4 j (ix3 0 t d) = x4 (ix3 0 ⟨512 * j.val + t.val, by omega⟩ d) :=
  congrArg x4 (funext fun a => Fin.ext ((emb_val _ _ _ _ a).trans (match a with
    | ⟨0, _⟩ => rfl
    | ⟨1, _⟩ => rfl
    | ⟨2, _⟩ => Nat.zero_add _)))

/-- The queries' rows: head `0`'s in rows 0–511, head `1`'s in rows 512–1023. -/
theorem qrows_at (R : Fin 1024) (d : Fin 128) :
    qrows x2 (ix2 R d) = x2 (ix3 0 ⟨R.val % 512, by omega⟩ ⟨128 * (R.val / 512) + d.val, by omega⟩) * (log2e : EReal) := by
  unfold qrows
  rw [pay1823_at]
  refine congrArg (· * _) ?_
  split
  · rename_i h
    exact congrArg x2 (funext fun a => Fin.ext ((emb_val _ _ _ _ a).trans (match a with
      | ⟨0, _⟩ => rfl
      | ⟨1, _⟩ => by show 0 + R.val = R.val % 512; omega
      | ⟨2, _⟩ => by show 0 + d.val = 128 * (R.val / 512) + d.val; omega)))
  · rename_i h
    exact congrArg x2 (funext fun a => Fin.ext ((emb_val _ _ _ _ a).trans (match a with
      | ⟨0, _⟩ => rfl
      | ⟨1, _⟩ => by show 0 + (R.val - 512) = R.val % 512; omega
      | ⟨2, _⟩ => by show 128 + d.val = 128 * (R.val / 512) + d.val; omega)))

theorem sblk_at (j : Fin 16) (R : Fin 1024) (t : Fin 512) :
    sblk x2 x3 j (ix3 0 R t) = ∑ d : Fin 128, qrows x2 (ix2 R d) * x3 (ix3 0 ⟨512 * j.val + t.val, by omega⟩ d) := by
  unfold sblk
  rw [pay526_at, pay525_at]
  simp only [kblk_at]

variable (h2 : ∀ i, Soft.Fin (x2 i)) (h3 : ∀ i, Soft.Fin (x3 i))
include h2 h3

theorem score_fin (j : Fin 16) (R : Fin 1024) (t : Fin 512) : Soft.Fin (k0_pay525 (qrows x2) (kblk x3 j) (ix2 R t)) := by
  rw [pay525_at]
  refine Soft.Fin.sum _ _ fun d => Soft.Fin.mul ?_ (by rw [kblk_at]; exact h3 _)
  rw [qrows_at]
  exact (h2 _).mul ⟨_, rfl⟩

theorem mx_step (n : ℕ) (h : n < 16) (R : Fin 1024) (d : Fin 128) (hm : mx x2 x3 n (ix2 R d) = ⊥ ∨ Soft.Fin (mx x2 x3 n (ix2 R d))) :
    Soft.Fin (mx x2 x3 (n + 1) (ix2 R d)) := by
  rw [mx, dif_pos h, pay527_at, max_comm]
  exact Soft.Fin.max_left ((((score_fin x2 x3 h2 h3 _ _ _).max_fin (score_fin x2 x3 h2 h3 _ _ _)).max_fin (score_fin x2 x3 h2 h3 _ _ _)).max_fin (score_fin x2 x3 h2 h3 _ _ _)) hm

theorem mx_fin (R : Fin 1024) (d : Fin 128) : ∀ n, n ≤ 16 → (mx x2 x3 n (ix2 R d) = ⊥ ∨ Soft.Fin (mx x2 x3 n (ix2 R d)))
  | 0, _ => .inl (by show Ideal.ofBits .f32 0xFF800000#32 = ⊥; simp [Ideal.ofBits, Ideal.ieee])
  | n + 1, h => .inr (mx_step x2 x3 h2 h3 n h R d (mx_fin R d n (by omega)))

theorem top_fin (R : Fin 1024) : ∃ N : ℝ, ∀ d, k0_pay1825 (mx x2 x3 16) (ix2 R d) = (N : EReal) := by
  obtain ⟨N, hN⟩ := Soft.fold_max_fin (n := 127) (fun x => mx x2 x3 16 (ix2 R x)) fun d => mx_step x2 x3 h2 h3 15 (by omega) R d (mx_fin x2 x3 h2 h3 R d 15 (by omega))
  exact ⟨N, fun d => by rw [pay1825_at]; exact hN⟩

omit h2 h3 in
/-- The sums over the first `n` blocks. -/
theorem acc_at (R : Fin 1024) (l : Fin 256) (N : EReal) (hN : ∀ d, k0_pay1825 (mx x2 x3 16) (ix2 R d) = N) (f : ℕ → EReal)
    (hf : ∀ c : Fin 8192, Ideal.exp2 ((∑ d : Fin 128, qrows x2 (ix2 R d) * x3 (ix3 0 c d)) - N) * x4 (ix3 0 c l) = f c.val) :
    ∀ n, n ≤ 16 → acc x2 x3 x4 n (ix2 R l) = ∑ c ∈ Finset.range (512 * n), f c
  | 0, _ => by
    show Ideal.ofBits .f32 0x00000000#32 = _
    simp
  | n + 1, h => by
    rw [acc, dif_pos (by omega), pay1838_at _ _ _ _ R l N hN, acc_at R l N hN f hf n (by omega), Nat.mul_succ, Finset.sum_range_add, ← Fin.sum_univ_eq_sum_range (fun x => f (512 * n + x))]
    refine congrArg _ (Finset.sum_congr rfl fun t _ => ?_)
    rw [sblk_at, vblk_at]
    exact hf ⟨512 * n + t.val, by omega⟩

/-- The block's element at row `r`, lane `l`: one row of softmax attention. -/
theorem attnOut_at (r : Fin 512) (l : Fin 256) (s : Fin 8192 → ℝ) (v : Fin 8192 → EReal) (M : ℝ)
    (hs : ∀ c, (s c : EReal) = ∑ d : Fin 128, x3 (ix3 0 c d) * x2 (ix3 0 r ⟨128 * (l.val / 128) + d.val, by omega⟩))
    (hv : ∀ c, x4 (ix3 0 c ⟨l.val % 128, by omega⟩) = v c) (h1 : ∀ c, x4 (ix3 0 c ⟨128 + l.val % 128, by omega⟩) = 1) :
    attnOut x2 x3 x4 (ix3 0 r l) = ∑ c, v c * Ideal.div (Ideal.exp ((s c : EReal) - (M : EReal))) (∑ c, Ideal.exp ((s c : EReal) - (M : EReal))) := by
  have hR : r.val + 512 * (l.val / 128) < 1024 := by omega
  obtain ⟨N, hN⟩ := top_fin x2 x3 h2 h3 ⟨_, hR⟩
  have hq : ∀ c, (∑ d : Fin 128, qrows x2 (ix2 ⟨_, hR⟩ d) * x3 (ix3 0 c d)) = ((log2e * s c : ℝ) : EReal) := fun c => by
    rw [mul_comm log2e, EReal.coe_mul, hs, Soft.sum_mul_real _ _ log2e (inv_nonneg.2 (Real.log_nonneg (by norm_num)))]
    refine Finset.sum_congr rfl fun d _ => ?_
    rw [qrows_at, mul_right_comm, mul_comm (x3 _)]
    refine congrArg (fun y => x2 y * _ * _) ?_
    refine congrArg₂ (ix3 0) (Fin.ext ?_) (Fin.ext ?_)
    · show (r.val + 512 * (l.val / 128)) % 512 = r.val; omega
    · show 128 * ((r.val + 512 * (l.val / 128)) / 512) + d.val = 128 * (l.val / 128) + d.val; omega
  have e2 : ∀ c, Ideal.exp2 (((log2e * s c : ℝ) : EReal) - (N : EReal)) = (((2 : ℝ) ^ (log2e * s c - N) : ℝ) : EReal) := fun c => by
    rw [← EReal.coe_sub, Soft.exp2_real]
  have e1 : ∀ c, Ideal.exp ((s c : EReal) - (M : EReal)) = ((Real.exp (s c - M) : ℝ) : EReal) := fun c => by
    rw [← EReal.coe_sub]; rfl
  have ha : ∀ (g : Fin 8192 → EReal) (l' : Fin 256), (∀ c, x4 (ix3 0 c l') = g c) →
      acc x2 x3 x4 16 (ix2 ⟨_, hR⟩ l') = ∑ c, (((2 : ℝ) ^ (log2e * s c - N) : ℝ) : EReal) * g c := fun g l' hg => by
    rw [acc_at x2 x3 x4 ⟨_, hR⟩ l' N hN (fun n => if h : n < 8192 then (((2 : ℝ) ^ (log2e * s ⟨n, h⟩ - N) : ℝ) : EReal) * g ⟨n, h⟩ else 0)
      (fun c => by rw [hq, e2, hg, dif_pos c.isLt]) 16 le_rfl, ← Fin.sum_univ_eq_sum_range _ (512 * 16)]
    exact Finset.sum_congr rfl fun c _ => dif_pos c.isLt
  show quot (acc x2 x3 x4 16) (ix2 ⟨_, hR⟩ ⟨l.val % 128, _⟩) = _
  rw [quot_at, ha v ⟨l.val % 128, by omega⟩ hv, ha (fun _ => 1) ⟨128 + l.val % 128, by omega⟩ h1]
  simp only [mul_one, e1]
  exact Soft.row (n := 8191) s M N v

end

end Attn
-- ==== Proof.Ref.lean ====
/- The reference's result read at an index. -/
module

public import proofs.«01_k».proof.Proof.Gen.ReferenceIdeal.Run
public import Idealize.ShloMosaic.Lib.Pointwise
public import proofs.«01_k».proof.Proof.Soft

@[expose] public section

noncomputable section

namespace Attn.Ref

open Cert.ReferenceIdeal Cert.ReferenceIdeal.Gen Idealize.ShloMosaic Idealize.ShloMosaic.TcCoe

variable (q : FVec Ideal S2x8192x512 .f32) (k v : FVec Ideal S2x8192x256 .f32)

/-- The scores. -/
def scores : FVec Ideal S2x2x2x8192x8192 .f32 :=
  transpose S2x2x2x8192x8192 [0, 1, 4, 3, 2] (Host.dotGeneral dot_S2x8192x2x128_S2x8192x2x2x128_S2x2x8192x8192x2_3_4_1_13_02_02 none (shapeCast _ k shapeCasts_S2x8192x256_S2x8192x2x128) (shapeCast _ q shapeCasts_S2x8192x512_S2x8192x2x2x128)) transposes_S2x2x8192x8192x2_S2x2x2x8192x8192_0_1_4_3_2

/-- Their rows' maxima. -/
def top (s : FVec Ideal S2x2x2x8192x8192 .f32) : FVec Ideal S2x2x2x8192 .f32 :=
  maximumf (broadcastInDim S2x2x2x8192 ![] bcast_S_S2x2x2x8192 (constant S_ .f32 0xFF800000#32)) (Host.reduce FloatOps.maximumf s (constant S_ .f32 0xFF800000#32) reducesTo_S2x2x2x8192x8192_S2x2x2x8192_d4 h_S_)

/-- A row's number at each of its elements. -/
def along (x : FVec Ideal S2x2x2x8192 .f32) : FVec Ideal S2x2x2x8192x8192 .f32 :=
  broadcastInDim S2x2x2x8192x8192 ![0, 1, 2, 3, 4] bcast_S2x2x2x8192x1_S2x2x2x8192x8192_0_1_2_3_4 (broadcastInDim S2x2x2x8192x1 ![0, 1, 2, 3] bcast_S2x2x2x8192_S2x2x2x8192x1_0_1_2_3 x)

def weights (s : FVec Ideal S2x2x2x8192x8192 .f32) : FVec Ideal S2x2x2x8192x8192 .f32 := Host.exp (subf s (along (top s)))

def total (w : FVec Ideal S2x2x2x8192x8192 .f32) : FVec Ideal S2x2x2x8192 .f32 :=
  Host.reduceAdd w (constant S_ .f32 0x00000000#32) reducesTo_S2x2x2x8192x8192_S2x2x2x8192_d4 h_S_

def mix (p : FVec Ideal S2x2x2x8192x8192 .f32) : FVec Ideal S2x8192x512 .f32 :=
  shapeCast _ (transpose S2x8192x2x2x128 [0, 4, 1, 3, 2] (Host.dotGeneral dot_S2x8192x2x128_S2x2x2x8192x8192_S2x2x128x2x8192_1_4_3_23_02_01 none (shapeCast _ v shapeCasts_S2x8192x256_S2x8192x2x128) p) transposes_S2x2x128x2x8192_S2x8192x2x2x128_0_4_1_3_2) shapeCasts_S2x8192x2x2x128_S2x8192x512

def out : FVec Ideal S2x8192x512 .f32 := mix v (Host.divf (weights (scores q k)) (along (total (weights (scores q k)))))

set_option maxRecDepth 16384

theorem scores_at (b h g : Fin 2) (r c : Fin 8192) : scores q k (ix5 b h g r c)
    = ∑ x : Fin 128, k (ix3 b c ⟨h.val * 128 + x.val, by omega⟩) * q (ix3 b r ⟨h.val * 256 + g.val * 128 + x.val, by omega⟩) := by
  pointwise [scores]

theorem along_at (x : FVec Ideal S2x2x2x8192 .f32) (b h g : Fin 2) (r c : Fin 8192) : along x (ix5 b h g r c) = x (ix4 b h g r) := by
  pointwise [along]

theorem weights_at (s : FVec Ideal S2x2x2x8192x8192 .f32) (b h g : Fin 2) (r c : Fin 8192) :
    weights s (ix5 b h g r c) = Ideal.exp (s (ix5 b h g r c) - top s (ix4 b h g r)) := by
  show Ideal.exp (s (ix5 b h g r c) - along (top s) (ix5 b h g r c)) = _
  rw [along_at]

theorem total_at (w : FVec Ideal S2x2x2x8192x8192 .f32) (b h g : Fin 2) (r : Fin 8192) : total w (ix4 b h g r) = ∑ c, w (ix5 b h g r c) := by
  pointwise [total]

theorem mix_at (p : FVec Ideal S2x2x2x8192x8192 .f32) (b : Fin 2) (r : Fin 8192) (l : Fin 512) : mix v p (ix3 b r l)
    = ∑ c : Fin 8192, v (ix3 b c ⟨l.val / 256 * 128 + l.val % 128, by omega⟩) * p (ix5 b ⟨l.val / 256, by omega⟩ ⟨l.val / 128 % 2, by omega⟩ r c) := by
  pointwise [mix]

theorem negInf : Ideal.ofBits .f32 0xFF800000#32 = ⊥ := by simp [Ideal.ofBits, Ideal.ieee]

theorem max_fin {s u t : Shape} {a : Fin s.rank} (x : FVec Ideal s .f32) (y : FVec Ideal t .f32) (init : FVec Ideal u .f32) (h' : s.ReducesTo [a] t) (h : s.Reduces [a] t)
    (hu : 0 < u.numel) (j : t.Idx) (hi : ∀ i, init i = ⊥) (hy : y j = ⊥) (hx : ∀ i, Soft.Fin (x i)) (n : 0 < s.size a) :
    Soft.Fin (maximumf y (Host.reduce (FloatOps.maximumf (F := Ideal) (φ := .f32)) x init h' hu) j) := by
  show Soft.Fin (max (y j) (Host.reduce (FloatOps.maximumf (F := Ideal) (φ := .f32)) x init h' hu j))
  rw [hy, max_bot_left, Host.reduce_eq_fold_single _ _ _ h' h, hi]
  refine (Soft.fold_max _ _ fun k => hx _).resolve_left fun hc => ?_
  exact absurd (hc.1 ▸ Finset.mem_univ (⟨0, n⟩ : Fin (s.size a))) (Finset.notMem_empty _)

/-- A row of finite scores has a finite maximum. -/
theorem top_fin (s : FVec Ideal S2x2x2x8192x8192 .f32) (hs : ∀ i, Soft.Fin (s i)) (j : S2x2x2x8192.Idx) : Soft.Fin (top s j) :=
  max_fin s _ _ _ (by decide) _ j (fun _ => negInf) negInf hs (by decide)

/-- The reference at an index: one row of softmax attention. -/
theorem out_at (b : Fin 2) (r : Fin 8192) (l : Fin 512) (M : EReal) (s : Fin 8192 → EReal)
    (hs : ∀ c, scores q k (ix5 b ⟨l.val / 256, by omega⟩ ⟨l.val / 128 % 2, by omega⟩ r c) = s c)
    (hM : top (scores q k) (ix4 b ⟨l.val / 256, by omega⟩ ⟨l.val / 128 % 2, by omega⟩ r) = M) :
    out q k v (ix3 b r l) = ∑ c : Fin 8192, v (ix3 b c ⟨l.val / 256 * 128 + l.val % 128, by omega⟩) * Ideal.div (Ideal.exp (s c - M)) (∑ c, Ideal.exp (s c - M)) := by
  unfold out
  rw [mix_at]
  refine Finset.sum_congr rfl fun c _ => congrArg _ ?_
  have hw : ∀ c, weights (scores q k) (ix5 b ⟨l.val / 256, by omega⟩ ⟨l.val / 128 % 2, by omega⟩ r c) = Ideal.exp (s c - M) := fun c => by
    rw [weights_at, hs, hM]
  rw [show ∀ (x y : FVec Ideal S2x2x2x8192x8192 .f32) i, Host.divf x y i = Ideal.div (x i) (y i) from fun _ _ _ => rfl, along_at, total_at, hw]
  simp only [hw]

end Attn.Ref
-- ==== Proof.Value.lean ====
/- The attention's result, whole: the kernel's blocks put together are the reference's attention of the same arrays. -/
module

public import proofs.«01_k».proof.Proof.Launch
public import proofs.«01_k».proof.Proof.KVal
public import proofs.«01_k».proof.Proof.Ref
public import Idealize.ShloMosaic.Lib.Pipeline.ValueKit.Geometry

@[expose] public section

noncomputable section

namespace Attn

open Cert.KernelIdeal Cert.KernelIdeal.Gen Idealize.ShloMosaic Idealize.ShloMosaic.TcCoe

set_option maxRecDepth 16384

variable (m : (ℓ : Loc nD τ sig) → Buf (Elt Ideal) ℓ) (c : Dev nD)

/-- The queries, keys and values as launched. -/
abbrev qs : FVec Ideal S2x8192x512 .f32 := m ((c.tc : Thread nD τ).loc main_arg0)
abbrev ks : FVec Ideal S2x8192x256 .f32 := m ((c.tc : Thread nD τ).loc main_arg1)
abbrev vs : FVec Ideal S2x8192x256 .f32 := m ((c.tc : Thread nD τ).loc main_arg2)

/-- The keys' array. -/
theorem keys_at (i : S2x8192x256.Idx) : (V m c main_v0 : FVec Ideal S2x8192x256 .bf16) i = ks m c i := by
  show StableHlo.after hostOps0 _ (Proc.devRef .tc main_v0) i = _
  after_results
  rfl

/-- Values with columns of ones beside each head's. -/
def beside (v : FVec Ideal S2x8192x256 .f32) : FVec Ideal S2x8192x512 .bf16 :=
  concatenate S2x8192x512 2 [⟨S2x8192x128, extractStridedSlice S2x8192x128 ![0, 0, 0] (truncf (F := Ideal) .bf16 v bitsLt_bf16_f32) slices_S2x8192x256_S2x8192x128_0_0_0⟩,
        ⟨S2x8192x128, broadcastInDim S2x8192x128 ![] bcast_S_S2x8192x128 (constant (F := Ideal) S_ .bf16 0x3F80#16)⟩,
        ⟨S2x8192x128, extractStridedSlice S2x8192x128 ![0, 0, 128] (truncf (F := Ideal) .bf16 v bitsLt_bf16_f32) slices_S2x8192x256_S2x8192x128_0_0_128⟩,
        ⟨S2x8192x128, broadcastInDim S2x8192x128 ![] bcast_S_S2x8192x128 (constant (F := Ideal) S_ .bf16 0x3F80#16)⟩] concatenates_S2x8192x128_S2x8192x128_S2x8192x128_S2x8192x128_S2x8192x512_d2

theorem vals_eq : (V m c main_v5 : FVec Ideal S2x8192x512 .bf16) = beside (vs m c) := by
  show StableHlo.after hostOps0 _ (Proc.devRef .tc main_v5) = _
  after_results
  rfl

theorem beside_at (v : FVec Ideal S2x8192x256 .f32) (b : Fin 2) (r : Fin 8192) (l : Fin 512) : beside v (ix3 b r l)
    = if l.val < 128 then v (ix3 b r ⟨l.val % 128, by omega⟩) else if l.val < 256 then 1
      else if l.val < 384 then v (ix3 b r ⟨128 + l.val % 128, by omega⟩) else 1 := by
  pointwise [beside]
  have e : ∀ {x y : Fin 256}, x.val = y.val → v (ix3 b r x) = v (ix3 b r y) := fun h => by rw [Fin.ext h]
  by_cases h1 : l.val < 128
  · rw [dif_pos h1, if_pos h1]; exact e (by simp only []; omega)
  rw [dif_neg h1, if_neg h1]
  by_cases h2 : l.val < 256
  · rw [dif_pos (by omega), if_pos h2]
  rw [dif_neg (by omega), if_neg h2]
  by_cases h3 : l.val < 384
  · rw [dif_pos (by omega), if_pos h3]; exact e (by simp only []; omega)
  rw [dif_neg (by omega), if_neg h3]

theorem idx0 : ∀ t : Fin cfg0.N, win0_0.index t = ![t.val / 32, t.val % 16, t.val / 16 % 2] := (by decide +kernel : ∀ t : Fin grid0.N, _)
theorem idx1 : ∀ t : Fin cfg0.N, win0_1.index t = ![t.val / 32, 0, t.val / 16 % 2] := (by decide +kernel : ∀ t : Fin grid0.N, _)
theorem idx2 : ∀ t : Fin cfg0.N, win0_2.index t = ![t.val / 32, 0, t.val / 16 % 2] := (by decide +kernel : ∀ t : Fin grid0.N, _)
theorem idx9 : ∀ t : Fin cfg0.N, win0_9.index t = ![t.val / 32, t.val % 16, t.val / 16 % 2] := (by decide +kernel : ∀ t : Fin grid0.N, _)

theorem t_lt (t : Fin cfg0.N) : t.val < 64 := t.isLt

theorem blk0_at (t : Fin cfg0.N) (r : Fin 512) (l : Fin 256) : (iblk m c 0 t : FVec Ideal S1x512x256 .f32) (ix3 0 r l)
    = qs m c (ix3 ⟨t.val / 32, by have := t_lt t; omega⟩ ⟨t.val % 16 * 512 + r.val, by omega⟩ ⟨t.val / 16 % 2 * 256 + l.val, by omega⟩) := by
  show iblk m c 0 t (ix3 0 r l) = _
  blk_simp [iblk]
  rw [V_main_arg0]
  refine congrArg (m ((c.tc : Thread nD τ).loc main_arg0)) ?_
  blk_ext [idx0]

theorem blk1_at (t : Fin cfg0.N) (r : Fin 8192) (d : Fin 128) : (iblk m c 1 t : FVec Ideal S1x8192x128 .bf16) (ix3 0 r d)
    = ks m c (ix3 ⟨t.val / 32, by have := t_lt t; omega⟩ r ⟨t.val / 16 % 2 * 128 + d.val, by omega⟩) := by
  show iblk m c 1 t (ix3 0 r d) = _
  blk_simp [iblk]
  refine (keys_at m c _).trans (congrArg (ks m c) ?_)
  blk_ext [idx1]

theorem blk2_at (t : Fin cfg0.N) (r : Fin 8192) (l : Fin 256) : (iblk m c 2 t : FVec Ideal S1x8192x256 .bf16) (ix3 0 r l)
    = beside (vs m c) (ix3 ⟨t.val / 32, by have := t_lt t; omega⟩ r ⟨t.val / 16 % 2 * 256 + l.val, by omega⟩) := by
  show iblk m c 2 t (ix3 0 r l) = _
  blk_simp [iblk]
  refine (congrFun (vals_eq m c) _).trans (congrArg (beside (vs m c)) ?_)
  blk_ext [idx2]

theorem eq3 {n0 n1 n2 : ℕ} {α : Type} (f : Shape.Idx ⟨3, ![n0, n1, n2]⟩ → α) {a a' : Fin n0} {b b' : Fin n1} {d d' : Fin n2}
    (ha : a.val = a'.val) (hb : b.val = b'.val) (hd : d.val = d'.val) : f (ix3 a b d) = f (ix3 a' b' d') := by
  rw [Fin.ext ha, Fin.ext hb, Fin.ext hd]

theorem ix_exists {n1 n2 : ℕ} (i : Shape.Idx ⟨3, ![1, n1, n2]⟩) : ∃ (r : Fin n1) (l : Fin n2), i = ix3 (0 : Fin 1) r l :=
  ⟨i 1, i 2, funext fun a => by
    match a with
    | 0 => exact Subsingleton.elim (α := Fin 1) _ _
    | 1 => rfl
    | 2 => rfl⟩

/-- One element of the block of point `t`. -/
theorem row_eq (hq : ∀ i, Soft.Fin (qs m c i)) (hk : ∀ i, Soft.Fin (ks m c i)) (t : Fin cfg0.N) (r : Fin 512) (l : Fin 256) :
    attnOut (iblk m c 0 t) (iblk m c 1 t) (iblk m c 2 t) (ix3 0 r l)
      = Ref.out (qs m c) (ks m c) (vs m c) (ix3 ⟨t.val / 32, by have := t_lt t; omega⟩ ⟨t.val % 16 * 512 + r.val, by omega⟩ ⟨t.val / 16 % 2 * 256 + l.val, by omega⟩) := by
  have ht := t_lt t
  have hS : ∀ i, Soft.Fin (Ref.scores (qs m c) (ks m c) i) := fun i => by
    obtain ⟨b, h, g, r, x, rfl⟩ : ∃ (b h g : Fin 2) (r x : Fin 8192), i = ix5 b h g r x := ⟨i 0, i 1, i 2, i 3, i 4, funext fun a => by
      match a with | 0 | 1 | 2 | 3 | 4 => rfl⟩
    rw [Ref.scores_at]
    exact Soft.Fin.sum _ _ fun x => (hk _).mul (hq _)
  have L : t.val / 16 % 2 * 256 + l.val < 512 := by omega
  have R : t.val % 16 * 512 + r.val < 8192 := by omega
  obtain ⟨M, hM⟩ := Ref.top_fin _ hS (ix4 (⟨t.val / 32, by omega⟩ : Fin 2) (⟨(⟨_, L⟩ : Fin 512).val / 256, by omega⟩ : Fin 2) (⟨(⟨_, L⟩ : Fin 512).val / 128 % 2, by omega⟩ : Fin 2) (⟨_, R⟩ : Fin 8192))
  choose S hS' using hS
  have e := Ref.out_at (qs m c) (ks m c) (vs m c) ⟨t.val / 32, by omega⟩ ⟨_, R⟩ ⟨_, L⟩ M _ (fun x => hS' _) hM
  rw [e]
  refine attnOut_at _ _ _ ?_ ?_ r l _ _ M ?_ ?_ ?_
  · intro i
    obtain ⟨r, l, rfl⟩ : ∃ (r : Fin 512) (l : Fin 256), i = (ix3 (0 : Fin 1) r l : S1x512x256.Idx) := ix_exists i
    rw [blk0_at]; exact hq _
  · intro i
    obtain ⟨r, l, rfl⟩ : ∃ (r : Fin 8192) (l : Fin 128), i = (ix3 (0 : Fin 1) r l : S1x8192x128.Idx) := ix_exists i
    rw [blk1_at]; exact hk _
  · intro x
    rw [← hS', Ref.scores_at]
    refine Finset.sum_congr rfl fun d _ => ?_
    rw [blk0_at, blk1_at]
    exact congrArg₂ _ (eq3 (ks m c) rfl rfl (by simp only []; omega)) (eq3 (qs m c) rfl rfl (by simp only []; omega))
  · intro x
    rw [blk2_at, beside_at]
    by_cases h : t.val / 16 % 2 = 0
    · rw [if_pos (by simp only []; omega)]; exact eq3 (vs m c) rfl rfl (by simp only []; omega)
    · rw [if_neg (by simp only []; omega), if_neg (by simp only []; omega), if_pos (by simp only []; omega)]; exact eq3 (vs m c) rfl rfl (by simp only []; omega)
  · intro x
    rw [blk2_at, beside_at]
    by_cases h : t.val / 16 % 2 = 0
    · rw [if_neg (by simp only []; omega), if_pos (by simp only []; omega)]
    · rw [if_neg (by simp only []; omega), if_neg (by simp only []; omega), if_neg (by simp only []; omega)]

theorem covers9 : (cfg0.win 9).Covers := by decide +kernel

/-- The kernel's attention is the reference's, on finite queries and keys. -/
theorem final (hq : ∀ i, Soft.Fin (qs m c i)) (hk : ∀ i, Soft.Fin (ks m c i)) :
    (dats m 0 c).arrAt 9 cfg0.N = Ref.out (qs m c) (ks m c) (vs m c) := by
  refine (dats m 0 c).arrAt_eq_of_covers 9 _ covers9 (hG := fun t _ y => ?_) (harr := Memref.isWhole_whole _)
  blk_simp
  rw [after0_9]
  have ht := t_lt t
  obtain ⟨r, l, rfl⟩ : ∃ (r : Fin 512) (l : Fin 256), y = (ix3 (0 : Fin 1) r l : S1x512x256.Idx) :=
    ix_exists y
  have hi : ((win0_9.blk t).view.emb (ix3 (0 : Fin 1) r l : S1x512x256.Idx)) = (ix3 ⟨t.val / 32, by omega⟩ ⟨t.val % 16 * 512 + r.val, by omega⟩ ⟨t.val / 16 % 2 * 256 + l.val, by omega⟩ : S2x8192x512.Idx) := by
    blk_ext [idx9]
  rw [hi]
  exact row_eq m c hq hk t r l

end Attn
-- ==== Proof.Algebraic.lean ====
/- The value claim: from finite queries and keys the kernel's attention result is the reference's. -/
module

public import proofs.«01_k».proof.Proof.Frames
public import proofs.«01_k».proof.Proof.Value
public import Idealize.ShloMosaic.Lib.ReduceAll

@[expose] public section

noncomputable section

namespace Attn

open Idealize.ShloMosaic Idealize.ShloMosaic.TcCoe Idealize.SL.Sem

instance preFacts : Cert.Pre_finite.Facts := ⟨by decide, by decide, by decide, by decide, by decide⟩

theorem posInf : Ideal.ofBits .f32 0x7F800000#32 = ⊤ := by simp [Ideal.ofBits, Ideal.ieee]

/-- A number whose absolute value is below infinity is real. -/
theorem fin_of_abs (x : EReal) (h : FloatOps.cmpf (F := Ideal) (φ := .f32) .olt (max x (-x)) (Ideal.ofBits .f32 0x7F800000#32) = 1#1) : Soft.Fin x := by
  have h' : max x (-x) < ⊤ := by
    rw [posInf] at h
    by_contra hc
    have : FloatOps.cmpf (F := Ideal) (φ := .f32) .olt (max x (-x)) ⊤ = 0#1 := by
      show BitVec.ofBool (decide (max x (-x) < ⊤)) = 0#1
      rw [decide_eq_false hc]; rfl
    rw [this] at h
    exact absurd h (by decide)
  induction x with
  | bot => simp at h'
  | top => simp at h'
  | coe r => exact ⟨r, rfl⟩

theorem finite_of_pre (q : FVec Ideal Cert.Pre_finite.S2x8192x512 .f32) (k v : FVec Ideal Cert.Pre_finite.S2x8192x256 .f32)
    (a b d e : FVec Ideal Cert.Pre_finite.S4x2x8192x128 .f32) (h : Cert.Pre_finite.fn (F := Ideal) q k v a b d e = fun _ => 1#1) :
    (∀ i, Soft.Fin (q i)) ∧ ∀ i, Soft.Fin (k i) := by
  have h0 := congrFun h (fun a => a.elim0)
  unfold Cert.Pre_finite.fn at h0
  have h1 := IntOp.andi_eq_one.1 h0
  haveI : Subsingleton Cert.Pre_finite.S_.Idx := ⟨fun x y => funext fun a => a.elim0⟩
  exact ⟨fun i => fin_of_abs _ (Host.reduce_andi_all _ _ _ _ _ h1.1 i), fun i => fin_of_abs _ (Host.reduce_andi_all _ _ _ _ _ h1.2 i)⟩

theorem frame_ideal_pre : Cert.quiescent_KernelIdeal_pre_finite := fun m g _ => frame_ideal m g trivial

theorem frame_reference_pre : Cert.quiescent_ReferenceIdeal_pre_finite := fun m g _ => frame_reference m g trivial

theorem algebraic : Cert.algebraic_KernelIdeal_ReferenceIdeal_pre_finite := fun m g m' g' hp hm => by
  have hf := fun c => finite_of_pre _ _ _ _ _ _ _ (hp c)
  refine ⟨fun c => Ref.out (qs m c) (ks m c) (vs m c), ?_, ?_⟩
  · refine (θ_run (Cert.KernelIdeal.defs (F := Ideal)) _ _).mono (fun _ h c => ⟨(h.2 c).trans (final m c (hf c).1 (hf c).2), h.1.1 c⟩) (frame_value (F := Ideal) m g)
  · refine (θ_run (Cert.ReferenceIdeal.defs (F := Ideal)) _ _).mono (fun _ h c => ⟨(h c).1.trans ?_, (h c).2⟩) (Cert.ReferenceIdeal.Value.run (F := Ideal) m' g')
    rw [(hm c).1, (hm c).2.1, (hm c).2.2.1]
    rfl

end Attn
-- ==== Proof.Row.lean ====
/- One token's norms, gates and feed-forward step, as functions of numbers. -/
module

public import proofs.«01_k».proof.Proof.Soft

@[expose] public section

noncomputable section

namespace Attn.Row

open Idealize.ShloMosaic

abbrev E := EReal

/-- The norms' small number. -/
abbrev eps : E := Ideal.ofBits .f32 0x358637BD#32

/-- The reciprocal root of a row's mean square. -/
def rinv {n : ℕ} (N : E) (x : Fin n → E) : E := Ideal.rsqrt (Ideal.div (∑ d, x d * x d) N + eps)

/-- A row divided by its root mean square, times a gain. -/
def norm {n : ℕ} (N : E) (x g : Fin n → E) (d : Fin n) : E := x d * rinv N x * g d

def silu (z : E) : E := z * Ideal.div 1 (1 + Ideal.exp (-z))

/-- Half a step of the gated feed-forward part, added to the row. -/
def step (x g : Fin 1024 → E) (wi : Fin 1024 → Fin 5632 → E) (wo : Fin 2816 → Fin 1024 → E) (j : Fin 1024) : E :=
  x j + Ideal.ofBits .f32 0x3F000000#32 * ∑ k : Fin 2816, silu (∑ d, norm (Ideal.ofBits .f32 0x44800000#32) x g d * wi d ⟨k.val, by omega⟩)
    * (∑ d, norm (Ideal.ofBits .f32 0x44800000#32) x g d * wi d ⟨2816 + k.val, by omega⟩) * wo k j

/-- The attention's and the recurrence's parts side by side. -/
def mixed (a ag : Fin 512 → E) (o : Fin 4 → Fin 128 → E) (og : Fin 128 → E) (rg : Fin 512 → E) (d : Fin 1024) : E :=
  if h : d.val < 512 then norm (Ideal.ofBits .f32 0x44000000#32) a ag ⟨d.val, h⟩
  else norm (Ideal.ofBits .f32 0x43000000#32) (o ⟨(d.val - 512) / 128, by omega⟩) og ⟨(d.val - 512) % 128, by omega⟩ * silu (rg ⟨d.val - 512, by omega⟩)

def joined (x : Fin 1024 → E) (p : Fin 1024 → E) (w : Fin 1024 → Fin 1024 → E) (j : Fin 1024) : E := x j + ∑ d, p d * w d j

theorem exp2_neg (z : E) : Ideal.exp2 (z * ((-(Real.log 2)⁻¹ : ℝ) : E)) = Ideal.exp (-z) := by
  have hl : 0 < Real.log 2 := Real.log_pos (by norm_num)
  have hn : (-(Real.log 2)⁻¹ : ℝ) < 0 := neg_lt_zero.2 (inv_pos.2 hl)
  induction z using EReal.rec with
  | bot => rw [EReal.bot_mul_coe_of_neg hn, EReal.neg_bot]; rfl
  | top => rw [EReal.top_mul_coe_of_neg hn, EReal.neg_top]; rfl
  | coe r =>
    rw [← EReal.coe_mul, ← EReal.coe_neg]
    show (((2 : ℝ) ^ (r * -(Real.log 2)⁻¹) : ℝ) : E) = ((Real.exp (-r) : ℝ) : E)
    congr 1
    rw [Real.rpow_def_of_pos (by norm_num)]
    congr 1
    field_simp

theorem sq_nonneg (x : E) : 0 ≤ x * x := by
  rcases le_total 0 x with h | h
  · exact mul_nonneg h h
  · have := mul_nonneg (EReal.neg_nonneg.2 h) (EReal.neg_nonneg.2 h)
    rwa [neg_mul_neg] at this

theorem eps_pos : ∃ e : ℝ, 0 < e ∧ eps = (e : E) := by
  refine ⟨_, ?_, (by simp [eps, Ideal.ofBits, Ideal.ieee]; rfl)⟩
  norm_num

theorem rsqrt_real (y : E) (e : ℝ) (he : 0 < e) (h : (e : E) ≤ y) : ∃ r : ℝ, 0 ≤ r ∧ Ideal.rsqrt y = (r : E) := by
  induction y using EReal.rec with
  | bot => simp at h
  | top => exact ⟨0, le_rfl, rfl⟩
  | coe r =>
    have hr : e ≤ r := EReal.coe_le_coe_iff.1 h
    refine ⟨(Real.sqrt r)⁻¹, inv_nonneg.2 (Real.sqrt_nonneg _), ?_⟩
    show (if r < 0 then ⊥ else if r = 0 then ⊤ else (((Real.sqrt r)⁻¹ : ℝ) : E)) = _
    rw [if_neg (by linarith), if_neg (by linarith)]

/-- The reciprocal root is a nonnegative real, whatever the row holds. -/
theorem rinv_real {n : ℕ} (N : E) (c : ℝ) (hc : 0 < c) (hN : N = (c : E)) (x : Fin n → E) : ∃ r : ℝ, 0 ≤ r ∧ rinv N x = (r : E) := by
  obtain ⟨e, he, hE⟩ := eps_pos
  refine rsqrt_real _ e he ?_
  have hs : 0 ≤ ∑ d, x d * x d := Finset.sum_nonneg fun d _ => sq_nonneg _
  have hd : 0 ≤ Ideal.div (∑ d, x d * x d) N := by
    unfold Ideal.div
    rw [hN]
    rw [if_neg (by exact_mod_cast hc.ne')]
    exact mul_nonneg hs (by rw [← EReal.coe_inv]; exact_mod_cast (inv_pos.2 hc).le)
  rw [hE]
  exact le_add_of_nonneg_left hd

/-- The kernel's projections take the reciprocal root after the product. -/
theorem late {n : ℕ} (N : E) (c : ℝ) (hc : 0 < c) (hN : N = (c : E)) (x g w : Fin n → E) :
    rinv N x * ∑ d, x d * g d * w d = ∑ d, norm N x g d * w d := by
  obtain ⟨r, hr, h⟩ := rinv_real N c hc hN x
  unfold norm
  rw [h, mul_comm, Soft.sum_mul_real _ _ r hr]
  exact Finset.sum_congr rfl fun d _ => by rw [mul_right_comm, mul_right_comm (x d)]

end Attn.Row
-- ==== Proof.K2Val.lean ====
/- What the second kernel's steps compute, read at an index. -/
module

public import proofs.«01_k».proof.Proof.Gen.Kernel2Ideal.Value
public import Idealize.ShloMosaic.Lib.Pointwise
public import proofs.«01_k».proof.Proof.Row

@[expose] public section

noncomputable section

namespace Attn.K2

open Cert.Kernel2Ideal Cert.Kernel2Ideal.Gen Idealize.ShloMosaic Idealize.ShloMosaic.TcCoe

set_option maxRecDepth 16384

theorem attn_at (x : FVec Ideal S512x512 .f32) (g : FVec Ideal S1x512 .f32) (r : Fin 512) (d : Fin 512) :
    (k0_pay2 x g : FVec Ideal S512x512 .bf16) (ix2 r d) = Row.norm (Ideal.ofBits .f32 0x44000000#32) (fun d => x (ix2 r d)) (fun d => g (ix2 0 d)) d := by
  pointwise [k0_pay2, Row.norm, Row.rinv]

theorem gate_at (g : FVec Ideal S512x512 .f32) (r : Fin 512) (d : Fin 512) : (k0_pay3 g : FVec Ideal S512x512 .f32) (ix2 r d) = Row.silu (g (ix2 r d)) := by
  rw [Row.silu, ← Row.exp2_neg]
  pointwise [k0_pay3]
  rfl

theorem head0_at (gt : FVec Ideal S512x512 .f32) (f b : FVec Ideal S1x512x128 .f32) (og : FVec Ideal S1x128 .f32) (r : Fin 512) (d : Fin 128) :
    (k0_pay7 gt (k0_pay4 f b) og (k0_pay5 f b) k0_pay6 : FVec Ideal S512x128 .bf16) (ix2 r d)
      = Row.norm (Ideal.ofBits .f32 0x43000000#32) (fun d => f (ix3 0 r d) + b (ix3 0 r d)) (fun d => og (ix2 0 d)) d * gt (ix2 r ⟨d.val, by omega⟩) := by
  pointwise [k0_pay7, k0_pay4, k0_pay5, k0_pay6, Row.norm, Row.rinv]

theorem head1_at (gt : FVec Ideal S512x512 .f32) (f b : FVec Ideal S1x512x128 .f32) (og : FVec Ideal S1x128 .f32) (r : Fin 512) (d : Fin 128) :
    (k0_pay8 gt f b og : FVec Ideal S512x128 .bf16) (ix2 r d)
      = Row.norm (Ideal.ofBits .f32 0x43000000#32) (fun d => f (ix3 0 r d) + b (ix3 0 r d)) (fun d => og (ix2 0 d)) d * gt (ix2 r ⟨128 + d.val, by omega⟩) := by
  pointwise [k0_pay8, Row.norm, Row.rinv]

theorem last_at (x : FVec Ideal S512x1024 .f32) (g : FVec Ideal S1x1024 .f32) (s : FVec Ideal S512x1 .f32) (r : Fin 512) (j : Fin 1024) :
    (k0_pay1 x g s (Scalar.ofBits .f32 0x44800000#32) : FVec Ideal S512x1024 .f32) (ix2 r j)
      = x (ix2 r j) * Ideal.rsqrt (Ideal.div (s (ix2 r 0)) (Ideal.ofBits .f32 0x44800000#32) + Row.eps) * g (ix2 0 j) := by
  pointwise [k0_pay1]

theorem square_at (x : FVec Ideal S512x1024 .f32) (g : FVec Ideal S512x1024 .f32) (a b : FVec Ideal S1024x2816 .bf16) (w : FVec Ideal S2816x1024 .f32) (r : Fin 512) :
    (k0_pay14 x g a b w : FVec Ideal S512x1 .f32) (ix2 r 0) = ∑ d : Fin 1024, k0_pay13 x g a b w (ix2 r d) * k0_pay13 x g a b w (ix2 r d) := by
  generalize hp : k0_pay13 x g a b w = p
  unfold k0_pay14
  rw [hp]
  pointwise []

theorem spread_at (g : FVec Ideal S1x1024 .f32) (r : Fin 512) (j : Fin 1024) : (k0_pay12 g : FVec Ideal S512x1024 .f32) (ix2 r j) = g (ix2 0 j) := by
  pointwise [k0_pay12]

/-- The feed-forward half step, with the reciprocal roots after the products. -/
def late (x g : Fin 1024 → EReal) (a b : Fin 1024 → Fin 2816 → EReal) (w : Fin 2816 → Fin 1024 → EReal) (j : Fin 1024) : EReal :=
  x j + Ideal.ofBits .f32 0x3F000000#32 * ∑ k : Fin 2816, (Row.rinv (Ideal.ofBits .f32 0x44800000#32) x * ∑ d, x d * g d * a d k)
    * Ideal.div 1 (1 + Ideal.exp2 ((Row.rinv (Ideal.ofBits .f32 0x44800000#32) x * ∑ d, x d * g d * a d k) * ((-(Real.log 2)⁻¹ : ℝ) : EReal)))
    * (Row.rinv (Ideal.ofBits .f32 0x44800000#32) x * ∑ d, x d * g d * b d k) * w k j

theorem half_at (x : FVec Ideal S512x1024 .f32) (g : FVec Ideal S512x1024 .f32) (a b : FVec Ideal S1024x2816 .bf16) (w : FVec Ideal S2816x1024 .f32) (r : Fin 512) (j : Fin 1024) :
    (k0_pay13 x g a b w : FVec Ideal S512x1024 .f32) (ix2 r j)
      = late (fun d => x (ix2 r d)) (fun d => g (ix2 r d)) (fun d k => a (ix2 d k)) (fun d k => b (ix2 d k)) (fun k j => w (ix2 k j)) j := by
  pointwise [k0_pay13, late, Row.rinv]
  rfl

theorem late_eq (x g : Fin 1024 → EReal) (wi : Fin 1024 → Fin 5632 → EReal) (w : Fin 2816 → Fin 1024 → EReal) (j : Fin 1024) :
    late x g (fun d k => wi d ⟨k.val, by omega⟩) (fun d k => wi d ⟨2816 + k.val, by omega⟩) w j = Row.step x g wi w j := by
  have hN : (Ideal.ofBits .f32 0x44800000#32 : EReal) = ((1024 : ℝ) : EReal) := by
    simp [Ideal.ofBits, Ideal.ieee]
    rw [← EReal.coe_mul]
    norm_num
  unfold late Row.step Row.silu
  simp only [Row.exp2_neg, Row.late _ 1024 (by norm_num) hN]

/-- The four heads' parts beside the attention's, through the mixer's output projection. -/
theorem mix_at (a : FVec Ideal S512x512 .bf16) (gt : FVec Ideal S512x512 .f32) (h0 h1 : FVec Ideal S512x128 .bf16) (f2 b2 f3 b3 : FVec Ideal S1x512x128 .f32)
    (og : FVec Ideal S1x128 .f32) (x : FVec Ideal S512x1024 .f32) (w : FVec Ideal S1024x1024 .f32) (r : Fin 512) (j : Fin 1024) (p : Fin 1024 → EReal)
    (ha : ∀ d : Fin 512, a (ix2 r d) = p ⟨d.val, by omega⟩)
    (e0 : ∀ d : Fin 128, h0 (ix2 r d) = p ⟨512 + d.val, by omega⟩)
    (e1 : ∀ d : Fin 128, h1 (ix2 r d) = p ⟨640 + d.val, by omega⟩)
    (e2 : ∀ d : Fin 128, Row.norm (Ideal.ofBits .f32 0x43000000#32) (fun d => f2 (ix3 0 r d) + b2 (ix3 0 r d)) (fun d => og (ix2 0 d)) d * gt (ix2 r ⟨256 + d.val, by omega⟩) = p ⟨768 + d.val, by omega⟩)
    (e3 : ∀ d : Fin 128, Row.norm (Ideal.ofBits .f32 0x43000000#32) (fun d => f3 (ix3 0 r d) + b3 (ix3 0 r d)) (fun d => og (ix2 0 d)) d * gt (ix2 r ⟨384 + d.val, by omega⟩) = p ⟨896 + d.val, by omega⟩) :
    (k0_pay11 a gt h0 h1 (k0_pay9 f2 b2) og (k0_pay10 f2 b2) (Scalar.ofBits .f32 0x43000000#32) f3 b3 og x w : FVec Ideal S512x1024 .f32) (ix2 r j)
      = x (ix2 r j) + ∑ d : Fin 1024, p d * w (ix2 d j) := by
  pointwise [k0_pay11, k0_pay9, k0_pay10]
  refine congrArg (x (ix2 r j) + ·) (Finset.sum_congr rfl fun d _ => congrArg (· * w (ix2 d j)) ?_)
  have e : ∀ {y z : Fin 1024}, y.val = z.val → p y = p z := fun h => by rw [Fin.ext h]
  by_cases h : d.val < 512
  · rw [dif_pos h]; exact ha _
  rw [dif_neg h]
  by_cases h : d.val - 512 < 128
  · rw [dif_pos h]; exact (e0 _).trans (e (by simp only []; omega))
  rw [dif_neg h]
  by_cases h : d.val - 512 - 128 < 128
  · rw [dif_pos h]; exact (e1 _).trans (e (by simp only []; omega))
  rw [dif_neg h]
  by_cases h : d.val - 512 - 128 - 128 < 128
  · rw [dif_pos h]; exact (e2 ⟨d.val - 512 - 128 - 128, h⟩).trans (e (by simp only []; omega))
  rw [dif_neg h]
  exact (e3 ⟨d.val - 512 - 128 - 128 - 128, by omega⟩).trans (e (by simp only []; omega))

end Attn.K2
-- ==== Proof.Ref2.lean ====
/- The second reference's result read at an index. -/
module

public import proofs.«01_k».proof.Proof.Gen.Reference2Ideal.Run
public import Idealize.ShloMosaic.Lib.Pointwise
public import proofs.«01_k».proof.Proof.Row

@[expose] public section

noncomputable section

namespace Attn.Ref2

open Cert.Reference2Ideal Cert.Reference2Ideal.Gen Cert.Reference2Ideal.Value Idealize.ShloMosaic Idealize.ShloMosaic.TcCoe Idealize.SL.Sem Idealize.ShloMosaic.StableHlo

/-- The tokens' rows over their root mean squares, times the gain. -/
def normed (x : FVec Ideal S16384x1024 .f32) (g : FVec Ideal S1x1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 (shapeCast _ g shapeCasts_S1x1024_S1024)))

def normedA (x : FVec Ideal S16384x512 .f32) (g : FVec Ideal S1x512 .f32) : FVec Ideal S16384x512 .f32 :=
  mulf (mulf x (broadcastInDim S16384x512 ![0, 1] bcast_S16384x1_S16384x512_0_1 (Host.rsqrt (addf (Host.divf (broadcastInDim S16384x1 ![0] bcast_S16384_S16384x1_0 (Host.reduceAdd (mulf x x) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32))))))
    (broadcastInDim S16384x512 ![0, 1] bcast_S1x512_S16384x512_0_1 (broadcastInDim S1x512 ![1] bcast_S512_S1x512_1 (shapeCast _ g shapeCasts_S1x512_S512)))

/-- The same of each head's row. -/
def normedH (x : FVec Ideal S2x8192x4x128 .f32) (g : FVec Ideal S1x128 .f32) : FVec Ideal S2x8192x4x128 .f32 :=
  mulf (mulf x (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf x x) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x358637BD#32))))))
    (broadcastInDim S2x8192x4x128 ![0, 1, 2, 3] bcast_S1x1x1x128_S2x8192x4x128_0_1_2_3 (broadcastInDim S1x1x1x128 ![3] bcast_S128_S1x1x1x128_3 (shapeCast _ g shapeCasts_S1x128_S128)))

def byToken (f : FVec Ideal S4x16384x128 .f32) : FVec Ideal S2x8192x4x128 .f32 :=
  transpose S2x8192x4x128 [1, 2, 0, 3] (shapeCast _ f shapeCasts_S4x16384x128_S4x2x8192x128) transposes_S4x2x8192x128_S2x8192x4x128_1_2_0_3

def heads (f b : FVec Ideal S4x16384x128 .f32) : FVec Ideal S2x8192x4x128 .f32 := addf (byToken f) (byToken b)

def gate (g : FVec Ideal S16384x512 .f32) : FVec Ideal S16384x512 .f32 :=
  mulf g (Host.divf (broadcastInDim S16384x512 ![] bcast_S_S16384x512 (constant S_ .f32 0x3F800000#32)) (addf (broadcastInDim S16384x512 ![] bcast_S_S16384x512 (constant S_ .f32 0x3F800000#32)) (Host.exp (Host.negf g))))

def gateF (g : FVec Ideal S16384x2816 .f32) : FVec Ideal S16384x2816 .f32 :=
  mulf g (Host.divf (broadcastInDim S16384x2816 ![] bcast_S_S16384x2816 (constant S_ .f32 0x3F800000#32)) (addf (broadcastInDim S16384x2816 ![] bcast_S_S16384x2816 (constant S_ .f32 0x3F800000#32)) (Host.exp (Host.negf g))))

def sides (p q : FVec Ideal S16384x512 .f32) : FVec Ideal S16384x1024 .f32 :=
  concatenate S16384x1024 1 [⟨S16384x512, p⟩, ⟨S16384x512, q⟩] concatenates_S16384x512_S16384x512_S16384x1024_d1

def recur (o : FVec Ideal S2x8192x4x128 .f32) (g : FVec Ideal S16384x512 .f32) : FVec Ideal S16384x512 .f32 :=
  mulf (shapeCast _ o shapeCasts_S2x8192x4x128_S16384x512) g

def join (x p : FVec Ideal S16384x1024 .f32) (w : FVec Ideal S1024x1024 .f32) : FVec Ideal S16384x1024 .f32 :=
  addf x (Host.dotGeneral dot_S16384x1024_S1024x1024_S16384x1024_1_0_0_1_n_n none p w)

def wide (x : FVec Ideal S16384x1024 .f32) (w : FVec Ideal S1024x5632 .f32) : FVec Ideal S16384x5632 .f32 :=
  Host.dotGeneral dot_S16384x1024_S1024x5632_S16384x5632_1_0_0_1_n_n none x w

def hidden (z : FVec Ideal S16384x5632 .f32) : FVec Ideal S16384x2816 .f32 :=
  mulf (gateF (extractStridedSlice S16384x2816 ![0, 0] z slices_S16384x5632_S16384x2816_0_0)) (extractStridedSlice S16384x2816 ![0, 2816] z slices_S16384x5632_S16384x2816_0_2816)

def halfStep (x : FVec Ideal S16384x1024 .f32) (h : FVec Ideal S16384x2816 .f32) (w : FVec Ideal S2816x1024 .f32) : FVec Ideal S16384x1024 .f32 :=
  addf x (mulf (broadcastInDim S16384x1024 ![] bcast_S_S16384x1024 (constant S_ .f32 0x3F000000#32)) (Host.dotGeneral dot_S16384x2816_S2816x1024_S16384x1024_1_0_0_1_n_n none h w))

def ffn (x : FVec Ideal S16384x1024 .f32) (g : FVec Ideal S1x1024 .f32) (wi : FVec Ideal S1024x5632 .f32) (wo : FVec Ideal S2816x1024 .f32) : FVec Ideal S16384x1024 .f32 :=
  halfStep x (hidden (wide (normed x g) wi)) wo

def joined (x : FVec Ideal S16384x1024 .f32) (a : FVec Ideal S16384x512 .f32) (f b : FVec Ideal S4x16384x128 .f32) (rg : FVec Ideal S16384x512 .f32)
    (ag : FVec Ideal S1x512 .f32) (og : FVec Ideal S1x128 .f32) (w : FVec Ideal S1024x1024 .f32) : FVec Ideal S16384x1024 .f32 :=
  join x (sides (normedA a ag) (recur (normedH (heads f b) og) (gate rg))) w

set_option maxRecDepth 16384

theorem normed_at (x : FVec Ideal S16384x1024 .f32) (g : FVec Ideal S1x1024 .f32) (r : Fin 16384) (d : Fin 1024) :
    normed x g (ix2 r d) = Row.norm (Ideal.ofBits .f32 0x44800000#32) (fun d => x (ix2 r d)) (fun d => g (ix2 0 d)) d := by
  pointwise [normed, Row.norm, Row.rinv]

theorem normedA_at (x : FVec Ideal S16384x512 .f32) (g : FVec Ideal S1x512 .f32) (r : Fin 16384) (d : Fin 512) :
    normedA x g (ix2 r d) = Row.norm (Ideal.ofBits .f32 0x44000000#32) (fun d => x (ix2 r d)) (fun d => g (ix2 0 d)) d := by
  pointwise [normedA, Row.norm, Row.rinv]

theorem normedH_at (x : FVec Ideal S2x8192x4x128 .f32) (g : FVec Ideal S1x128 .f32) (b : Fin 2) (r : Fin 8192) (h : Fin 4) (d : Fin 128) :
    normedH x g (ix4 b r h d) = Row.norm (Ideal.ofBits .f32 0x43000000#32) (fun d => x (ix4 b r h d)) (fun d => g (ix2 0 d)) d := by
  pointwise [normedH, Row.norm, Row.rinv]

theorem byToken_at (f : FVec Ideal S4x16384x128 .f32) (b : Fin 2) (r : Fin 8192) (h : Fin 4) (d : Fin 128) :
    byToken f (ix4 b r h d) = f (ix3 h ⟨b.val * 8192 + r.val, by omega⟩ d) := by
  pointwise [byToken]

theorem heads_at (f b : FVec Ideal S4x16384x128 .f32) (r : Fin 16384) (h : Fin 4) (d : Fin 128) :
    heads f b (ix4 ⟨r.val / 8192, by omega⟩ ⟨r.val % 8192, by omega⟩ h d) = f (ix3 h r d) + b (ix3 h r d) := by
  have e : (⟨r.val / 8192 * 8192 + r.val % 8192, by omega⟩ : Fin 16384) = r := Fin.ext (by simp only []; omega)
  show byToken f _ + byToken b _ = _
  rw [byToken_at, byToken_at]
  simp only [e]

theorem gate_at (g : FVec Ideal S16384x512 .f32) (r : Fin 16384) (d : Fin 512) : gate g (ix2 r d) = Row.silu (g (ix2 r d)) := by
  pointwise [gate, Row.silu]

theorem gateF_at (g : FVec Ideal S16384x2816 .f32) (r : Fin 16384) (d : Fin 2816) : gateF g (ix2 r d) = Row.silu (g (ix2 r d)) := by
  pointwise [gateF, Row.silu]

theorem sides_at (p q : FVec Ideal S16384x512 .f32) (r : Fin 16384) (d : Fin 1024) :
    sides p q (ix2 r d) = if h : d.val < 512 then p (ix2 r ⟨d.val, h⟩) else q (ix2 r ⟨d.val - 512, by omega⟩) := by
  pointwise [sides]

theorem recur_at (o : FVec Ideal S2x8192x4x128 .f32) (g : FVec Ideal S16384x512 .f32) (r : Fin 16384) (d : Fin 512) :
    recur o g (ix2 r d) = o (ix4 ⟨r.val / 8192, by omega⟩ ⟨r.val % 8192, by omega⟩ ⟨d.val / 128, by omega⟩ ⟨d.val % 128, by omega⟩) * g (ix2 r d) := by
  pointwise [recur]

theorem join_at (x p : FVec Ideal S16384x1024 .f32) (w : FVec Ideal S1024x1024 .f32) (r : Fin 16384) (j : Fin 1024) :
    join x p w (ix2 r j) = x (ix2 r j) + ∑ d : Fin 1024, p (ix2 r d) * w (ix2 d j) := by
  pointwise [join]

theorem wide_at (x : FVec Ideal S16384x1024 .f32) (w : FVec Ideal S1024x5632 .f32) (r : Fin 16384) (j : Fin 5632) :
    wide x w (ix2 r j) = ∑ d : Fin 1024, x (ix2 r d) * w (ix2 d j) := by
  pointwise [wide]

theorem hidden_at (z : FVec Ideal S16384x5632 .f32) (r : Fin 16384) (k : Fin 2816) :
    hidden z (ix2 r k) = Row.silu (z (ix2 r ⟨k.val, by omega⟩)) * z (ix2 r ⟨2816 + k.val, by omega⟩) := by
  pointwise [hidden, gateF, Row.silu]

theorem halfStep_at (x : FVec Ideal S16384x1024 .f32) (h : FVec Ideal S16384x2816 .f32) (w : FVec Ideal S2816x1024 .f32) (r : Fin 16384) (j : Fin 1024) :
    halfStep x h w (ix2 r j) = x (ix2 r j) + Ideal.ofBits .f32 0x3F000000#32 * ∑ k : Fin 2816, h (ix2 r k) * w (ix2 k j) := by
  pointwise [halfStep]

theorem ffn_at (x : FVec Ideal S16384x1024 .f32) (g : FVec Ideal S1x1024 .f32) (wi : FVec Ideal S1024x5632 .f32) (wo : FVec Ideal S2816x1024 .f32)
    (r : Fin 16384) (j : Fin 1024) :
    ffn x g wi wo (ix2 r j) = Row.step (fun d => x (ix2 r d)) (fun d => g (ix2 0 d)) (fun d k => wi (ix2 d k)) (fun k j => wo (ix2 k j)) j := by
  rw [ffn, halfStep_at]
  simp only [hidden_at, wide_at, normed_at, Row.step]

theorem joined_at (x : FVec Ideal S16384x1024 .f32) (a : FVec Ideal S16384x512 .f32) (f b : FVec Ideal S4x16384x128 .f32) (rg : FVec Ideal S16384x512 .f32)
    (ag : FVec Ideal S1x512 .f32) (og : FVec Ideal S1x128 .f32) (w : FVec Ideal S1024x1024 .f32) (r : Fin 16384) (j : Fin 1024) :
    joined x a f b rg ag og w (ix2 r j)
      = Row.joined (fun d => x (ix2 r d)) (Row.mixed (fun d => a (ix2 r d)) (fun d => ag (ix2 0 d)) (fun h d => f (ix3 h r d) + b (ix3 h r d)) (fun d => og (ix2 0 d)) (fun d => rg (ix2 r d)))
          (fun d j => w (ix2 d j)) j := by
  rw [joined, join_at]
  simp only [sides_at, normedA_at, recur_at, normedH_at, heads_at, gate_at, Row.joined, Row.mixed]

variable (V0 : Valuation τ sig (Elt Ideal))

theorem v38_eq : res_main_v38 V0 = joined (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := rfl

theorem v61_eq : res_main_v61 V0 = ffn (res_main_v38 V0) (V0 (Proc.devRef .tc main_arg8)) (V0 (Proc.devRef .tc main_arg9)) (V0 (Proc.devRef .tc main_arg10)) := rfl

/-- The reference's result in these steps. -/
def out (x : FVec Ideal S16384x1024 .f32) (a : FVec Ideal S16384x512 .f32) (f b : FVec Ideal S4x16384x128 .f32) (rg : FVec Ideal S16384x512 .f32)
    (ag : FVec Ideal S1x512 .f32) (og : FVec Ideal S1x128 .f32) (w : FVec Ideal S1024x1024 .f32) (g : FVec Ideal S1x1024 .f32) (wi : FVec Ideal S1024x5632 .f32)
    (wo : FVec Ideal S2816x1024 .f32) (fg : FVec Ideal S1x1024 .f32) : FVec Ideal S16384x1024 .f32 :=
  normed (ffn (joined x a f b rg ag og w) g wi wo) fg

theorem out_eq : normed (res_main_v61 V0) (V0 (Proc.devRef .tc main_arg11)) = out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  rw [v61_eq, v38_eq]; rfl

end Attn.Ref2
-- ==== Proof.Value2.lean ====
/- The second call's result, whole: the kernel's blocks put together are the reference's result of the same arrays. -/
module

public import proofs.«01_k».proof.Proof.K2Val
public import proofs.«01_k».proof.Proof.Ref2
public import Idealize.ShloMosaic.Lib.Pipeline.ValueKit.Geometry
public import Idealize.ShloMosaic.Lib.Pipeline.ValueKit.Acc
public import Idealize.ShloMosaic.Lib.Pipeline.ValueKit.Tiles

@[expose] public section

noncomputable section

namespace Attn.K2

open Cert.Kernel2Ideal Cert.Kernel2Ideal.Gen Idealize.ShloMosaic Idealize.ShloMosaic.TcCoe

set_option maxRecDepth 16384

/-- The loads of parts of a block. -/
theorem ldH (x : Vec Ideal S4x512x128 .f32) (r : Fin 512) (d : Fin 128) :
    (View.ld x r0_2 : Vec Ideal S1x512x128 .f32) (ix3 0 r d) = x (ix3 0 r d) ∧ (View.ld x r0_4 : Vec Ideal S1x512x128 .f32) (ix3 0 r d) = x (ix3 1 r d)
      ∧ (View.ld x r0_5 : Vec Ideal S1x512x128 .f32) (ix3 0 r d) = x (ix3 2 r d) ∧ (View.ld x r0_6 : Vec Ideal S1x512x128 .f32) (ix3 0 r d) = x (ix3 3 r d) := by
  refine ⟨congrArg x ?_, congrArg x ?_, congrArg x ?_, congrArg x ?_⟩ <;> blk_ext [] <;> simp [LoadRect.idx, Rect.unit]

theorem ldW (x : Vec Ideal S1024x5632 .bf16) (d : Fin 1024) (k : Fin 2816) :
    (View.ld x r0_10 : Vec Ideal S1024x2816 .bf16) (ix2 d k) = x (ix2 d ⟨k.val, by omega⟩) ∧ (View.ld x r0_11 : Vec Ideal S1024x2816 .bf16) (ix2 d k) = x (ix2 d ⟨2816 + k.val, by omega⟩) := by
  refine ⟨congrArg x ?_, congrArg x ?_⟩ <;> blk_ext [] <;> simp [LoadRect.idx, Rect.unit]

/-- A token's row after the mixer, and after the half step. -/
def row (x0 : Vec Ideal S512x1024 .f32) (x1 : Vec Ideal S512x512 .f32) (x2 x3 : Vec Ideal S4x512x128 .f32) (x4 : Vec Ideal S512x512 .f32) (x5 : Vec Ideal S1x512 .f32)
    (x6 : Vec Ideal S1x128 .f32) (x7 : Vec Ideal S1024x1024 .f32) (r : Fin 512) : Fin 1024 → EReal :=
  Row.joined (fun d => x0 (ix2 r d)) (Row.mixed (fun d => x1 (ix2 r d)) (fun d => x5 (ix2 0 d)) (fun h d => x2 (ix3 h r d) + x3 (ix3 h r d)) (fun d => x6 (ix2 0 d)) (fun d => x4 (ix2 r d)))
    (fun d j => x7 (ix2 d j))

theorem mixed_head (a ag : Fin 512 → EReal) (o : Fin 4 → Fin 128 → EReal) (og : Fin 128 → EReal) (rg : Fin 512 → EReal) (h : Fin 4) (d : Fin 128) (e : Fin 512) (f : Fin 1024)
    (he : e.val = h.val * 128 + d.val) (hf : f.val = 512 + h.val * 128 + d.val) :
    Row.norm (Ideal.ofBits .f32 0x43000000#32) (o h) og d * Row.silu (rg e) = Row.mixed a ag o og rg f := by
  have h1 : (⟨(f.val - 512) / 128, by omega⟩ : Fin 4) = h := Fin.ext (by simp only []; omega)
  have h2 : (⟨(f.val - 512) % 128, by omega⟩ : Fin 128) = d := Fin.ext (by simp only []; omega)
  have h3 : (⟨f.val - 512, by omega⟩ : Fin 512) = e := Fin.ext (by simp only []; omega)
  rw [Row.mixed, dif_neg (by omega), h1, h2, h3]

theorem out_at (x0 : Vec Ideal S512x1024 .f32) (x1 : Vec Ideal S512x512 .f32) (x2 x3 : Vec Ideal S4x512x128 .f32) (x4 : Vec Ideal S512x512 .f32) (x5 : Vec Ideal S1x512 .f32)
    (x6 : Vec Ideal S1x128 .f32) (x7 : Vec Ideal S1024x1024 .f32) (x8 : Vec Ideal S1x1024 .f32) (x9 : Vec Ideal S1024x5632 .bf16) (x10 : Vec Ideal S2816x1024 .f32) (x11 : Vec Ideal S1x1024 .f32)
    (r : Fin 512) (j : Fin 1024) :
    out0_12 x0 x1 x2 x3 x4 x5 x6 x7 x8 x9 x10 x11 (ix2 r j)
      = Row.norm (Ideal.ofBits .f32 0x44800000#32) (Row.step (row x0 x1 x2 x3 x4 x5 x6 x7 r) (fun d => x8 (ix2 0 d)) (fun d k => x9 (ix2 d k)) (fun k j => x10 (ix2 k j))) (fun d => x11 (ix2 0 d)) j := by
  unfold_out out0_12
  frame_out
  generalize hX : k0_pay11 (F := Ideal) _ _ _ _ _ _ _ _ _ _ _ _ _ = X
  have hx : ∀ j, X (ix2 r j) = row x0 x1 x2 x3 x4 x5 x6 x7 r j := fun j => by
    rw [← hX]
    refine mix_at _ _ _ _ _ _ _ _ _ _ _ r j _ ?_ ?_ ?_ ?_ ?_ <;> intro d
    · rw [attn_at, Row.mixed, dif_pos d.isLt]
    · rw [head0_at, gate_at]
      refine (congrArg (fun o => Row.norm _ o _ d * _) (funext fun d => congrArg₂ (· + ·) (ldH x2 r d).1 (ldH x3 r d).1)).trans ?_
      exact mixed_head (fun d => x1 (ix2 r d)) (fun d => x5 (ix2 0 d)) (fun h d => x2 (ix3 h r d) + x3 (ix3 h r d)) (fun d => x6 (ix2 0 d)) (fun d => x4 (ix2 r d)) 0 d ⟨d.val, by omega⟩ ⟨512 + d.val, by omega⟩
        (show d.val = 0 * 128 + d.val by omega) (show 512 + d.val = 512 + 0 * 128 + d.val by omega)
    · rw [head1_at, gate_at]
      refine (congrArg (fun o => Row.norm _ o _ d * _) (funext fun d => congrArg₂ (· + ·) (ldH x2 r d).2.1 (ldH x3 r d).2.1)).trans ?_
      exact mixed_head (fun d => x1 (ix2 r d)) (fun d => x5 (ix2 0 d)) (fun h d => x2 (ix3 h r d) + x3 (ix3 h r d)) (fun d => x6 (ix2 0 d)) (fun d => x4 (ix2 r d)) 1 d ⟨128 + d.val, by omega⟩ ⟨640 + d.val, by omega⟩
        (show 128 + d.val = 1 * 128 + d.val by omega) (show 640 + d.val = 512 + 1 * 128 + d.val by omega)
    · rw [gate_at]
      refine (congrArg (fun o => Row.norm _ o _ d * _) (funext fun d => congrArg₂ (· + ·) (ldH x2 r d).2.2.1 (ldH x3 r d).2.2.1)).trans ?_
      exact mixed_head (fun d => x1 (ix2 r d)) (fun d => x5 (ix2 0 d)) (fun h d => x2 (ix3 h r d) + x3 (ix3 h r d)) (fun d => x6 (ix2 0 d)) (fun d => x4 (ix2 r d)) 2 d ⟨256 + d.val, by omega⟩ ⟨768 + d.val, by omega⟩
        (show 256 + d.val = 2 * 128 + d.val by omega) (show 768 + d.val = 512 + 2 * 128 + d.val by omega)
    · rw [gate_at]
      refine (congrArg (fun o => Row.norm _ o _ d * _) (funext fun d => congrArg₂ (· + ·) (ldH x2 r d).2.2.2 (ldH x3 r d).2.2.2)).trans ?_
      exact mixed_head (fun d => x1 (ix2 r d)) (fun d => x5 (ix2 0 d)) (fun h d => x2 (ix3 h r d) + x3 (ix3 h r d)) (fun d => x6 (ix2 0 d)) (fun d => x4 (ix2 r d)) 3 d ⟨384 + d.val, by omega⟩ ⟨896 + d.val, by omega⟩
        (show 384 + d.val = 3 * 128 + d.val by omega) (show 896 + d.val = 512 + 3 * 128 + d.val by omega)
  have hs : ∀ j, k0_pay13 X (k0_pay12 x8) (View.ld x9 r0_10) (View.ld x9 r0_11) x10 (ix2 r j)
      = Row.step (row x0 x1 x2 x3 x4 x5 x6 x7 r) (fun d => x8 (ix2 0 d)) (fun d k => x9 (ix2 d k)) (fun k j => x10 (ix2 k j)) j := fun j => by
    rw [half_at, ← late_eq]
    simp only [hx, spread_at]
    exact congrArg₂ (fun a b => late _ _ a b _ j) (funext₂ fun d k => (ldW x9 d k).1) (funext₂ fun d k => (ldW x9 d k).2)
  refine (last_at _ _ _ r j).trans ?_
  rw [square_at]
  simp only [hs]
  rfl

variable (m : (ℓ : Loc nD τ sig) → Buf (Elt Ideal) ℓ) (c : Dev nD)

theorem w_eq : (V m c main_v0 : FVec Ideal S1024x5632 .bf16) = (m ((c.tc : Thread nD τ).loc main_arg9) : FVec Ideal S1024x5632 .f32) := by
  show StableHlo.after hostOps0 _ (Proc.devRef .tc main_v0) = _
  after_results
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![t.val, 0] := (by decide +kernel : ∀ t : Fin grid0.N, _)
theorem covers12 : (cfg0.win 12).Covers := by decide +kernel

theorem t_lt (t : Fin cfg0.N) : t.val < 32 := t.isLt

/-- The token of row `r` of the block of point `t`. -/
abbrev tok (t : Fin cfg0.N) (r : Fin 512) : Fin 16384 := ⟨t.val * 512 + r.val, by have := t_lt t; omega⟩

/-- The arrays as launched. -/
abbrev a0 : FVec Ideal S16384x1024 .f32 := m ((c.tc : Thread nD τ).loc main_arg0)
abbrev a1 : FVec Ideal S16384x512 .f32 := m ((c.tc : Thread nD τ).loc main_arg1)
abbrev a2 : FVec Ideal S4x16384x128 .f32 := m ((c.tc : Thread nD τ).loc main_arg2)
abbrev a3 : FVec Ideal S4x16384x128 .f32 := m ((c.tc : Thread nD τ).loc main_arg3)
abbrev a4 : FVec Ideal S16384x512 .f32 := m ((c.tc : Thread nD τ).loc main_arg4)
abbrev a5 : FVec Ideal S1x512 .f32 := m ((c.tc : Thread nD τ).loc main_arg5)
abbrev a6 : FVec Ideal S1x128 .f32 := m ((c.tc : Thread nD τ).loc main_arg6)
abbrev a7 : FVec Ideal S1024x1024 .f32 := m ((c.tc : Thread nD τ).loc main_arg7)
abbrev a8 : FVec Ideal S1x1024 .f32 := m ((c.tc : Thread nD τ).loc main_arg8)
abbrev a9 : FVec Ideal S1024x5632 .f32 := m ((c.tc : Thread nD τ).loc main_arg9)
abbrev a10 : FVec Ideal S2816x1024 .f32 := m ((c.tc : Thread nD τ).loc main_arg10)
abbrev a11 : FVec Ideal S1x1024 .f32 := m ((c.tc : Thread nD τ).loc main_arg11)

variable (t : Fin cfg0.N) (r : Fin 512)

theorem blk0 (d : Fin 1024) : (iblk m c 0 t : FVec Ideal S512x1024 .f32) (ix2 r d) = a0 m c (ix2 (tok t r) d) := by
  show iblk m c 0 t (ix2 r d) = _
  blk_simp [iblk]
  rw [V_main_arg0]
  refine congrArg (a0 m c) ?_
  blk_ext [idx0]

theorem blk1 (d : Fin 512) : (iblk m c 1 t : FVec Ideal S512x512 .f32) (ix2 r d) = a1 m c (ix2 (tok t r) d) := by
  show iblk m c 1 t (ix2 r d) = _
  blk_simp [iblk]
  rw [V_main_arg1]
  refine congrArg (a1 m c) ?_
  blk_ext [idx1]

theorem blk2 (h : Fin 4) (d : Fin 128) : (iblk m c 2 t : FVec Ideal S4x512x128 .f32) (ix3 h r d) = a2 m c (ix3 h (tok t r) d) := by
  show iblk m c 2 t (ix3 h r d) = _
  blk_simp [iblk]
  rw [V_main_arg2]
  refine congrArg (a2 m c) ?_
  blk_ext [idx2]

theorem blk3 (h : Fin 4) (d : Fin 128) : (iblk m c 3 t : FVec Ideal S4x512x128 .f32) (ix3 h r d) = a3 m c (ix3 h (tok t r) d) := by
  show iblk m c 3 t (ix3 h r d) = _
  blk_simp [iblk]
  rw [V_main_arg3]
  refine congrArg (a3 m c) ?_
  blk_ext [idx3]

theorem blk4 (d : Fin 512) : (iblk m c 4 t : FVec Ideal S512x512 .f32) (ix2 r d) = a4 m c (ix2 (tok t r) d) := by
  show iblk m c 4 t (ix2 r d) = _
  blk_simp [iblk]
  rw [V_main_arg4]
  refine congrArg (a4 m c) ?_
  blk_ext [idx4]

/-- The windows that hold a whole array. -/
theorem whole : (iblk m c 5 t : FVec Ideal S1x512 .f32) = a5 m c
      ∧ (iblk m c 6 t : FVec Ideal S1x128 .f32) = a6 m c
      ∧ (iblk m c 7 t : FVec Ideal S1024x1024 .f32) = a7 m c
      ∧ (iblk m c 8 t : FVec Ideal S1x1024 .f32) = a8 m c
      ∧ (iblk m c 9 t : FVec Ideal S1024x5632 .bf16) = a9 m c
      ∧ (iblk m c 10 t : FVec Ideal S2816x1024 .f32) = a10 m c
      ∧ (iblk m c 11 t : FVec Ideal S1x1024 .f32) = a11 m c := by
  refine ⟨funext fun y => ?_, funext fun y => ?_, funext fun y => ?_, funext fun y => ?_, funext fun y => ?_, funext fun y => ?_, funext fun y => ?_⟩
  · show iblk m c 5 t y = _
    blk_simp [iblk]
    rw [V_main_arg5]; exact congrArg (a5 m c) (by blk_ext [idx5])
  · show iblk m c 6 t y = _
    blk_simp [iblk]
    rw [V_main_arg6]; exact congrArg (a6 m c) (by blk_ext [idx6])
  · show iblk m c 7 t y = _
    blk_simp [iblk]
    rw [V_main_arg7]; exact congrArg (a7 m c) (by blk_ext [idx7])
  · show iblk m c 8 t y = _
    blk_simp [iblk]
    rw [V_main_arg8]; exact congrArg (a8 m c) (by blk_ext [idx8])
  · show iblk m c 9 t y = _
    blk_simp [iblk]
    exact (congrFun (w_eq m c) _).trans (congrArg (a9 m c) (by blk_ext [idx9]))
  · show iblk m c 10 t y = _
    blk_simp [iblk]
    rw [V_main_arg10]; exact congrArg (a10 m c) (by blk_ext [idx10])
  · show iblk m c 11 t y = _
    blk_simp [iblk]
    rw [V_main_arg11]; exact congrArg (a11 m c) (by blk_ext [idx11])

/-- The kernel's result is the reference's, whatever the arrays hold. -/
theorem final : (dats m 0 c).arrAt 12 cfg0.N = Ref2.out (a0 m c) (a1 m c) (a2 m c) (a3 m c) (a4 m c) (a5 m c) (a6 m c) (a7 m c) (a8 m c) (a9 m c) (a10 m c) (a11 m c) := by
  refine (dats m 0 c).arrAt_eq_of_covers 12 _ covers12 (hG := fun t _ y => ?_) (harr := Memref.isWhole_whole _)
  blk_simp
  rw [after0_12]
  have ht := t_lt t
  obtain ⟨r, j, rfl⟩ : ∃ (r : Fin 512) (j : Fin 1024), y = (ix2 r j : S512x1024.Idx) := ⟨y 0, y 1, funext fun a => by
    match a with | 0 | 1 => rfl⟩
  have hi : ((win0_12.blk t).view.emb (ix2 r j : S512x1024.Idx)) = (ix2 (tok t r) j : S16384x1024.Idx) := by
    blk_ext [idx12]
  rw [hi]
  obtain ⟨h5, h6, h7, h8, h9, h10, h11⟩ := whole m c t
  refine (out_at _ _ _ _ _ _ _ _ _ _ _ _ r j).trans ?_
  rw [Ref2.out, Ref2.normed_at]
  simp only [Ref2.ffn_at, Ref2.joined_at]
  unfold row
  simp only [blk0, blk1, blk2, blk3, blk4]
  rw [h5, h6, h7, h8, h9, h10, h11]

end Attn.K2
-- ==== Proof.Algebraic2.lean ====
/- The second call's claims. -/
module

public import proofs.«01_k».proof.Defs
public import proofs.«01_k».proof.Proof.Value2
public import proofs.«01_k».proof.Proof.Gen.Kernel2.Frame

@[expose] public section

namespace Attn.K2

open Idealize.ShloMosaic Idealize.ShloMosaic.TcCoe Idealize.SL.Sem

theorem frame_kernel : Cert.quiescent_Kernel2 := fun m g _ => Cert.Kernel2.Gen.frame m g

theorem frame_ideal : Cert.quiescent_Kernel2Ideal := fun m g _ => Cert.Kernel2Ideal.Gen.frame m g

theorem frame_reference : Cert.quiescent_Reference2Ideal := fun m g _ =>
  (θ_run (Cert.Reference2Ideal.defs (F := Ideal)) _ _).mono (fun _ h => ⟨fun c => (h c).2, sem_eq_zero_of_no_sems (by decide) _⟩)
    (Cert.Reference2Ideal.Value.run (F := Ideal) m g)

theorem named : Cert.preserves_Kernel2_Kernel2Ideal :=
  IdealRules.named_const.statement Cert.Kernel2Ideal.κ "nlog2e" .f32 0xBFB8AA3B#32 ((-((Real.log 2)⁻¹) : ℝ) : EReal) rfl

theorem algebraic : Cert.algebraic_Kernel2Ideal_Reference2Ideal := fun m g m' g' _ hm => by
  refine ⟨fun c => Ref2.out (a0 m c) (a1 m c) (a2 m c) (a3 m c) (a4 m c) (a5 m c) (a6 m c) (a7 m c) (a8 m c) (a9 m c) (a10 m c) (a11 m c), ?_, ?_⟩
  · exact (θ_run (Cert.Kernel2Ideal.defs (F := Ideal)) _ _).mono (fun _ h c => ⟨(h c).1.trans (final m c), (h c).2⟩) (Cert.Kernel2Ideal.Value.run_blocks (F := Ideal) m g)
  · refine (θ_run (Cert.Reference2Ideal.defs (F := Ideal)) _ _).mono (fun _ h c => ⟨(h c).1.trans ((Ref2.out_eq _).trans ?_), (h c).2⟩) (Cert.Reference2Ideal.Value.run (F := Ideal) m' g')
    obtain ⟨e0, e1, e2, e3, e4, e5, e6, e7, e8, e9, e10, e11⟩ := hm c
    show Ref2.out (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) = _
    rw [e0, e1, e2, e3, e4, e5, e6, e7, e8, e9, e10, e11]

end Attn.K2
-- ==== Proof.Value3.lean ====
/- The first call's results, whole: the kernel's blocks put together are the reference's results of the same arrays. -/
module

public import proofs.«01_k».proof.Proof.Gen.Kernel3Ideal.Value
public import proofs.«01_k».proof.Proof.K2Val
public import proofs.«01_k».proof.Proof.Ref2
public import Idealize.ShloMosaic.Lib.Pipeline.ValueKit.Geometry
public import Idealize.ShloMosaic.Lib.Pipeline.ValueKit.Acc
public import Idealize.ShloMosaic.Lib.Pipeline.ValueKit.Tiles

@[expose] public section

noncomputable section

namespace Attn.K3

open Cert.Kernel3Ideal Cert.Kernel3Ideal.Gen Idealize.ShloMosaic Idealize.ShloMosaic.TcCoe

set_option maxRecDepth 16384

theorem half_at (x : FVec Ideal S512x1024 .f32) (g : FVec Ideal S1x1024 .f32) (a b : FVec Ideal S1024x2816 .f32) (w : FVec Ideal S2816x1024 .f32) (r : Fin 512) (j : Fin 1024) :
    (k0_pay2 x g a b w : FVec Ideal S512x1024 .f32) (ix2 r j)
      = K2.late (fun d => x (ix2 r d)) (fun d => g (ix2 0 d)) (fun d k => a (ix2 d k)) (fun d k => b (ix2 d k)) (fun k j => w (ix2 k j)) j := by
  pointwise [k0_pay2, K2.late, Row.rinv]
  rfl

theorem cast_at (w : FVec Ideal S32x5632 .f32) (r : Fin 32) (k : Fin 5632) : (k0_pay1 w : FVec Ideal S32x5632 .bf16) (ix2 r k) = w (ix2 r k) := by
  pointwise [k0_pay1]

theorem ldW (x : Vec Ideal S1024x5632 .f32) (d : Fin 1024) (k : Fin 2816) :
    (View.ld x r0_2 : Vec Ideal S1024x2816 .f32) (ix2 d k) = x (ix2 d ⟨k.val, by omega⟩) ∧ (View.ld x r0_3 : Vec Ideal S1024x2816 .f32) (ix2 d k) = x (ix2 d ⟨2816 + k.val, by omega⟩) := by
  refine ⟨congrArg x ?_, congrArg x ?_⟩ <;> blk_ext [] <;> simp [LoadRect.idx, Rect.unit]

theorem out_at (x0 : Vec Ideal S512x1024 .f32) (x1 : Vec Ideal S1x1024 .f32) (x2 : Vec Ideal S1024x5632 .f32) (x3 : Vec Ideal S2816x1024 .f32) (x4 : Vec Ideal S32x5632 .f32) (r : Fin 512) (j : Fin 1024) :
    out0_5 x0 x1 x2 x3 x4 (ix2 r j) = Row.step (fun d => x0 (ix2 r d)) (fun d => x1 (ix2 0 d)) (fun d k => x2 (ix2 d k)) (fun k j => x3 (ix2 k j)) j := by
  unfold out0_5
  frame_out
  rw [half_at, ← K2.late_eq]
  exact congrArg₂ (fun a b => K2.late _ _ a b _ j) (funext₂ fun d k => (ldW x2 d k).1) (funext₂ fun d k => (ldW x2 d k).2)

theorem later_at (x0 : Vec Ideal S512x1024 .f32) (x1 : Vec Ideal S1x1024 .f32) (x2 : Vec Ideal S1024x5632 .f32) (x3 : Vec Ideal S2816x1024 .f32) (x4 : Vec Ideal S32x5632 .f32) (r : Fin 32) (k : Fin 5632) :
    out0_6 x0 x1 x2 x3 x4 (ix2 r k) = x4 (ix2 r k) := by
  unfold out0_6
  frame_out
  exact cast_at _ r k

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem covers5 : (cfg0.win 5).Covers := by decide +kernel
theorem covers6 : (cfg0.win 6).Covers := by decide +kernel

theorem t_lt (t : Fin cfg0.N) : t.val < 32 := t.isLt

/-- The token of row `r` of the block of point `t`. -/
abbrev tok (t : Fin cfg0.N) (r : Fin 512) : Fin 16384 := ⟨t.val * 512 + r.val, by have := t_lt t; omega⟩

/-- The row of the weights for later of row `r` of the block of point `t`. -/
abbrev rowL (t : Fin cfg0.N) (r : Fin 32) : Fin 1024 := ⟨t.val * 32 + r.val, by have := t_lt t; omega⟩

/-- The arrays as launched. -/
abbrev a0 : FVec Ideal S16384x1024 .f32 := m ((c.tc : Thread nD τ).loc main_arg0)
abbrev a1 : FVec Ideal S1x1024 .f32 := m ((c.tc : Thread nD τ).loc main_arg1)
abbrev a2 : FVec Ideal S1024x5632 .f32 := m ((c.tc : Thread nD τ).loc main_arg2)
abbrev a3 : FVec Ideal S2816x1024 .f32 := m ((c.tc : Thread nD τ).loc main_arg3)
abbrev a4 : FVec Ideal S1024x5632 .f32 := m ((c.tc : Thread nD τ).loc main_arg4)

variable (t : Fin cfg0.N)

theorem blk0 (r : Fin 512) (d : Fin 1024) : (iblk m c 0 t : FVec Ideal S512x1024 .f32) (ix2 r d) = a0 m c (ix2 (tok t r) d) := by
  show iblk m c 0 t (ix2 r d) = _
  blk_simp [iblk]
  rw [V_main_arg0]
  refine congrArg (a0 m c) ?_
  blk_ext [idx0]

theorem blk4 (r : Fin 32) (k : Fin 5632) : (iblk m c 4 t : FVec Ideal S32x5632 .f32) (ix2 r k) = a4 m c (ix2 (rowL t r) k) := by
  show iblk m c 4 t (ix2 r k) = _
  blk_simp [iblk]
  rw [V_main_arg4]
  refine congrArg (a4 m c) ?_
  blk_ext [idx4]

/-- The windows that hold a whole array. -/
theorem whole : (iblk m c 1 t : FVec Ideal S1x1024 .f32) = a1 m c ∧ (iblk m c 2 t : FVec Ideal S1024x5632 .f32) = a2 m c ∧ (iblk m c 3 t : FVec Ideal S2816x1024 .f32) = a3 m c := by
  refine ⟨funext fun y => ?_, funext fun y => ?_, funext fun y => ?_⟩
  · show iblk m c 1 t y = _
    blk_simp [iblk]
    rw [V_main_arg1]; exact congrArg (a1 m c) (by blk_ext [idx1])
  · show iblk m c 2 t y = _
    blk_simp [iblk]
    rw [V_main_arg2]; exact congrArg (a2 m c) (by blk_ext [idx2])
  · show iblk m c 3 t y = _
    blk_simp [iblk]
    rw [V_main_arg3]; exact congrArg (a3 m c) (by blk_ext [idx3])

/-- The half step is the reference's, whatever the arrays hold. -/
theorem final : (dats m 0 c).arrAt 5 cfg0.N = Ref2.ffn (a0 m c) (a1 m c) (a2 m c) (a3 m c) := by
  refine (dats m 0 c).arrAt_eq_of_covers 5 _ covers5 (hG := fun t _ y => ?_) (harr := Memref.isWhole_whole _)
  blk_simp
  rw [after0_5]
  have ht := t_lt t
  obtain ⟨r, j, rfl⟩ : ∃ (r : Fin 512) (j : Fin 1024), y = (ix2 r j : S512x1024.Idx) := ⟨y 0, y 1, funext fun a => by
    match a with | 0 | 1 => rfl⟩
  have hi : ((win0_5.blk t).view.emb (ix2 r j : S512x1024.Idx)) = (ix2 (tok t r) j : S16384x1024.Idx) := by
    blk_ext [idx5]
  rw [hi]
  obtain ⟨h1, h2, h3⟩ := whole m c t
  refine (out_at _ _ _ _ _ r j).trans ?_
  rw [Ref2.ffn_at]
  simp only [blk0]
  rw [h1, h2, h3]

/-- So are the weights for the last call. -/
theorem later : (dats m 0 c).arrAt 6 cfg0.N = (a4 m c : FVec Ideal S1024x5632 .f32) := by
  refine (dats m 0 c).arrAt_eq_of_covers 6 _ covers6 (hG := fun t _ y => ?_) (harr := Memref.isWhole_whole _)
  blk_simp
  rw [after0_6]
  have ht := t_lt t
  obtain ⟨r, k, rfl⟩ : ∃ (r : Fin 32) (k : Fin 5632), y = (ix2 r k : S32x5632.Idx) := ⟨y 0, y 1, funext fun a => by
    match a with | 0 | 1 => rfl⟩
  have hi : ((win0_6.blk t).view.emb (ix2 r k : S32x5632.Idx)) = (ix2 (rowL t r) k : S1024x5632.Idx) := by
    blk_ext [idx6]
  rw [hi]
  exact (later_at _ _ _ _ _ r k).trans (blk4 m c t r k)

end Attn.K3
-- ==== Proof.Algebraic3.lean ====
/- The first call's claims. -/
module

public import proofs.«01_k».proof.Defs
public import proofs.«01_k».proof.Proof.Value3
public import proofs.«01_k».proof.Proof.Gen.Kernel3.Frame
public import proofs.«01_k».proof.Proof.Gen.Reference3Ideal.Run

@[expose] public section

namespace Attn.K3

open Idealize.ShloMosaic Idealize.ShloMosaic.TcCoe Idealize.SL.Sem

theorem frame_kernel : Cert.quiescent_Kernel3 := fun m g _ => Cert.Kernel3.Gen.frame m g

theorem frame_ideal : Cert.quiescent_Kernel3Ideal := fun m g _ => Cert.Kernel3Ideal.Gen.frame m g

theorem frame_reference : Cert.quiescent_Reference3Ideal := fun m g _ =>
  (θ_run (Cert.Reference3Ideal.defs (F := Ideal)) _ _).mono (fun _ h => ⟨fun c => (h c).2.2, sem_eq_zero_of_no_sems (by decide) _⟩)
    (Cert.Reference3Ideal.Value.run (F := Ideal) m g)

theorem named : Cert.preserves_Kernel3_Kernel3Ideal :=
  IdealRules.named_const.statement Cert.Kernel3Ideal.κ "nlog2e" .f32 0xBFB8AA3B#32 ((-((Real.log 2)⁻¹) : ℝ) : EReal) rfl

theorem algebraic : Cert.algebraic_Kernel3Ideal_Reference3Ideal := fun m g m' g' _ hm => by
  refine ⟨fun c => Ref2.ffn (a0 m c) (a1 m c) (a2 m c) (a3 m c), fun c => a4 m c, ?_, ?_⟩
  · exact (θ_run (Cert.Kernel3Ideal.defs (F := Ideal)) _ _).mono (fun _ h c => ⟨(h c).1.trans (final m c), (h c).2.1.trans (later m c), (h c).2.2⟩) (Cert.Kernel3Ideal.Value.run_blocks (F := Ideal) m g)
  · refine (θ_run (Cert.Reference3Ideal.defs (F := Ideal)) _ _).mono (fun _ h c => ?_) (Cert.Reference3Ideal.Value.run (F := Ideal) m' g')
    obtain ⟨h0, h1, h2⟩ := h c
    obtain ⟨e0, e1, e2, e3, e4⟩ := hm c
    refine ⟨h0.trans ?_, h1.trans ?_, h2⟩
    · rw [e0, e1, e2, e3]
      rfl
    · rw [e4]
      rfl

end Attn.K3
-- ==== Proof.MixRow.lean ====
/- What the projection of a token's row is cut into, as functions of rows: turned heads, gates. -/
module

public import proofs.«01_k».proof.Proof.Row

@[expose] public section

noncomputable section

namespace Attn.Row

open Idealize.ShloMosaic

/-- The projection of a token's normalised row by some columns of weights. -/
def proj {N : ℕ} (x g : Fin 1024 → E) (w : Fin 1024 → Fin N → E) (j : Fin N) : E :=
  ∑ d : Fin 1024, norm (Ideal.ofBits .f32 0x44800000#32) x g d * w d j

/-- Half of a head's row turned by the angles of one coordinate. -/
def half (y : Fin 64 → E) (c s : Fin 32 → E) (d : Fin 64) : E :=
  if k : d.val < 32 then y d * c ⟨d.val, k⟩ - y ⟨d.val + 32, by omega⟩ * s ⟨d.val, k⟩
  else y d * c ⟨d.val - 32, by omega⟩ + y ⟨d.val - 32, by omega⟩ * s ⟨d.val - 32, by omega⟩

/-- A head's row turned: its first 64 lanes by the angles of the row, the others by those of the column. -/
def turn (y : Fin 128 → E) (cr sr cc sc : Fin 32 → E) (d : Fin 128) : E :=
  if h : d.val < 64 then half (fun e => y ⟨e.val, by omega⟩) cr sr ⟨d.val, h⟩
  else half (fun e => y ⟨64 + e.val, by omega⟩) cc sc ⟨d.val - 64, by omega⟩

/-- Four tables of 32 lanes side by side. -/
def pack (a b c e : Fin 32 → E) (d : Fin 128) : E :=
  if h : d.val < 32 then a ⟨d.val, h⟩ else if h : d.val < 64 then b ⟨d.val - 32, by omega⟩
  else if h : d.val < 96 then c ⟨d.val - 64, by omega⟩ else e ⟨d.val - 96, by omega⟩

/-- A head's row turned by tables of 128 lanes, the partner of a lane 32 lanes away. -/
def rot (y c s : Fin 128 → E) (d : Fin 128) : E :=
  y d * c d + (if d.val % 64 < 32 then y ⟨(d.val + 32) % 128, by omega⟩ else y ⟨(d.val + 96) % 128, by omega⟩) * s d

theorem rot_eq (y : Fin 128 → E) (cr sr cc sc : Fin 32 → E) (d : Fin 128) :
    rot y (pack cr cr cc cc) (pack (fun i => -sr i) sr (fun i => -sc i) sc) d = turn y cr sr cc sc d := by
  have hd := d.isLt
  have hf : ∀ (i : ℕ) (hi : i < 128) (j : ℕ) (hj : j < 128), i = j → y ⟨i, hi⟩ = y ⟨j, hj⟩ := fun i hi j hj h => by subst h; rfl
  unfold rot turn pack half
  by_cases h1 : d.val < 32
  · simp only [h1, show d.val < 64 by omega, show d.val % 64 < 32 by omega, dif_pos, if_pos, mul_neg, ← sub_eq_add_neg]
    rw [hf ((d.val + 32) % 128) _ (d.val + 32) (by omega) (by omega)]
  by_cases h2 : d.val < 64
  · simp only [h1, h2, show ¬ d.val % 64 < 32 by omega, dif_pos, dif_neg, if_neg, not_false_eq_true]
    rw [hf ((d.val + 96) % 128) _ (d.val - 32) (by omega) (by omega)]
  have e : y d = y ⟨64 + (d.val - 64), by omega⟩ := hf _ _ _ _ (by omega)
  by_cases h3 : d.val < 96
  · simp only [h1, h2, h3, show d.val % 64 < 32 by omega, show d.val - 64 < 32 by omega, dif_pos, dif_neg, if_pos, not_false_eq_true, mul_neg, ← sub_eq_add_neg]
    rw [hf ((d.val + 32) % 128) _ (64 + (d.val - 64 + 32)) (by omega) (by omega), e]
  · have i : (⟨d.val - 64 - 32, by omega⟩ : Fin 32) = ⟨d.val - 96, by omega⟩ := Fin.ext (by simp only []; omega)
    simp only [h1, h2, h3, show ¬ d.val % 64 < 32 by omega, show ¬ d.val - 64 < 32 by omega, dif_neg, if_neg, not_false_eq_true, i]
    rw [hf ((d.val + 96) % 128) _ (64 + (d.val - 64 - 32)) (by omega) (by omega), e]

/-- Lane `d` of head `h`, normalised over the head and turned, the head's lanes those from `o + 128 h` on. -/
def turned (p : Fin 3584 → E) (g : Fin 128 → E) (cr sr cc sc : Fin 32 → E) (o : ℕ) (ho : o ≤ 3456) (d : Fin 128) : E :=
  turn (norm (Ideal.ofBits .f32 0x43000000#32) (fun e => p ⟨o + e.val, by omega⟩) g) cr sr cc sc d

/-- The logarithm to base two of a forget gate with lower bound `l`. -/
def gate (z l : E) : E :=
  Ideal.log (l + (1 - l) * Ideal.div 1 (1 + Ideal.exp (-z))) * Ideal.ofBits .f32 0x3FB8AA3B#32

/-- The values, a block of ones beside each head's. -/
def vals (p : Fin 3584 → E) (j : Fin 512) : E :=
  if j.val % 256 < 128 then p ⟨768 + j.val / 256 * 128 + j.val % 128, by omega⟩ else 1

end Attn.Row
-- ==== Proof.K4Val.lean ====
/- What the steps of the mixer's projections compute on a block of tokens, read at an index. -/
module

public import proofs.«01_k».proof.Proof.Gen.Kernel4Ideal.Value
public import Idealize.ShloMosaic.Lib.Pointwise
public import proofs.«01_k».proof.Proof.MixRow

@[expose] public section

noncomputable section

namespace Attn.K4

open Cert.Kernel4Ideal Cert.Kernel4Ideal.Gen Idealize.ShloMosaic Idealize.ShloMosaic.TcCoe

set_option maxRecDepth 16384

/-- Whether a lane's partner is 32 lanes above it, from the lane's number. -/
def up (d : BitVec 32) : BitVec 1 :=
  have n : BitVec 32 := Scalar.select (Scalar.cmpi .eq 64#32 0#32) 1#32 64#32
  have q : BitVec 32 := IntOp.remsi .vector d n
  IntOp.cmpi .slt (Scalar.select (IntOp.andi (IntOp.xori (IntOp.cmpi .slt q 0#32) (Scalar.cmpi .slt n 0#32)) (IntOp.cmpi .ne q 0#32)) (IntOp.addi q n) q) 32#32

theorem up_eq : ∀ d : Fin 128, up (BitVec.ofNat 32 d.val) = if d.val % 64 < 32 then 1#1 else 0#1 := by decide +kernel

theorem pick (d : Fin 128) (a b : EReal) : Scalar.select (up (BitVec.ofNat 32 d.val)) a b = if d.val % 64 < 32 then a else b := by
  rw [up_eq]
  by_cases h : d.val % 64 < 32
  · simp only [h, if_true]; rfl
  · simp only [h, if_false]; rfl

theorem part (y : FVec Ideal S1024x128 .f32) (r : Fin 1024) (d : Fin 128) :
    Scalar.select (up (BitVec.ofNat 32 d.val)) (y (ix2 r ⟨(d.val + 128 - 96) % 128, by omega⟩)) (y (ix2 r ⟨(d.val + 128 - 32) % 128, by omega⟩))
      = if d.val % 64 < 32 then y (ix2 r ⟨(d.val + 32) % 128, by omega⟩) else y (ix2 r ⟨(d.val + 96) % 128, by omega⟩) := by
  rw [pick]
  rfl

theorem turn_at (c s y : FVec Ideal S1024x128 .f32) (r : Fin 1024) (d : Fin 128) :
    (k0_pay11 c s y (iota .tc S1024x128 32 [1] iota_S1024x128_d1_w32) 64#32 (Scalar.cmpi .eq 64#32 0#32) : FVec Ideal S1024x128 .f32) (ix2 r d)
      = Row.rot (fun d => y (ix2 r d)) (fun d => c (ix2 r d)) (fun d => s (ix2 r d)) d * Ideal.ofBits .f32 0x3DB504F3#32 := by
  unfold Row.rot
  rw [← part]
  pointwise [k0_pay11]
  rfl

theorem turnK_at (c s y : FVec Ideal S1024x128 .f32) (r : Fin 1024) (d : Fin 128) :
    (k0_pay22 c s y : FVec Ideal S1024x128 .bf16) (ix2 r d) = Row.rot (fun d => y (ix2 r d)) (fun d => c (ix2 r d)) (fun d => s (ix2 r d)) d := by
  unfold Row.rot
  rw [← part]
  pointwise [k0_pay22]
  rfl

theorem same : k0_pay13 (F := Ideal) = k0_pay11 ∧ k0_pay15 (F := Ideal) = k0_pay11 ∧ k0_pay17 (F := Ideal) = k0_pay11 := ⟨rfl, rfl, rfl⟩

/-- The product by 512 columns, by 256 columns. -/
theorem cut_at (v : FVec Ideal S1024x1024 .bf16) (w : FVec Ideal S1024x512 .f32) (r : Fin 1024) (e : Fin 512) :
    (k0_pay49 v w : FVec Ideal S1024x512 .f32) (ix2 r e) = ∑ d : Fin 1024, v (ix2 r d) * w (ix2 d e) := by
  pointwise [k0_pay49]

theorem cutK_at (v : FVec Ideal S1024x1024 .bf16) (w : FVec Ideal S1024x256 .f32) (r : Fin 1024) (e : Fin 256) :
    (k0_pay18 v w : FVec Ideal S1024x256 .f32) (ix2 r e) = ∑ d : Fin 1024, v (ix2 r d) * w (ix2 d e) := by
  pointwise [k0_pay18]

theorem tok_at (x : FVec Ideal S1024x1024 .f32) (g : FVec Ideal S1x1024 .f32) (r d : Fin 1024) :
    (k0_pay6 x g : FVec Ideal S1024x1024 .bf16) (ix2 r d) = Row.norm (Ideal.ofBits .f32 0x44800000#32) (fun d => x (ix2 r d)) (fun d => g (ix2 0 d)) d := by
  pointwise [k0_pay6, Row.norm, Row.rinv]

theorem proj_at (x : FVec Ideal S1024x1024 .f32) (g : FVec Ideal S1x1024 .f32) (w : FVec Ideal S1024x512 .f32) (r : Fin 1024) (e : Fin 512) :
    (k0_pay49 (k0_pay6 x g) w : FVec Ideal S1024x512 .f32) (ix2 r e) = Row.proj (fun d => x (ix2 r d)) (fun d => g (ix2 0 d)) (fun d j => w (ix2 d j)) e := by
  rw [cut_at]
  simp only [tok_at, Row.proj]

theorem projK_at (x : FVec Ideal S1024x1024 .f32) (g : FVec Ideal S1x1024 .f32) (w : FVec Ideal S1024x256 .f32) (r : Fin 1024) (e : Fin 256) :
    (k0_pay18 (k0_pay6 x g) w : FVec Ideal S1024x256 .f32) (ix2 r e) = Row.proj (fun d => x (ix2 r d)) (fun d => g (ix2 0 d)) (fun d j => w (ix2 d j)) e := by
  rw [cutK_at]
  simp only [tok_at, Row.proj]

/-- The products are one: stated apart, step by step. -/
theorem sameP (x : FVec Ideal S1024x1024 .f32) (g : FVec Ideal S1x1024 .f32) (w : FVec Ideal S1024x512 .f32) :
    k0_pay9 (F := Ideal) x g w = k0_pay49 (F := Ideal) (k0_pay6 (F := Ideal) x g) w ∧ k0_pay37 (F := Ideal) = k0_pay49 ∧ k0_pay5 (F := Ideal) = k0_pay49 := ⟨rfl, rfl, rfl⟩

theorem sameV : k0_pay31 (F := Ideal) = k0_pay18 := rfl

/-- The four heads of the queries. -/
theorem norms_at (u : FVec Ideal S1024x512 .f32) (g : FVec Ideal S1x128 .f32) (r : Fin 1024) (d : Fin 128) :
    (k0_pay12 u g : FVec Ideal S1024x128 .f32) (ix2 r d) = Row.norm (Ideal.ofBits .f32 0x43000000#32) (fun d => u (ix2 r ⟨128 + d.val, by omega⟩)) (fun d => g (ix2 0 d)) d
    ∧ (k0_pay14 u g : FVec Ideal S1024x128 .f32) (ix2 r d) = Row.norm (Ideal.ofBits .f32 0x43000000#32) (fun d => u (ix2 r ⟨256 + d.val, by omega⟩)) (fun d => g (ix2 0 d)) d
    ∧ (k0_pay16 u g : FVec Ideal S1024x128 .f32) (ix2 r d) = Row.norm (Ideal.ofBits .f32 0x43000000#32) (fun d => u (ix2 r ⟨384 + d.val, by omega⟩)) (fun d => g (ix2 0 d)) d := by
  refine ⟨?_, ?_, ?_⟩ <;> pointwise [k0_pay12, k0_pay14, k0_pay16, Row.norm, Row.rinv]

theorem norm0_at (x : FVec Ideal S1024x1024 .f32) (a : FVec Ideal S1x1024 .f32) (w : FVec Ideal S1024x512 .f32) (g : FVec Ideal S1x128 .f32) (r : Fin 1024) (d : Fin 128) :
    (k0_pay10 x a w g : FVec Ideal S1024x128 .f32) (ix2 r d)
      = Row.norm (Ideal.ofBits .f32 0x43000000#32) (fun d => (k0_pay9 x a w : FVec Ideal S1024x512 .f32) (ix2 r ⟨d.val, by omega⟩)) (fun d => g (ix2 0 d)) d := by
  pointwise [k0_pay10, Row.norm, Row.rinv]

/-- The two heads of the keys. -/
theorem normK_at (u : FVec Ideal S1024x256 .f32) (g : FVec Ideal S1x128 .f32) (r : Fin 1024) (d : Fin 128) :
    (k0_pay21 u g : FVec Ideal S1024x128 .f32) (ix2 r d) = Row.norm (Ideal.ofBits .f32 0x43000000#32) (fun d => u (ix2 r ⟨128 + d.val, by omega⟩)) (fun d => g (ix2 0 d)) d := by
  pointwise [k0_pay21, Row.norm, Row.rinv]

/-- The first of them times the gain, before it is turned. -/
def key0 (v : FVec Ideal S1024x1024 .bf16) (w : FVec Ideal S1024x256 .f32) (g : FVec Ideal S1x128 .f32) : FVec Ideal S1024x128 .f32 :=
  mulf (k0_pay19 v w) (broadcastTo S1024x128 g broadcasts_S1x128_S1024x128)

theorem key0_at (v : FVec Ideal S1024x1024 .bf16) (w : FVec Ideal S1024x256 .f32) (g : FVec Ideal S1x128 .f32) (r : Fin 1024) (d : Fin 128) :
    key0 v w g (ix2 r d) = Row.norm (Ideal.ofBits .f32 0x43000000#32) (fun d => (k0_pay18 v w : FVec Ideal S1024x256 .f32) (ix2 r ⟨d.val, by omega⟩)) (fun d => g (ix2 0 d)) d := by
  pointwise [key0, k0_pay19, Row.norm, Row.rinv]

theorem turn0_eq (c s : FVec Ideal S1024x128 .f32) (v : FVec Ideal S1024x1024 .bf16) (w : FVec Ideal S1024x256 .f32) (g : FVec Ideal S1x128 .f32) :
    k0_pay20 c s g (k0_pay19 v w) = k0_pay22 c s (key0 v w g) := rfl

/-- A gate of the kernel: the sigmoid through powers of two. -/
theorem gate_at (v : FVec Ideal S1024x1024 .bf16) (w : FVec Ideal S1024x512 .f32) (l : FVec Ideal S1x512 .f32) (r : Fin 1024) (e : Fin 512) :
    (k0_pay26 l (k0_pay23 l) (k0_pay24 v w) k0_pay25 : FVec Ideal S1024x512 .f32) (ix2 r e) = Row.gate (∑ d : Fin 1024, v (ix2 r d) * w (ix2 d e)) (l (ix2 0 e)) := by
  unfold Row.gate
  rw [← Row.exp2_neg]
  pointwise [k0_pay26, k0_pay23, k0_pay24, k0_pay25]
  rfl

theorem sameG (v : FVec Ideal S1024x1024 .bf16) (w : FVec Ideal S1024x512 .f32) (l : FVec Ideal S1x512 .f32) :
    k0_pay44 v l (k0_pay42 l) (k0_pay43 w) (constant S1024x512 .f32 0x00000000#32) = k0_pay26 l (k0_pay23 l) (k0_pay24 v w) k0_pay25 := rfl

/-- The parts of 128 lanes of 512, each a plane. -/
theorem planes_at (u : FVec Ideal S1024x512 .f32) (r : Fin 1024) (d : Fin 128) :
    (k0_pay1 (extractStridedSlice S1024x128 ![0, 0] u slices_S1024x512_o0_0_S1024x128) : FVec Ideal S1x1024x128 .f32) (ix3 0 r d) = u (ix2 r ⟨d.val, by omega⟩)
    ∧ (k0_pay2 u : FVec Ideal S1x1024x128 .f32) (ix3 0 r d) = u (ix2 r ⟨128 + d.val, by omega⟩)
    ∧ (k0_pay3 u : FVec Ideal S1x1024x128 .f32) (ix3 0 r d) = u (ix2 r ⟨256 + d.val, by omega⟩)
    ∧ (k0_pay4 u : FVec Ideal S1x1024x128 .f32) (ix3 0 r d) = u (ix2 r ⟨384 + d.val, by omega⟩) := by
  refine ⟨?_, ?_, ?_, ?_⟩ <;> pointwise [k0_pay1, k0_pay2, k0_pay3, k0_pay4]

/-- The values' two blocks. -/
theorem vals_at (v : FVec Ideal S1024x1024 .bf16) (w : FVec Ideal S1024x256 .f32) (r : Fin 1024) (d : Fin 128) :
    (k0_pay32 v w : FVec Ideal S1024x128 .bf16) (ix2 r d) = (k0_pay18 v w : FVec Ideal S1024x256 .f32) (ix2 r ⟨d.val, by omega⟩)
    ∧ (k0_pay35 (k0_pay34 v w) : FVec Ideal S1024x128 .bf16) (ix2 r d) = (k0_pay18 v w : FVec Ideal S1024x256 .f32) (ix2 r ⟨128 + d.val, by omega⟩)
    ∧ (k0_pay33 : FVec Ideal S1024x128 .bf16) (ix2 r d) = 1 ∧ (k0_pay36 : FVec Ideal S1024x128 .bf16) (ix2 r d) = 1 := by
  rw [← sameV]
  refine ⟨?_, ?_, ?_, ?_⟩ <;> pointwise [k0_pay32, k0_pay34, k0_pay35, k0_pay33, k0_pay36]

end Attn.K4
-- ==== Proof.Ref4.lean ====
/- The results of the reference of the mixer's projections, read at an index. -/
module

public import proofs.«01_k».proof.Proof.Gen.Reference4Ideal.Run
public import proofs.«01_k».proof.Proof.Ref2
public import proofs.«01_k».proof.Proof.MixRow

@[expose] public section

noncomputable section

namespace Attn.Ref4

open Cert.Reference4Ideal Cert.Reference4Ideal.Gen Cert.Reference4Ideal.Value Idealize.ShloMosaic Idealize.ShloMosaic.TcCoe Idealize.SL.Sem Idealize.ShloMosaic.StableHlo

set_option maxRecDepth 16384

def proj (x : FVec Ideal S16384x1024 .f32) (g : FVec Ideal S1x1024 .f32) (w : FVec Ideal S1024x3584 .f32) : FVec Ideal S16384x3584 .f32 :=
  Host.dotGeneral dot_S16384x1024_S1024x3584_S16384x3584_1_0_0_1_n_n none (Ref2.normed x g) w

theorem proj_at (x : FVec Ideal S16384x1024 .f32) (g : FVec Ideal S1x1024 .f32) (w : FVec Ideal S1024x3584 .f32) (r : Fin 16384) (j : Fin 3584) :
    proj x g w (ix2 r j) = Row.proj (fun d => x (ix2 r d)) (fun d => g (ix2 0 d)) (fun d j => w (ix2 d j)) j := by
  have h : proj x g w (ix2 r j) = ∑ d : Fin 1024, Ref2.normed x g (ix2 r d) * w (ix2 d j) := by pointwise [proj]
  rw [h]
  simp only [Ref2.normed_at, Row.proj]

/-- A table of angles, the same for both sequences and each of 4 heads. -/
def tab4 (t : FVec Ideal S8192x32 .f32) : FVec Ideal S2x8192x4x32 .f32 :=
  broadcastInDim S2x8192x4x32 ![0, 1, 2, 3] bcast_S1x8192x1x32_S2x8192x4x32_0_1_2_3 (broadcastInDim S1x8192x1x32 ![1, 2, 3] bcast_S8192x1x32_S1x8192x1x32_1_2_3 (broadcastInDim S8192x1x32 ![0, 2] bcast_S8192x32_S8192x1x32_0_2 t))

def half4 (y : FVec Ideal S2x8192x4x64 .f32) (c s : FVec Ideal S8192x32 .f32) : FVec Ideal S2x8192x4x64 .f32 :=
  concatenate S2x8192x4x64 3 [⟨S2x8192x4x32, subf (mulf (extractStridedSlice S2x8192x4x32 ![0, 0, 0, 0] y slices_S2x8192x4x64_S2x8192x4x32_0_0_0_0) (tab4 c)) (mulf (extractStridedSlice S2x8192x4x32 ![0, 0, 0, 32] y slices_S2x8192x4x64_S2x8192x4x32_0_0_0_32) (tab4 s))⟩,
    ⟨S2x8192x4x32, addf (mulf (extractStridedSlice S2x8192x4x32 ![0, 0, 0, 32] y slices_S2x8192x4x64_S2x8192x4x32_0_0_0_32) (tab4 c)) (mulf (extractStridedSlice S2x8192x4x32 ![0, 0, 0, 0] y slices_S2x8192x4x64_S2x8192x4x32_0_0_0_0) (tab4 s))⟩] concatenates_S2x8192x4x32_S2x8192x4x32_S2x8192x4x64_d3

def turn4 (y : FVec Ideal S2x8192x4x128 .f32) (cr sr cc sc : FVec Ideal S8192x32 .f32) : FVec Ideal S2x8192x4x128 .f32 :=
  concatenate S2x8192x4x128 3 [⟨S2x8192x4x64, half4 (extractStridedSlice S2x8192x4x64 ![0, 0, 0, 0] y slices_S2x8192x4x128_S2x8192x4x64_0_0_0_0) cr sr⟩, ⟨S2x8192x4x64, half4 (extractStridedSlice S2x8192x4x64 ![0, 0, 0, 64] y slices_S2x8192x4x128_S2x8192x4x64_0_0_0_64) cc sc⟩] concatenates_S2x8192x4x64_S2x8192x4x64_S2x8192x4x128_d3

theorem half4_at (y : FVec Ideal S2x8192x4x64 .f32) (c s : FVec Ideal S8192x32 .f32) (b : Fin 2) (r : Fin 8192) (h : Fin 4) (d : Fin 64) :
    half4 y c s (ix4 b r h d) = Row.half (fun d => y (ix4 b r h d)) (fun i => c (ix2 r i)) (fun i => s (ix2 r i)) d := by
  pointwise [half4, tab4, Row.half]
  by_cases k : d.val < 32
  · simp only [k, dif_pos, Nat.add_comm 32]
  · simp only [k, dif_neg, not_false_eq_true, show 32 + (d.val - 32) = d.val by omega]

theorem turn4_at (y : FVec Ideal S2x8192x4x128 .f32) (cr sr cc sc : FVec Ideal S8192x32 .f32) (b : Fin 2) (r : Fin 8192) (h : Fin 4) (d : Fin 128) :
    turn4 y cr sr cc sc (ix4 b r h d) = Row.turn (fun d => y (ix4 b r h d)) (fun i => cr (ix2 r i)) (fun i => sr (ix2 r i)) (fun i => cc (ix2 r i)) (fun i => sc (ix2 r i)) d := by
  have lo : ∀ e : Fin 64, extractStridedSlice S2x8192x4x64 ![0, 0, 0, 0] y slices_S2x8192x4x128_S2x8192x4x64_0_0_0_0 (ix4 b r h e) = y (ix4 b r h ⟨e.val, by omega⟩) := fun e => by pointwise []
  have hi : ∀ e : Fin 64, extractStridedSlice S2x8192x4x64 ![0, 0, 0, 64] y slices_S2x8192x4x128_S2x8192x4x64_0_0_0_64 (ix4 b r h e) = y (ix4 b r h ⟨64 + e.val, by omega⟩) := fun e => by pointwise []
  pointwise [turn4, Row.turn]
  simp only [half4_at, lo, hi]

/-- A table of angles, the same for both sequences and each of 2 heads. -/
def tab2 (t : FVec Ideal S8192x32 .f32) : FVec Ideal S2x8192x2x32 .f32 :=
  broadcastInDim S2x8192x2x32 ![0, 1, 2, 3] bcast_S1x8192x1x32_S2x8192x2x32_0_1_2_3 (broadcastInDim S1x8192x1x32 ![1, 2, 3] bcast_S8192x1x32_S1x8192x1x32_1_2_3 (broadcastInDim S8192x1x32 ![0, 2] bcast_S8192x32_S8192x1x32_0_2 t))

def half2 (y : FVec Ideal S2x8192x2x64 .f32) (c s : FVec Ideal S8192x32 .f32) : FVec Ideal S2x8192x2x64 .f32 :=
  concatenate S2x8192x2x64 3 [⟨S2x8192x2x32, subf (mulf (extractStridedSlice S2x8192x2x32 ![0, 0, 0, 0] y slices_S2x8192x2x64_S2x8192x2x32_0_0_0_0) (tab2 c)) (mulf (extractStridedSlice S2x8192x2x32 ![0, 0, 0, 32] y slices_S2x8192x2x64_S2x8192x2x32_0_0_0_32) (tab2 s))⟩,
    ⟨S2x8192x2x32, addf (mulf (extractStridedSlice S2x8192x2x32 ![0, 0, 0, 32] y slices_S2x8192x2x64_S2x8192x2x32_0_0_0_32) (tab2 c)) (mulf (extractStridedSlice S2x8192x2x32 ![0, 0, 0, 0] y slices_S2x8192x2x64_S2x8192x2x32_0_0_0_0) (tab2 s))⟩] concatenates_S2x8192x2x32_S2x8192x2x32_S2x8192x2x64_d3

def turn2 (y : FVec Ideal S2x8192x2x128 .f32) (cr sr cc sc : FVec Ideal S8192x32 .f32) : FVec Ideal S2x8192x2x128 .f32 :=
  concatenate S2x8192x2x128 3 [⟨S2x8192x2x64, half2 (extractStridedSlice S2x8192x2x64 ![0, 0, 0, 0] y slices_S2x8192x2x128_S2x8192x2x64_0_0_0_0) cr sr⟩, ⟨S2x8192x2x64, half2 (extractStridedSlice S2x8192x2x64 ![0, 0, 0, 64] y slices_S2x8192x2x128_S2x8192x2x64_0_0_0_64) cc sc⟩] concatenates_S2x8192x2x64_S2x8192x2x64_S2x8192x2x128_d3

theorem half2_at (y : FVec Ideal S2x8192x2x64 .f32) (c s : FVec Ideal S8192x32 .f32) (b : Fin 2) (r : Fin 8192) (h : Fin 2) (d : Fin 64) :
    half2 y c s (ix4 b r h d) = Row.half (fun d => y (ix4 b r h d)) (fun i => c (ix2 r i)) (fun i => s (ix2 r i)) d := by
  pointwise [half2, tab2, Row.half]
  by_cases k : d.val < 32
  · simp only [k, dif_pos, Nat.add_comm 32]
  · simp only [k, dif_neg, not_false_eq_true, show 32 + (d.val - 32) = d.val by omega]

theorem turn2_at (y : FVec Ideal S2x8192x2x128 .f32) (cr sr cc sc : FVec Ideal S8192x32 .f32) (b : Fin 2) (r : Fin 8192) (h : Fin 2) (d : Fin 128) :
    turn2 y cr sr cc sc (ix4 b r h d) = Row.turn (fun d => y (ix4 b r h d)) (fun i => cr (ix2 r i)) (fun i => sr (ix2 r i)) (fun i => cc (ix2 r i)) (fun i => sc (ix2 r i)) d := by
  have lo : ∀ e : Fin 64, extractStridedSlice S2x8192x2x64 ![0, 0, 0, 0] y slices_S2x8192x2x128_S2x8192x2x64_0_0_0_0 (ix4 b r h e) = y (ix4 b r h ⟨e.val, by omega⟩) := fun e => by pointwise []
  have hi : ∀ e : Fin 64, extractStridedSlice S2x8192x2x64 ![0, 0, 0, 64] y slices_S2x8192x2x128_S2x8192x2x64_0_0_0_64 (ix4 b r h e) = y (ix4 b r h ⟨64 + e.val, by omega⟩) := fun e => by pointwise []
  pointwise [turn2, Row.turn]
  simp only [half2_at, lo, hi]

/-- The keys' heads over their root mean squares, times the gain. -/
def normed2 (x : FVec Ideal S2x8192x2x128 .f32) (g : FVec Ideal S1x128 .f32) : FVec Ideal S2x8192x2x128 .f32 :=
  mulf (mulf x (broadcastInDim S2x8192x2x128 ![0, 1, 2, 3] bcast_S2x8192x2x1_S2x8192x2x128_0_1_2_3 (Host.rsqrt (addf (Host.divf (broadcastInDim S2x8192x2x1 ![0, 1, 2] bcast_S2x8192x2_S2x8192x2x1_0_1_2 (Host.reduceAdd (mulf x x) (constant S_ .f32 0x00000000#32) reducesTo_S2x8192x2x128_S2x8192x2_d3 h_S_)) (broadcastInDim S2x8192x2x1 ![] bcast_S_S2x8192x2x1 (constant S_ .f32 0x43000000#32))) (broadcastInDim S2x8192x2x1 ![] bcast_S_S2x8192x2x1 (constant S_ .f32 0x358637BD#32))))))
    (broadcastInDim S2x8192x2x128 ![0, 1, 2, 3] bcast_S1x1x1x128_S2x8192x2x128_0_1_2_3 (broadcastInDim S1x1x1x128 ![3] bcast_S128_S1x1x1x128_3 (shapeCast _ g shapeCasts_S1x128_S128)))

theorem normed2_at (x : FVec Ideal S2x8192x2x128 .f32) (g : FVec Ideal S1x128 .f32) (b : Fin 2) (r : Fin 8192) (h : Fin 2) (d : Fin 128) :
    normed2 x g (ix4 b r h d) = Row.norm (Ideal.ofBits .f32 0x43000000#32) (fun d => x (ix4 b r h d)) (fun d => g (ix2 0 d)) d := by
  pointwise [normed2, Row.norm, Row.rinv]

def queries (p : FVec Ideal S16384x3584 .f32) (g : FVec Ideal S1x128 .f32) (cr sr cc sc : FVec Ideal S8192x32 .f32) : FVec Ideal S16384x512 .f32 :=
  shapeCast _ (mulf (turn4 (Ref2.normedH (shapeCast _ (extractStridedSlice S16384x512 ![0, 0] p slices_S16384x3584_S16384x512_0_0) shapeCasts_S16384x512_S2x8192x4x128) g) cr sr cc sc) (broadcastInDim S2x8192x4x128 ![] bcast_S_S2x8192x4x128 (constant S_ .f32 0x3DB504F3#32))) shapeCasts_S2x8192x4x128_S16384x512

def keys (p : FVec Ideal S16384x3584 .f32) (g : FVec Ideal S1x128 .f32) (cr sr cc sc : FVec Ideal S8192x32 .f32) : FVec Ideal S16384x256 .bf16 :=
  truncf .bf16 (shapeCast _ (turn2 (normed2 (shapeCast _ (extractStridedSlice S16384x256 ![0, 512] p slices_S16384x3584_S16384x256_0_512) shapeCasts_S16384x256_S2x8192x2x128) g) cr sr cc sc) shapeCasts_S2x8192x2x128_S16384x256) bitsLt_bf16_f32

/-- The position of a token in its sequence. -/
abbrev pos (r : Fin 16384) : Fin 8192 := ⟨r.val % 8192, by omega⟩

theorem queries_at (p : FVec Ideal S16384x3584 .f32) (g : FVec Ideal S1x128 .f32) (cr sr cc sc : FVec Ideal S8192x32 .f32) (r : Fin 16384) (j : Fin 512) :
    queries p g cr sr cc sc (ix2 r j) = Row.turned (fun j => p (ix2 r j)) (fun d => g (ix2 0 d)) (fun i => cr (ix2 (pos r) i)) (fun i => sr (ix2 (pos r) i))
      (fun i => cc (ix2 (pos r) i)) (fun i => sc (ix2 (pos r) i)) (j.val / 128 * 128) (by omega) ⟨j.val % 128, by omega⟩ * Ideal.ofBits .f32 0x3DB504F3#32 := by
  have hp : ∀ e : Fin 128, (shapeCast _ (extractStridedSlice S16384x512 ![0, 0] p slices_S16384x3584_S16384x512_0_0) shapeCasts_S16384x512_S2x8192x4x128 : FVec Ideal S2x8192x4x128 .f32)
      (ix4 ⟨r.val / 8192, by omega⟩ (pos r) ⟨j.val / 128, by omega⟩ e) = p (ix2 r ⟨j.val / 128 * 128 + e.val, by omega⟩) := fun e => by
    pointwise []
    simp only [show r.val / 8192 * 8192 + r.val % 8192 = r.val by omega]
  pointwise [queries, Row.turned]
  simp only [turn4_at, Ref2.normedH_at, hp]

theorem keys_at (p : FVec Ideal S16384x3584 .f32) (g : FVec Ideal S1x128 .f32) (cr sr cc sc : FVec Ideal S8192x32 .f32) (r : Fin 16384) (j : Fin 256) :
    keys p g cr sr cc sc (ix2 r j) = Row.turned (fun j => p (ix2 r j)) (fun d => g (ix2 0 d)) (fun i => cr (ix2 (pos r) i)) (fun i => sr (ix2 (pos r) i))
      (fun i => cc (ix2 (pos r) i)) (fun i => sc (ix2 (pos r) i)) (512 + j.val / 128 * 128) (by omega) ⟨j.val % 128, by omega⟩ := by
  have hp : ∀ e : Fin 128, (shapeCast _ (extractStridedSlice S16384x256 ![0, 512] p slices_S16384x3584_S16384x256_0_512) shapeCasts_S16384x256_S2x8192x2x128 : FVec Ideal S2x8192x2x128 .f32)
      (ix4 ⟨r.val / 8192, by omega⟩ (pos r) ⟨j.val / 128, by omega⟩ e) = p (ix2 r ⟨512 + j.val / 128 * 128 + e.val, by omega⟩) := fun e => by
    pointwise []
    simp only [show r.val / 8192 * 8192 + r.val % 8192 = r.val by omega, Nat.add_assoc]
  pointwise [keys, Row.turned]
  simp only [turn2_at, normed2_at, hp]

def values (p : FVec Ideal S16384x3584 .f32) : FVec Ideal S16384x512 .bf16 :=
  truncf .bf16 (concatenate S16384x512 1 [⟨S16384x128, extractStridedSlice S16384x128 ![0, 0] (extractStridedSlice S16384x256 ![0, 768] p slices_S16384x3584_S16384x256_0_768) slices_S16384x256_S16384x128_0_0⟩, ⟨S16384x128, broadcastInDim S16384x128 ![] bcast_S_S16384x128 (constant S_ .f32 0x3F800000#32)⟩,
    ⟨S16384x128, extractStridedSlice S16384x128 ![0, 128] (extractStridedSlice S16384x256 ![0, 768] p slices_S16384x3584_S16384x256_0_768) slices_S16384x256_S16384x128_0_128⟩, ⟨S16384x128, broadcastInDim S16384x128 ![] bcast_S_S16384x128 (constant S_ .f32 0x3F800000#32)⟩] concatenates_S16384x128_S16384x128_S16384x128_S16384x128_S16384x512_d1 : FVec Ideal S16384x512 .f32) bitsLt_bf16_f32

theorem values_at (p : FVec Ideal S16384x3584 .f32) (r : Fin 16384) (j : Fin 512) : values p (ix2 r j) = Row.vals (fun j => p (ix2 r j)) j := by
  have hj := j.isLt
  have hf : ∀ (i : ℕ) (hi : i < 3584) (k : ℕ) (hk : k < 3584), i = k → p (ix2 r ⟨i, hi⟩) = p (ix2 r ⟨k, hk⟩) := fun i hi k hk h => by subst h; rfl
  pointwise [values, Row.vals]
  by_cases q : j.val % 256 < 128
  · rw [if_pos q]
    split_ifs <;> first | (refine hf _ _ _ _ ?_; omega) | (exfalso; omega)
  · rw [if_neg q]
    split_ifs <;> first | rfl | (exfalso; omega)

/-- The rows of 512 lanes, head by head. -/
def byHead (z : FVec Ideal S16384x512 .f32) : FVec Ideal S4x16384x128 .f32 :=
  transpose S4x16384x128 [1, 0, 2] (shapeCast _ z shapeCasts_S16384x512_S16384x4x128) transposes_S16384x4x128_S4x16384x128_1_0_2

theorem byHead_at (z : FVec Ideal S16384x512 .f32) (h : Fin 4) (r : Fin 16384) (d : Fin 128) : byHead z (ix3 h r d) = z (ix2 r ⟨h.val * 128 + d.val, by omega⟩) := by
  pointwise [byHead]

def logGate (z : FVec Ideal S16384x512 .f32) (l : FVec Ideal S512 .f32) : FVec Ideal S16384x512 .f32 :=
  mulf (Host.log (addf (broadcastInDim S16384x512 ![0, 1] bcast_S1x512_S16384x512_0_1 (broadcastInDim S1x512 ![1] bcast_S512_S1x512_1 l)) (mulf (broadcastInDim S16384x512 ![0, 1] bcast_S1x512_S16384x512_0_1 (broadcastInDim S1x512 ![1] bcast_S512_S1x512_1 (subf (broadcastInDim S512 ![] bcast_S_S512 (constant S_ .f32 0x3F800000#32)) l))) (Host.divf (broadcastInDim S16384x512 ![] bcast_S_S16384x512 (constant S_ .f32 0x3F800000#32)) (addf (broadcastInDim S16384x512 ![] bcast_S_S16384x512 (constant S_ .f32 0x3F800000#32)) (Host.exp (Host.negf z))))))) (broadcastInDim S16384x512 ![] bcast_S_S16384x512 (constant S_ .f32 0x3FB8AA3B#32))

theorem logGate_at (z : FVec Ideal S16384x512 .f32) (l : FVec Ideal S512 .f32) (r : Fin 16384) (j : Fin 512) :
    logGate z l (ix2 r j) = Row.gate (z (ix2 r j)) (l (ix1 j)) := by
  pointwise [logGate, Row.gate]

/-- The parts of the projection of 512 lanes. -/
def part0 (p : FVec Ideal S16384x3584 .f32) : FVec Ideal S16384x512 .f32 := extractStridedSlice S16384x512 ![0, 1024] p slices_S16384x3584_S16384x512_0_1024
def part1 (p : FVec Ideal S16384x3584 .f32) : FVec Ideal S16384x512 .f32 := extractStridedSlice S16384x512 ![0, 1536] p slices_S16384x3584_S16384x512_0_1536
def part2 (p : FVec Ideal S16384x3584 .f32) : FVec Ideal S16384x512 .f32 := extractStridedSlice S16384x512 ![0, 2048] p slices_S16384x3584_S16384x512_0_2048
def part3 (p : FVec Ideal S16384x3584 .f32) : FVec Ideal S16384x512 .f32 := extractStridedSlice S16384x512 ![0, 2560] p slices_S16384x3584_S16384x512_0_2560
def part4 (p : FVec Ideal S16384x3584 .f32) : FVec Ideal S16384x512 .f32 := extractStridedSlice S16384x512 ![0, 3072] p slices_S16384x3584_S16384x512_0_3072

theorem part_at (p : FVec Ideal S16384x3584 .f32) (r : Fin 16384) (j : Fin 512) :
    part0 p (ix2 r j) = p (ix2 r ⟨1024 + j.val, by omega⟩) ∧ part1 p (ix2 r j) = p (ix2 r ⟨1536 + j.val, by omega⟩) ∧ part2 p (ix2 r j) = p (ix2 r ⟨2048 + j.val, by omega⟩)
      ∧ part3 p (ix2 r j) = p (ix2 r ⟨2560 + j.val, by omega⟩) ∧ part4 p (ix2 r j) = p (ix2 r ⟨3072 + j.val, by omega⟩) := by
  refine ⟨?_, ?_, ?_, ?_, ?_⟩ <;> pointwise [part0, part1, part2, part3, part4]

def bound0 (l : FVec Ideal S2x512 .f32) : FVec Ideal S512 .f32 := shapeCast _ (extractStridedSlice S1x512 ![0, 0] l slices_S2x512_S1x512_0_0) shapeCasts_S1x512_S512
def bound1 (l : FVec Ideal S2x512 .f32) : FVec Ideal S512 .f32 := shapeCast _ (extractStridedSlice S1x512 ![1, 0] l slices_S2x512_S1x512_1_0) shapeCasts_S1x512_S512

theorem bound_at (l : FVec Ideal S2x512 .f32) (j : Fin 512) : bound0 l (ix1 j) = l (ix2 0 j) ∧ bound1 l (ix1 j) = l (ix2 1 j) := by
  refine ⟨?_, ?_⟩ <;> pointwise [bound0, bound1]

end Attn.Ref4
-- ==== Proof.Value4.lean ====
/- The results of the mixer's projections, whole: the kernel's blocks put together are the reference's results of the same arrays. -/
module

public import proofs.«01_k».proof.Proof.Gen.Kernel4Ideal.Value
public import proofs.«01_k».proof.Proof.K4Val
public import proofs.«01_k».proof.Proof.Ref4
public import Idealize.ShloMosaic.Lib.Pipeline.ValueKit.Geometry
public import Idealize.ShloMosaic.Lib.Pipeline.ValueKit.Acc
public import Idealize.ShloMosaic.Lib.Pipeline.ValueKit.Tiles

@[expose] public section

noncomputable section

namespace Attn.K4

open Cert.Kernel4Ideal Cert.Kernel4Ideal.Gen Idealize.ShloMosaic Idealize.ShloMosaic.TcCoe

set_option maxRecDepth 16384

/-- The columns of the weights from `o` on. -/
theorem ldW (w : Vec Ideal S1024x3584 .f32) (d : Fin 1024) (e : Fin 512) :
    (View.ld w r0_3 : Vec Ideal S1024x512 .f32) (ix2 d e) = w (ix2 d ⟨e.val, by omega⟩)
    ∧ (View.ld w r0_19 : Vec Ideal S1024x512 .f32) (ix2 d e) = w (ix2 d ⟨1024 + e.val, by omega⟩)
    ∧ (View.ld w r0_13 : Vec Ideal S1024x512 .f32) (ix2 d e) = w (ix2 d ⟨1536 + e.val, by omega⟩)
    ∧ (View.ld w r0_21 : Vec Ideal S1024x512 .f32) (ix2 d e) = w (ix2 d ⟨2048 + e.val, by omega⟩)
    ∧ (View.ld w r0_22 : Vec Ideal S1024x512 .f32) (ix2 d e) = w (ix2 d ⟨2560 + e.val, by omega⟩)
    ∧ (View.ld w r0_23 : Vec Ideal S1024x512 .f32) (ix2 d e) = w (ix2 d ⟨3072 + e.val, by omega⟩) := by
  refine ⟨congrArg w ?_, congrArg w ?_, congrArg w ?_, congrArg w ?_, congrArg w ?_, congrArg w ?_⟩ <;> blk_ext [] <;> simp [LoadRect.idx, Rect.unit]

theorem ldK (w : Vec Ideal S1024x3584 .f32) (d : Fin 1024) (e : Fin 256) :
    (View.ld w r0_9 : Vec Ideal S1024x256 .f32) (ix2 d e) = w (ix2 d ⟨512 + e.val, by omega⟩)
    ∧ (View.ld w r0_18 : Vec Ideal S1024x256 .f32) (ix2 d e) = w (ix2 d ⟨768 + e.val, by omega⟩) := by
  refine ⟨congrArg w ?_, congrArg w ?_⟩ <;> blk_ext [] <;> simp [LoadRect.idx, Rect.unit]

theorem ldL (l : Vec Ideal S2x512 .f32) (e : Fin 512) :
    (View.ld l r0_12 : Vec Ideal S1x512 .f32) (ix2 0 e) = l (ix2 0 e) ∧ (View.ld l r0_20 : Vec Ideal S1x512 .f32) (ix2 0 e) = l (ix2 1 e) := by
  refine ⟨congrArg l ?_, congrArg l ?_⟩ <;> blk_ext [] <;> simp [LoadRect.idx, Rect.unit]

variable (x0 : Vec Ideal S1024x1024 .f32) (x1 : Vec Ideal S1x1024 .f32) (x2 : Vec Ideal S1024x3584 .f32) (x3 x4 : Vec Ideal S1x128 .f32) (x5 : Vec Ideal S2x512 .f32)
  (x6 x7 : Vec Ideal S1024x128 .f32) (r : Fin 1024)

/-- The projection of row `r` of a block. -/
abbrev prj (j : Fin 3584) : EReal := Row.proj (fun d => x0 (ix2 r d)) (fun d => x1 (ix2 0 d)) (fun d j => x2 (ix2 d j)) j

theorem tabs_at (t : Vec Ideal S1024x128 .f32) (d : Fin 128) : (k0_pay7 t : FVec Ideal S1024x128 .f32) (ix2 r d) = t (ix2 r d) ∧ (k0_pay8 t : FVec Ideal S1024x128 .f32) (ix2 r d) = t (ix2 r d) := by
  refine ⟨?_, ?_⟩ <;> pointwise [k0_pay7, k0_pay8]

/-- The queries' columns, and the keys'. -/
theorem colsQ (e : Fin 512) : (k0_pay9 x0 x1 (View.ld x2 r0_3) : FVec Ideal S1024x512 .f32) (ix2 r e) = prj x0 x1 x2 r ⟨e.val, by omega⟩ :=
  (proj_at x0 x1 (View.ld x2 r0_3) r e).trans (Finset.sum_congr rfl fun d _ => congrArg _ (ldW x2 d e).1)

theorem colsK (e : Fin 256) : (k0_pay18 (k0_pay6 x0 x1) (View.ld x2 r0_9) : FVec Ideal S1024x256 .f32) (ix2 r e) = prj x0 x1 x2 r ⟨512 + e.val, by omega⟩ :=
  (projK_at x0 x1 (View.ld x2 r0_9) r e).trans (Finset.sum_congr rfl fun d _ => congrArg _ (ldK x2 d e).1)

theorem colsV (e : Fin 256) : (k0_pay18 (k0_pay6 x0 x1) (View.ld x2 r0_18) : FVec Ideal S1024x256 .f32) (ix2 r e) = prj x0 x1 x2 r ⟨768 + e.val, by omega⟩ :=
  (projK_at x0 x1 (View.ld x2 r0_18) r e).trans (Finset.sum_congr rfl fun d _ => congrArg _ (ldK x2 d e).2)

/-- A head turned, from its normalised row. -/
abbrev headAt (p : Fin 3584 → EReal) (g : Fin 128 → EReal) (c s : Fin 128 → EReal) (o : ℕ) (ho : o ≤ 3456) (d : Fin 128) : EReal :=
  Row.rot (Row.norm (Ideal.ofBits .f32 0x43000000#32) (fun e => p ⟨o + e.val, by omega⟩) g) c s d

theorem headAt_at (p : Fin 3584 → EReal) (g c s : Fin 128 → EReal) (o o' : ℕ) (ho : o ≤ 3456) (ho' : o' ≤ 3456) (d d' : Fin 128) (h : o = o') (hd : d.val = d'.val) :
    headAt p g c s o ho d = headAt p g c s o' ho' d' := by
  subst h; rw [Fin.ext hd]

theorem pieceQ (y : FVec Ideal S1024x128 .f32) (o : ℕ) (ho : o % 128 = 0) (hy : ∀ (d : Fin 128) (ho : o ≤ 3456), y (ix2 r d) = Row.norm (Ideal.ofBits .f32 0x43000000#32) (fun e => prj x0 x1 x2 r ⟨o + e.val, by omega⟩) (fun d => x3 (ix2 0 d)) d)
    (j : Fin 512) (d : Fin 128) (hj : j.val = o + d.val) : (k0_pay11 (k0_pay7 x6) (k0_pay8 x7) y (iota .tc S1024x128 32 [1] iota_S1024x128_d1_w32) 64#32 (Scalar.cmpi .eq 64#32 0#32) : FVec Ideal S1024x128 .f32) (ix2 r d)
      = headAt (prj x0 x1 x2 r) (fun d => x3 (ix2 0 d)) (fun d => x6 (ix2 r d)) (fun d => x7 (ix2 r d)) (j.val / 128 * 128) (by omega) ⟨j.val % 128, by omega⟩ * Ideal.ofBits .f32 0x3DB504F3#32 := by
  rw [turn_at, headAt_at _ _ _ _ (j.val / 128 * 128) o _ (by omega) _ d (by omega) (by simp only []; omega)]
  simp only [fun d => hy d (by omega), (tabs_at r x6 _).1, (tabs_at r x7 _).2]

theorem out8_at (j : Fin 512) : out0_8 x0 x1 x2 x3 x4 x5 x6 x7 (ix2 r j)
    = headAt (prj x0 x1 x2 r) (fun d => x3 (ix2 0 d)) (fun d => x6 (ix2 r d)) (fun d => x7 (ix2 r d)) (j.val / 128 * 128) (by omega) ⟨j.val % 128, by omega⟩ * Ideal.ofBits .f32 0x3DB504F3#32 := by
  unfold_out out0_8
  frame_out
  rw [same.1, same.2.1, same.2.2]
  canon_tiles x h using cover0_8 ..
  all_goals
    obtain ⟨r', d, rfl⟩ : ∃ (r' : Fin 1024) (d : Fin 128), x = (ix2 r' d : S1024x128.Idx) := ⟨x 0, x 1, funext fun a => by match a with | 0 | 1 => rfl⟩
    obtain rfl : r = r' := Fin.ext h0
  · exact pieceQ _ _ _ _ _ _ _ _ 384 (by decide) (fun d _ => by rw [(norms_at _ x3 r d).2.2]; simp only [colsQ]) j d h1
  · exact pieceQ _ _ _ _ _ _ _ _ 256 (by decide) (fun d _ => by rw [(norms_at _ x3 r d).2.1]; simp only [colsQ]) j d h1
  · exact pieceQ _ _ _ _ _ _ _ _ 128 (by decide) (fun d _ => by rw [(norms_at _ x3 r d).1]; simp only [colsQ]) j d h1
  · exact pieceQ _ _ _ _ _ _ _ _ 0 (by decide) (fun d _ => by rw [norm0_at]; simp only [colsQ, Nat.zero_add]) j d (h1.trans (Nat.zero_add _).symm)

theorem pieceK (y : FVec Ideal S1024x128 .f32) (o : ℕ) (ho : o % 128 = 0) (hy : ∀ (d : Fin 128) (ho : o ≤ 128), y (ix2 r d) = Row.norm (Ideal.ofBits .f32 0x43000000#32) (fun e => prj x0 x1 x2 r ⟨512 + o + e.val, by omega⟩) (fun d => x4 (ix2 0 d)) d)
    (j : Fin 256) (d : Fin 128) (hj : j.val = o + d.val) : (k0_pay22 (k0_pay7 x6) (k0_pay8 x7) y : FVec Ideal S1024x128 .bf16) (ix2 r d)
      = headAt (prj x0 x1 x2 r) (fun d => x4 (ix2 0 d)) (fun d => x6 (ix2 r d)) (fun d => x7 (ix2 r d)) (512 + j.val / 128 * 128) (by omega) ⟨j.val % 128, by omega⟩ := by
  rw [turnK_at, headAt_at _ _ _ _ (512 + j.val / 128 * 128) (512 + o) _ (by omega) _ d (by omega) (by simp only []; omega)]
  simp only [fun d => hy d (by omega), (tabs_at r x6 _).1, (tabs_at r x7 _).2]

theorem out9_at (j : Fin 256) : out0_9 x0 x1 x2 x3 x4 x5 x6 x7 (ix2 r j)
    = headAt (prj x0 x1 x2 r) (fun d => x4 (ix2 0 d)) (fun d => x6 (ix2 r d)) (fun d => x7 (ix2 r d)) (512 + j.val / 128 * 128) (by omega) ⟨j.val % 128, by omega⟩ := by
  unfold_out out0_9
  frame_out
  rw [turn0_eq]
  canon_tiles x h using cover0_9 ..
  all_goals
    obtain ⟨r', d, rfl⟩ : ∃ (r' : Fin 1024) (d : Fin 128), x = (ix2 r' d : S1024x128.Idx) := ⟨x 0, x 1, funext fun a => by match a with | 0 | 1 => rfl⟩
    obtain rfl : r = r' := Fin.ext h0
  · exact pieceK _ _ _ _ _ _ _ _ 128 (by decide) (fun d _ => by rw [normK_at]; simp only [colsK, ← Nat.add_assoc]) j d h1
  · exact pieceK _ _ _ _ _ _ _ _ 0 (by decide) (fun d _ => by rw [key0_at]; simp only [colsK, Nat.add_zero]) j d (h1.trans (Nat.zero_add _).symm)

theorem vals_eq (p : Fin 3584 → EReal) (j : Fin 512) (d : Fin 128) :
    (∀ k, k < 2 → j.val = 256 * k + d.val → ∀ h, p ⟨768 + (128 * k + d.val), h⟩ = Row.vals p j) ∧ (∀ k, j.val = 256 * k + 128 + d.val → 1 = Row.vals p j) := by
  refine ⟨fun k hk e h => ?_, fun k e => ?_⟩
  · rw [Row.vals, if_pos (by omega)]
    exact congrArg p (Fin.ext (by simp only []; omega))
  · rw [Row.vals, if_neg (by omega)]

theorem out10_at (j : Fin 512) : out0_10 x0 x1 x2 x3 x4 x5 x6 x7 (ix2 r j) = Row.vals (prj x0 x1 x2 r) j := by
  unfold_out out0_10
  frame_out
  canon_tiles x h using cover0_10 ..
  all_goals
    obtain ⟨r', d, rfl⟩ : ∃ (r' : Fin 1024) (d : Fin 128), x = (ix2 r' d : S1024x128.Idx) := ⟨x 0, x 1, funext fun a => by match a with | 0 | 1 => rfl⟩
    obtain rfl : r = r' := Fin.ext h0
    obtain ⟨v0, v1, v2, v3⟩ := vals_at (k0_pay6 x0 x1) (View.ld x2 r0_18) r d
  · exact v3.trans ((vals_eq _ j d).2 1 h1)
  · exact v1.trans ((colsV x0 x1 x2 r _).trans ((vals_eq _ j d).1 1 (by decide) h1 _))
  · exact v2.trans ((vals_eq _ j d).2 0 h1)
  · refine v0.trans ((colsV x0 x1 x2 r _).trans (Eq.trans ?_ ((vals_eq _ j d).1 0 (by decide) (h1.trans (Nat.zero_add _).symm) (by omega))))
    simp only [Nat.mul_zero, Nat.zero_add]

/-- Four parts of 128 lanes stored plane by plane. -/
theorem planes (u : FVec Ideal S1024x512 .f32) (h : Fin 4) (d : Fin 128) :
    (View.canon [⟨r0_17, k0_pay4 u⟩, ⟨r0_16, k0_pay3 u⟩, ⟨r0_15, k0_pay2 u⟩, ⟨r0_14, k0_pay1 (extractStridedSlice S1024x128 ![0, 0] u slices_S1024x512_o0_0_S1024x128)⟩] : Vec Ideal S4x1024x128 .f32) (ix3 h r d)
      = u (ix2 r ⟨h.val * 128 + d.val, by omega⟩) := by
  have hf : ∀ (i k : Fin 512), i.val = k.val → u (ix2 r i) = u (ix2 r k) := fun i k h => by rw [Fin.ext h]
  canon_tiles x q using cover0_11 ..
  all_goals
    obtain ⟨r', d', rfl⟩ : ∃ (r' : Fin 1024) (d' : Fin 128), x = (ix3 0 r' d' : S1x1024x128.Idx) := ⟨x 1, x 2, funext fun a => by
      match a with
      | 0 => exact Fin.ext (Nat.lt_one_iff.mp x0_lt)
      | 1 | 2 => rfl⟩
    obtain rfl : r = r' := Fin.ext q1
    obtain rfl : d = d' := Fin.ext q2
    obtain ⟨p0, p1, p2, p3⟩ := planes_at u r d
  · have e : h.val = 3 := q0
    exact p3.trans (hf _ _ (by simp only [e]))
  · have e : h.val = 2 := q0
    exact p2.trans (hf _ _ (by simp only [e]))
  · have e : h.val = 1 := q0
    exact p1.trans (hf _ _ (by simp only [e]))
  · have e : h.val = 0 := q0
    exact p0.trans (hf _ _ (by simp only [e]; omega))

theorem out11_at (h : Fin 4) (d : Fin 128) : out0_11 x0 x1 x2 x3 x4 x5 x6 x7 (ix3 h r d) = prj x0 x1 x2 r ⟨1024 + (h.val * 128 + d.val), by omega⟩ := by
  unfold_out out0_11
  frame_out
  exact (planes r (k0_pay49 (k0_pay6 x0 x1) (View.ld x2 r0_19)) h d).trans ((proj_at x0 x1 (View.ld x2 r0_19) r _).trans (Finset.sum_congr rfl fun d _ => congrArg _ (ldW x2 d _).2.1))

theorem out14_at (h : Fin 4) (d : Fin 128) : out0_14 x0 x1 x2 x3 x4 x5 x6 x7 (ix3 h r d) = prj x0 x1 x2 r ⟨2560 + (h.val * 128 + d.val), by omega⟩ := by
  unfold_out out0_14
  frame_out
  exact (planes r (k0_pay49 (k0_pay6 x0 x1) (View.ld x2 r0_22)) h d).trans ((proj_at x0 x1 (View.ld x2 r0_22) r _).trans (Finset.sum_congr rfl fun d _ => congrArg _ (ldW x2 d _).2.2.2.2.1))

/-- A gate's block from its columns and its row of lower bounds. -/
theorem gates (w : FVec Ideal S1024x512 .f32) (l : FVec Ideal S1x512 .f32) (e : Fin 512) :
    (k0_pay26 l (k0_pay23 l) (k0_pay24 (k0_pay6 x0 x1) w) k0_pay25 : FVec Ideal S1024x512 .f32) (ix2 r e)
      = Row.gate (Row.proj (fun d => x0 (ix2 r d)) (fun d => x1 (ix2 0 d)) (fun d j => w (ix2 d j)) e) (l (ix2 0 e)) := by
  rw [gate_at]
  simp only [tok_at, Row.proj]

theorem out12_at (h : Fin 4) (d : Fin 128) : out0_12 x0 x1 x2 x3 x4 x5 x6 x7 (ix3 h r d)
    = Row.gate (prj x0 x1 x2 r ⟨1536 + (h.val * 128 + d.val), by omega⟩) (x5 (ix2 0 ⟨h.val * 128 + d.val, by omega⟩)) := by
  unfold_out out0_12
  frame_out
  refine (planes r (k0_pay26 (View.ld x5 r0_12) (k0_pay23 (View.ld x5 r0_12)) (k0_pay24 (k0_pay6 x0 x1) (View.ld x2 r0_13)) k0_pay25) h d).trans ((gates x0 x1 r _ _ _).trans ?_)
  exact congrArg₂ Row.gate (Finset.sum_congr rfl fun d _ => congrArg _ (ldW x2 d _).2.2.1) (ldL x5 _).1

theorem out13_at (h : Fin 4) (d : Fin 128) : out0_13 x0 x1 x2 x3 x4 x5 x6 x7 (ix3 h r d)
    = Row.gate (prj x0 x1 x2 r ⟨2048 + (h.val * 128 + d.val), by omega⟩) (x5 (ix2 1 ⟨h.val * 128 + d.val, by omega⟩)) := by
  unfold_out out0_13
  frame_out
  refine (planes r (k0_pay26 (View.ld x5 r0_20) (k0_pay23 (View.ld x5 r0_20)) (k0_pay24 (k0_pay6 x0 x1) (View.ld x2 r0_21)) k0_pay25) h d).trans ((gates x0 x1 r _ _ _).trans ?_)
  exact congrArg₂ Row.gate (Finset.sum_congr rfl fun d _ => congrArg _ (ldW x2 d _).2.2.2.1) (ldL x5 _).2

theorem out15_at (j : Fin 512) : out0_15 x0 x1 x2 x3 x4 x5 x6 x7 (ix2 r j) = prj x0 x1 x2 r ⟨3072 + j.val, by omega⟩ := by
  unfold_out out0_15
  frame_out
  rw [(sameP x0 x1 0).2.2]
  exact (proj_at x0 x1 (View.ld x2 r0_23) r j).trans (Finset.sum_congr rfl fun d _ => congrArg _ (ldW x2 d j).2.2.2.2.2)

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val % 8, 0] := (by decide +kernel : ∀ t : Fin grid0.N, _)
theorem idx7 : ∀ t : Fin cfg0.N, win0_7.index t = ![t.val % 8, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![0, t.val, 0] := (by decide +kernel : ∀ t : Fin grid0.N, _)
theorem idx12 : ∀ t : Fin cfg0.N, win0_12.index t = ![0, t.val, 0] := (by decide +kernel : ∀ t : Fin grid0.N, _)
theorem idx13 : ∀ t : Fin cfg0.N, win0_13.index t = ![0, t.val, 0] := (by decide +kernel : ∀ t : Fin grid0.N, _)
theorem idx14 : ∀ t : Fin cfg0.N, win0_14.index t = ![0, t.val, 0] := (by decide +kernel : ∀ t : Fin grid0.N, _)
theorem idx15 : ∀ t : Fin cfg0.N, win0_15.index t = ![t.val, 0] := (by decide +kernel : ∀ t : Fin grid0.N, _)
theorem covers8 : (cfg0.win 8).Covers := by decide +kernel
theorem covers9 : (cfg0.win 9).Covers := by decide +kernel
theorem covers10 : (cfg0.win 10).Covers := by decide +kernel
theorem covers11 : (cfg0.win 11).Covers := by decide +kernel
theorem covers12 : (cfg0.win 12).Covers := by decide +kernel
theorem covers13 : (cfg0.win 13).Covers := by decide +kernel
theorem covers14 : (cfg0.win 14).Covers := by decide +kernel
theorem covers15 : (cfg0.win 15).Covers := by decide +kernel

theorem t_lt (t : Fin cfg0.N) : t.val < 16 := t.isLt

/-- The token of row `r` of the block of point `t`. -/
abbrev tok (t : Fin cfg0.N) (r : Fin 1024) : Fin 16384 := ⟨t.val * 1024 + r.val, by have := t_lt t; omega⟩

/-- The position of that token in its sequence. -/
abbrev row (t : Fin cfg0.N) (r : Fin 1024) : Fin 8192 := ⟨t.val % 8 * 1024 + r.val, by omega⟩

theorem pos_tok (t : Fin cfg0.N) (r : Fin 1024) : Ref4.pos (tok t r) = row t r := Fin.ext (by simp only []; omega)

/-- The arrays as launched. -/
abbrev a0 : FVec Ideal S16384x1024 .f32 := m ((c.tc : Thread nD τ).loc main_arg0)
abbrev a1 : FVec Ideal S1x1024 .f32 := m ((c.tc : Thread nD τ).loc main_arg1)
abbrev a2 : FVec Ideal S1024x3584 .f32 := m ((c.tc : Thread nD τ).loc main_arg2)
abbrev a3 : FVec Ideal S1x128 .f32 := m ((c.tc : Thread nD τ).loc main_arg3)
abbrev a4 : FVec Ideal S1x128 .f32 := m ((c.tc : Thread nD τ).loc main_arg4)
abbrev a5 : FVec Ideal S2x512 .f32 := m ((c.tc : Thread nD τ).loc main_arg5)
abbrev a6 : FVec Ideal S8192x32 .f32 := m ((c.tc : Thread nD τ).loc main_arg6)
abbrev a7 : FVec Ideal S8192x32 .f32 := m ((c.tc : Thread nD τ).loc main_arg7)
abbrev a8 : FVec Ideal S8192x32 .f32 := m ((c.tc : Thread nD τ).loc main_arg8)
abbrev a9 : FVec Ideal S8192x32 .f32 := m ((c.tc : Thread nD τ).loc main_arg9)

/-- Four tables side by side, as the kernel is given them. -/
def packed (p q u v : FVec Ideal S8192x32 .f32) : FVec Ideal S8192x128 .f32 :=
  concatenate S8192x128 1 [⟨S8192x32, p⟩, ⟨S8192x32, q⟩, ⟨S8192x32, u⟩, ⟨S8192x32, v⟩] concatenates_S8192x32_S8192x32_S8192x32_S8192x32_S8192x128_d1

theorem packed_at (p q u v : FVec Ideal S8192x32 .f32) (r : Fin 8192) (d : Fin 128) :
    packed p q u v (ix2 r d) = Row.pack (fun i => p (ix2 r i)) (fun i => q (ix2 r i)) (fun i => u (ix2 r i)) (fun i => v (ix2 r i)) d := by
  have hd := d.isLt
  pointwise [packed, Row.pack]
  by_cases k1 : d.val < 32
  · simp only [k1, dif_pos]
  by_cases k2 : d.val < 64
  · simp only [k1, k2, show d.val - 32 < 32 by omega, dif_pos, dif_neg, not_false_eq_true]
  by_cases k3 : d.val < 96
  · simp only [k1, k2, k3, show ¬ d.val - 32 < 32 by omega, dif_pos, dif_neg, not_false_eq_true, show d.val - 32 - 32 = d.val - 64 by omega, show d.val - 64 < 32 by omega]
  · simp only [k1, k2, k3, show ¬ d.val - 32 < 32 by omega, show ¬ d.val - 32 - 32 < 32 by omega, dif_neg, not_false_eq_true, show d.val - 32 - 32 - 32 = d.val - 96 by omega]

theorem cos_eq : (V m c main_v0 : FVec Ideal S8192x128 .f32) = packed (a6 m c) (a6 m c) (a8 m c) (a8 m c) := by
  show StableHlo.after hostOps0 _ (Proc.devRef .tc main_v0) = _
  after_results
  rfl

theorem sin_eq : (V m c main_v3 : FVec Ideal S8192x128 .f32) = packed (Host.negf (a7 m c)) (a7 m c) (Host.negf (a9 m c)) (a9 m c) := by
  show StableHlo.after hostOps0 _ (Proc.devRef .tc main_v3) = _
  after_results
  rfl

theorem neg_at (p : FVec Ideal S8192x32 .f32) (r : Fin 8192) (i : Fin 32) : Host.negf p (ix2 r i) = -p (ix2 r i) := by
  pointwise []

variable (t : Fin cfg0.N)

theorem blk0 (r d : Fin 1024) : (iblk m c 0 t : FVec Ideal S1024x1024 .f32) (ix2 r d) = a0 m c (ix2 (tok t r) d) := by
  show iblk m c 0 t (ix2 r d) = _
  blk_simp [iblk]
  rw [V_main_arg0]
  refine congrArg (a0 m c) ?_
  blk_ext [idx0]

theorem blk6 (r : Fin 1024) (d : Fin 128) : (iblk m c 6 t : FVec Ideal S1024x128 .f32) (ix2 r d) = packed (a6 m c) (a6 m c) (a8 m c) (a8 m c) (ix2 (row t r) d) := by
  show iblk m c 6 t (ix2 r d) = _
  blk_simp [iblk]
  exact (congrFun (cos_eq m c) _).trans (congrArg (packed _ _ _ _) (by blk_ext [idx6]))

theorem blk7 (r : Fin 1024) (d : Fin 128) : (iblk m c 7 t : FVec Ideal S1024x128 .f32) (ix2 r d) = packed (Host.negf (a7 m c)) (a7 m c) (Host.negf (a9 m c)) (a9 m c) (ix2 (row t r) d) := by
  show iblk m c 7 t (ix2 r d) = _
  blk_simp [iblk]
  exact (congrFun (sin_eq m c) _).trans (congrArg (packed _ _ _ _) (by blk_ext [idx7]))

/-- The windows that hold a whole array. -/
theorem whole : (iblk m c 1 t : FVec Ideal S1x1024 .f32) = a1 m c ∧ (iblk m c 2 t : FVec Ideal S1024x3584 .f32) = a2 m c ∧ (iblk m c 3 t : FVec Ideal S1x128 .f32) = a3 m c
    ∧ (iblk m c 4 t : FVec Ideal S1x128 .f32) = a4 m c ∧ (iblk m c 5 t : FVec Ideal S2x512 .f32) = a5 m c := by
  refine ⟨funext fun y => ?_, funext fun y => ?_, funext fun y => ?_, funext fun y => ?_, funext fun y => ?_⟩
  · show iblk m c 1 t y = _
    blk_simp [iblk]
    rw [V_main_arg1]; exact congrArg (a1 m c) (by blk_ext [idx1])
  · show iblk m c 2 t y = _
    blk_simp [iblk]
    rw [V_main_arg2]; exact congrArg (a2 m c) (by blk_ext [idx2])
  · show iblk m c 3 t y = _
    blk_simp [iblk]
    rw [V_main_arg3]; exact congrArg (a3 m c) (by blk_ext [idx3])
  · show iblk m c 4 t y = _
    blk_simp [iblk]
    rw [V_main_arg4]; exact congrArg (a4 m c) (by blk_ext [idx4])
  · show iblk m c 5 t y = _
    blk_simp [iblk]
    rw [V_main_arg5]; exact congrArg (a5 m c) (by blk_ext [idx5])

/-- The reference's projection of the same arrays. -/
abbrev P := Ref4.proj (a0 m c) (a1 m c) (a2 m c)

theorem prj_eq (r : Fin 1024) : (prj (iblk m c 0 t) (iblk m c 1 t) (iblk m c 2 t) r : Fin 3584 → EReal) = fun j => P m c (ix2 (tok t r) j) := by
  funext j
  obtain ⟨h1, h2, _⟩ := whole m c t
  refine Eq.trans ?_ (Ref4.proj_at (a0 m c) (a1 m c) (a2 m c) (tok t r) j).symm
  rw [prj, h1, h2]
  simp only [blk0]

/-- A head turned by the tables packed is a head turned by the tables. -/
theorem head_eq (p : Fin 3584 → EReal) (g : Fin 128 → EReal) (r : Fin 1024) (o : ℕ) (ho : o ≤ 3456) (d : Fin 128) :
    headAt p g (fun d => (iblk m c 6 t : FVec Ideal S1024x128 .f32) (ix2 r d)) (fun d => (iblk m c 7 t : FVec Ideal S1024x128 .f32) (ix2 r d)) o ho d
      = Row.turned p g (fun i => a6 m c (ix2 (Ref4.pos (tok t r)) i)) (fun i => a7 m c (ix2 (Ref4.pos (tok t r)) i)) (fun i => a8 m c (ix2 (Ref4.pos (tok t r)) i)) (fun i => a9 m c (ix2 (Ref4.pos (tok t r)) i)) o ho d := by
  rw [Row.turned, ← Row.rot_eq, pos_tok]
  simp only [blk6, blk7, packed_at, neg_at]

theorem final_q : (dats m 0 c).arrAt 8 cfg0.N = Ref4.queries (P m c) (a3 m c) (a6 m c) (a7 m c) (a8 m c) (a9 m c) := by
  refine (dats m 0 c).arrAt_eq_of_covers 8 _ covers8 (hG := fun t _ y => ?_) (harr := Memref.isWhole_whole _)
  blk_simp
  rw [after0_8]
  have ht := t_lt t
  obtain ⟨r, j, rfl⟩ : ∃ (r : Fin 1024) (j : Fin 512), y = (ix2 r j : S1024x512.Idx) := ⟨y 0, y 1, funext fun a => by
    match a with | 0 | 1 => rfl⟩
  have hi : ((win0_8.blk t).view.emb (ix2 r j : S1024x512.Idx)) = (ix2 (tok t r) j : S16384x512.Idx) := by
    blk_ext [idx8]
  rw [hi]
  obtain ⟨_, _, h3, h4, h5⟩ := whole m c t
  refine (out8_at _ _ _ _ _ _ _ _ r j).trans ?_
  rw [Ref4.queries_at, head_eq, prj_eq, h3]
theorem final_k : (dats m 0 c).arrAt 9 cfg0.N = Ref4.keys (P m c) (a4 m c) (a6 m c) (a7 m c) (a8 m c) (a9 m c) := by
  refine (dats m 0 c).arrAt_eq_of_covers 9 _ covers9 (hG := fun t _ y => ?_) (harr := Memref.isWhole_whole _)
  blk_simp
  rw [after0_9]
  have ht := t_lt t
  obtain ⟨r, j, rfl⟩ : ∃ (r : Fin 1024) (j : Fin 256), y = (ix2 r j : S1024x256.Idx) := ⟨y 0, y 1, funext fun a => by
    match a with | 0 | 1 => rfl⟩
  have hi : ((win0_9.blk t).view.emb (ix2 r j : S1024x256.Idx)) = (ix2 (tok t r) j : S16384x256.Idx) := by
    blk_ext [idx9]
  rw [hi]
  obtain ⟨_, _, h3, h4, h5⟩ := whole m c t
  refine (out9_at _ _ _ _ _ _ _ _ r j).trans ?_
  rw [Ref4.keys_at, head_eq, prj_eq, h4]
theorem final_v : (dats m 0 c).arrAt 10 cfg0.N = Ref4.values (P m c) := by
  refine (dats m 0 c).arrAt_eq_of_covers 10 _ covers10 (hG := fun t _ y => ?_) (harr := Memref.isWhole_whole _)
  blk_simp
  rw [after0_10]
  have ht := t_lt t
  obtain ⟨r, j, rfl⟩ : ∃ (r : Fin 1024) (j : Fin 512), y = (ix2 r j : S1024x512.Idx) := ⟨y 0, y 1, funext fun a => by
    match a with | 0 | 1 => rfl⟩
  have hi : ((win0_10.blk t).view.emb (ix2 r j : S1024x512.Idx)) = (ix2 (tok t r) j : S16384x512.Idx) := by
    blk_ext [idx10]
  rw [hi]
  obtain ⟨_, _, h3, h4, h5⟩ := whole m c t
  refine (out10_at _ _ _ _ _ _ _ _ r j).trans ?_
  rw [Ref4.values_at, prj_eq]
theorem final_rq : (dats m 0 c).arrAt 11 cfg0.N = Ref4.byHead (Ref4.part0 (P m c)) := by
  refine (dats m 0 c).arrAt_eq_of_covers 11 _ covers11 (hG := fun t _ y => ?_) (harr := Memref.isWhole_whole _)
  blk_simp
  rw [after0_11]
  have ht := t_lt t
  obtain ⟨h, r, d, rfl⟩ : ∃ (h : Fin 4) (r : Fin 1024) (d : Fin 128), y = (ix3 h r d : S4x1024x128.Idx) := ⟨y 0, y 1, y 2, funext fun a => by
    match a with | 0 | 1 | 2 => rfl⟩
  have hi : ((win0_11.blk t).view.emb (ix3 h r d : S4x1024x128.Idx)) = (ix3 h (tok t r) d : S4x16384x128.Idx) := by
    blk_ext [idx11]
  rw [hi]
  obtain ⟨_, _, h3, h4, h5⟩ := whole m c t
  refine (out11_at _ _ _ _ _ _ _ _ r h d).trans ?_
  rw [Ref4.byHead_at, (Ref4.part_at _ _ _).1, prj_eq]
theorem final_gf : (dats m 0 c).arrAt 12 cfg0.N = Ref4.byHead (Ref4.logGate (Ref4.part1 (P m c)) (Ref4.bound0 (a5 m c))) := by
  refine (dats m 0 c).arrAt_eq_of_covers 12 _ covers12 (hG := fun t _ y => ?_) (harr := Memref.isWhole_whole _)
  blk_simp
  rw [after0_12]
  have ht := t_lt t
  obtain ⟨h, r, d, rfl⟩ : ∃ (h : Fin 4) (r : Fin 1024) (d : Fin 128), y = (ix3 h r d : S4x1024x128.Idx) := ⟨y 0, y 1, y 2, funext fun a => by
    match a with | 0 | 1 | 2 => rfl⟩
  have hi : ((win0_12.blk t).view.emb (ix3 h r d : S4x1024x128.Idx)) = (ix3 h (tok t r) d : S4x16384x128.Idx) := by
    blk_ext [idx12]
  rw [hi]
  obtain ⟨_, _, h3, h4, h5⟩ := whole m c t
  refine (out12_at _ _ _ _ _ _ _ _ r h d).trans ?_
  rw [Ref4.byHead_at, Ref4.logGate_at, (Ref4.part_at _ _ _).2.1, (Ref4.bound_at _ _).1, prj_eq, h5]
theorem final_gb : (dats m 0 c).arrAt 13 cfg0.N = Ref4.byHead (Ref4.logGate (Ref4.part2 (P m c)) (Ref4.bound1 (a5 m c))) := by
  refine (dats m 0 c).arrAt_eq_of_covers 13 _ covers13 (hG := fun t _ y => ?_) (harr := Memref.isWhole_whole _)
  blk_simp
  rw [after0_13]
  have ht := t_lt t
  obtain ⟨h, r, d, rfl⟩ : ∃ (h : Fin 4) (r : Fin 1024) (d : Fin 128), y = (ix3 h r d : S4x1024x128.Idx) := ⟨y 0, y 1, y 2, funext fun a => by
    match a with | 0 | 1 | 2 => rfl⟩
  have hi : ((win0_13.blk t).view.emb (ix3 h r d : S4x1024x128.Idx)) = (ix3 h (tok t r) d : S4x16384x128.Idx) := by
    blk_ext [idx13]
  rw [hi]
  obtain ⟨_, _, h3, h4, h5⟩ := whole m c t
  refine (out13_at _ _ _ _ _ _ _ _ r h d).trans ?_
  rw [Ref4.byHead_at, Ref4.logGate_at, (Ref4.part_at _ _ _).2.2.1, (Ref4.bound_at _ _).2, prj_eq, h5]
theorem final_ri : (dats m 0 c).arrAt 14 cfg0.N = Ref4.byHead (Ref4.part3 (P m c)) := by
  refine (dats m 0 c).arrAt_eq_of_covers 14 _ covers14 (hG := fun t _ y => ?_) (harr := Memref.isWhole_whole _)
  blk_simp
  rw [after0_14]
  have ht := t_lt t
  obtain ⟨h, r, d, rfl⟩ : ∃ (h : Fin 4) (r : Fin 1024) (d : Fin 128), y = (ix3 h r d : S4x1024x128.Idx) := ⟨y 0, y 1, y 2, funext fun a => by
    match a with | 0 | 1 | 2 => rfl⟩
  have hi : ((win0_14.blk t).view.emb (ix3 h r d : S4x1024x128.Idx)) = (ix3 h (tok t r) d : S4x16384x128.Idx) := by
    blk_ext [idx14]
  rw [hi]
  obtain ⟨_, _, h3, h4, h5⟩ := whole m c t
  refine (out14_at _ _ _ _ _ _ _ _ r h d).trans ?_
  rw [Ref4.byHead_at, (Ref4.part_at _ _ _).2.2.2.1, prj_eq]
theorem final_rg : (dats m 0 c).arrAt 15 cfg0.N = Ref4.part4 (P m c) := by
  refine (dats m 0 c).arrAt_eq_of_covers 15 _ covers15 (hG := fun t _ y => ?_) (harr := Memref.isWhole_whole _)
  blk_simp
  rw [after0_15]
  have ht := t_lt t
  obtain ⟨r, j, rfl⟩ : ∃ (r : Fin 1024) (j : Fin 512), y = (ix2 r j : S1024x512.Idx) := ⟨y 0, y 1, funext fun a => by
    match a with | 0 | 1 => rfl⟩
  have hi : ((win0_15.blk t).view.emb (ix2 r j : S1024x512.Idx)) = (ix2 (tok t r) j : S16384x512.Idx) := by
    blk_ext [idx15]
  rw [hi]
  obtain ⟨_, _, h3, h4, h5⟩ := whole m c t
  refine (out15_at _ _ _ _ _ _ _ _ r j).trans ?_
  rw [(Ref4.part_at _ _ _).2.2.2.2, prj_eq]
end Attn.K4
-- ==== Proof.Algebraic4.lean ====
/- The claims of the mixer's projections. -/
module

public import proofs.«01_k».proof.Defs
public import proofs.«01_k».proof.Proof.Value4
public import proofs.«01_k».proof.Proof.Gen.Kernel4.Frame
public import proofs.«01_k».proof.Proof.Gen.Reference4Ideal.Run

@[expose] public section

namespace Attn.K4

open Idealize.ShloMosaic Idealize.ShloMosaic.TcCoe Idealize.SL.Sem

set_option maxRecDepth 16384

theorem frame_kernel : Cert.quiescent_Kernel4 := fun m g _ => Cert.Kernel4.Gen.frame m g

theorem frame_ideal : Cert.quiescent_Kernel4Ideal := fun m g _ => Cert.Kernel4Ideal.Gen.frame m g

theorem frame_reference : Cert.quiescent_Reference4Ideal := fun m g _ =>
  (θ_run (Cert.Reference4Ideal.defs (F := Ideal)) _ _).mono (fun _ h => ⟨fun c => (h c).2.2.2.2.2.2.2.2, sem_eq_zero_of_no_sems (by decide) _⟩)
    (Cert.Reference4Ideal.Value.run (F := Ideal) m g)

theorem named : Cert.preserves_Kernel4_Kernel4Ideal :=
  IdealRules.named_const.statement Cert.Kernel4Ideal.κ "nlog2e" .f32 0xBFB8AA3B#32 ((-((Real.log 2)⁻¹) : ℝ) : EReal) rfl

theorem algebraic : Cert.algebraic_Kernel4Ideal_Reference4Ideal := fun m g m' g' _ hm => by
  refine ⟨fun c => Ref4.queries (P m c) (a3 m c) (a6 m c) (a7 m c) (a8 m c) (a9 m c), fun c => Ref4.keys (P m c) (a4 m c) (a6 m c) (a7 m c) (a8 m c) (a9 m c),
    fun c => Ref4.values (P m c), fun c => Ref4.byHead (Ref4.part0 (P m c)), fun c => Ref4.byHead (Ref4.logGate (Ref4.part1 (P m c)) (Ref4.bound0 (a5 m c))),
    fun c => Ref4.byHead (Ref4.logGate (Ref4.part2 (P m c)) (Ref4.bound1 (a5 m c))), fun c => Ref4.byHead (Ref4.part3 (P m c)), fun c => Ref4.part4 (P m c), ?_, ?_⟩
  · refine (θ_run (Cert.Kernel4Ideal.defs (F := Ideal)) _ _).mono (fun _ h c => ?_) (Cert.Kernel4Ideal.Value.run_blocks (F := Ideal) m g)
    obtain ⟨h0, h1, h2, h3, h4, h5, h6, h7, h8⟩ := h c
    exact ⟨h0.trans (final_q m c), h1.trans (final_k m c), h2.trans (final_v m c), h3.trans (final_rq m c), h4.trans (final_gf m c), h5.trans (final_gb m c), h6.trans (final_ri m c), h7.trans (final_rg m c), h8⟩
  · refine (θ_run (Cert.Reference4Ideal.defs (F := Ideal)) _ _).mono (fun _ h c => ?_) (Cert.Reference4Ideal.Value.run (F := Ideal) m' g')
    obtain ⟨h0, h1, h2, h3, h4, h5, h6, h7, h8⟩ := h c
    obtain ⟨e0, e1, e2, e3, e4, e5, e6, e7, e8, e9⟩ := hm c
    have hP : Cert.Reference4Ideal.Value.res_main_v14 (StableHlo.launchContents m' c) = P m c := by
      show Ref4.proj (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = _
      rw [e0, e1, e2]
    refine ⟨h0.trans ?_, h1.trans ?_, h2.trans ?_, h3.trans ?_, h4.trans ?_, h5.trans ?_, h6.trans ?_, h7.trans ?_, h8⟩
    · show Ref4.queries (Cert.Reference4Ideal.Value.res_main_v14 (StableHlo.launchContents m' c)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) = _
      rw [hP, e3, e6, e7, e8, e9]
    · show Ref4.keys (Cert.Reference4Ideal.Value.res_main_v14 (StableHlo.launchContents m' c)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) = _
      rw [hP, e4, e6, e7, e8, e9]
    · show Ref4.values (Cert.Reference4Ideal.Value.res_main_v14 (StableHlo.launchContents m' c)) = _
      rw [hP]
    · show Ref4.byHead (Ref4.part0 (Cert.Reference4Ideal.Value.res_main_v14 (StableHlo.launchContents m' c))) = _
      rw [hP]
    · show Ref4.byHead (Ref4.logGate (Ref4.part1 (Cert.Reference4Ideal.Value.res_main_v14 (StableHlo.launchContents m' c))) (Ref4.bound0 (m' ((c.tc : Thread Cert.Reference4Ideal.nD Cert.Reference4Ideal.τ).loc Cert.Reference4Ideal.main_arg5)))) = _
      rw [hP, e5]
    · show Ref4.byHead (Ref4.logGate (Ref4.part2 (Cert.Reference4Ideal.Value.res_main_v14 (StableHlo.launchContents m' c))) (Ref4.bound1 (m' ((c.tc : Thread Cert.Reference4Ideal.nD Cert.Reference4Ideal.τ).loc Cert.Reference4Ideal.main_arg5)))) = _
      rw [hP, e5]
    · show Ref4.byHead (Ref4.part3 (Cert.Reference4Ideal.Value.res_main_v14 (StableHlo.launchContents m' c))) = _
      rw [hP]
    · show Ref4.part4 (Cert.Reference4Ideal.Value.res_main_v14 (StableHlo.launchContents m' c)) = _
      rw [hP]

end Attn.K4
-- ==== Proof.lean ====
/- The certificate: every claim, from the modules that prove them. -/
module

public import proofs.«01_k».proof.Defs
public import proofs.«01_k».proof.Proof.Frames
public import proofs.«01_k».proof.Proof.Algebraic
public import proofs.«01_k».proof.Proof.Algebraic2
public import proofs.«01_k».proof.Proof.Algebraic3
public import proofs.«01_k».proof.Proof.Algebraic4
public import proofs.«01_k».proof.Proof.Gen.ReferenceIdeal.Run
public import proofs.«01_k».proof.Proof.Gen.Kernel2Ideal.Value
public import proofs.«01_k».proof.Proof.Gen.Kernel2.Frame
public import proofs.«01_k».proof.Proof.Gen.Reference2Ideal.Run
public import proofs.«01_k».proof.Proof.Gen.Kernel3Ideal.Value
public import proofs.«01_k».proof.Proof.Gen.Kernel3.Frame
public import proofs.«01_k».proof.Proof.Gen.Reference3Ideal.Run
public import proofs.«01_k».proof.Proof.Gen.Kernel4Ideal.Value
public import proofs.«01_k».proof.Proof.Gen.Kernel4.Frame
public import proofs.«01_k».proof.Proof.Gen.Reference4Ideal.Run

@[expose] public section

theorem Cert.Proof.claim : Cert.Claim := by
  exact ⟨inferInstance, inferInstance, inferInstance, inferInstance, inferInstance, inferInstance, inferInstance, inferInstance, inferInstance, inferInstance, inferInstance, inferInstance, inferInstance,
    Attn.frame_kernel, Attn.frame_ideal, Attn.frame_ideal_pre, Attn.frame_reference, Attn.frame_reference_pre,
    Attn.K2.frame_kernel, Attn.K2.frame_ideal, Attn.K2.frame_reference,
    Attn.K3.frame_kernel, Attn.K3.frame_ideal, Attn.K3.frame_reference,
    Attn.K4.frame_kernel, Attn.K4.frame_ideal, Attn.K4.frame_reference,
    Attn.named, Attn.algebraic, Attn.K2.named, Attn.K2.algebraic, Attn.K3.named, Attn.K3.algebraic, Attn.K4.named, Attn.K4.algebraic⟩
